-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  IdealRules.named_const.Statement Cert.KernelIdeal.κ "qk_scale" .f32 0x3E38AA3B#32 (((8 * (Real.log 2))⁻¹ : ℝ) : EReal)
  ∧ IdealRules.named_const.Statement Cert.KernelIdeal.κ "clamp" .f32 0x42C80000#32 ⊤
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "dead" .f32 0xC3200000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v24_0)) (v1 : (c : Dev Cert.Kernel2Ideal.nD) → Buf (Elt Ideal) ((c.tc : Thread Cert.Kernel2Ideal.nD Cert.Kernel2Ideal.τ).loc Cert.Kernel2Ideal.main_v24_1)) (v2 : (c : Dev Cert.Kernel2Ideal.nD) → Buf (Elt Ideal) ((c.tc : Thread Cert.Kernel2Ideal.nD Cert.Kernel2Ideal.τ).loc Cert.Kernel2Ideal.main_v24_2)) (v3 : (c : Dev Cert.Kernel2Ideal.nD) → Buf (Elt Ideal) ((c.tc : Thread Cert.Kernel2Ideal.nD Cert.Kernel2Ideal.τ).loc Cert.Kernel2Ideal.main_v24_3)) (v4 : (c : Dev Cert.Kernel2Ideal.nD) → Buf (Elt Ideal) ((c.tc : Thread Cert.Kernel2Ideal.nD Cert.Kernel2Ideal.τ).loc Cert.Kernel2Ideal.main_v24_4)) (v5 : (c : Dev Cert.Kernel2Ideal.nD) → Buf (Elt Ideal) ((c.tc : Thread Cert.Kernel2Ideal.nD Cert.Kernel2Ideal.τ).loc Cert.Kernel2Ideal.main_v24_5)) (v6 : (c : Dev Cert.Kernel2Ideal.nD) → Buf (Elt Ideal) ((c.tc : Thread Cert.Kernel2Ideal.nD Cert.Kernel2Ideal.τ).loc Cert.Kernel2Ideal.main_v24_6)) (v7 : (c : Dev Cert.Kernel2Ideal.nD) → Buf (Elt Ideal) ((c.tc : Thread Cert.Kernel2Ideal.nD Cert.Kernel2Ideal.τ).loc Cert.Kernel2Ideal.main_v24_7)) (v8 : (c : Dev Cert.Kernel2Ideal.nD) → Buf (Elt Ideal) ((c.tc : Thread Cert.Kernel2Ideal.nD Cert.Kernel2Ideal.τ).loc Cert.Kernel2Ideal.main_v24_8)) (v9 : (c : Dev Cert.Kernel2Ideal.nD) → Buf (Elt Ideal) ((c.tc : Thread Cert.Kernel2Ideal.nD Cert.Kernel2Ideal.τ).loc Cert.Kernel2Ideal.main_v24_9)) (v10 : (c : Dev Cert.Kernel2Ideal.nD) → Buf (Elt Ideal) ((c.tc : Thread Cert.Kernel2Ideal.nD Cert.Kernel2Ideal.τ).loc Cert.Kernel2Ideal.main_v24_10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24_0) = v0 c
          ∧ r.2.mem ((c.tc : Thread Cert.Kernel2Ideal.nD Cert.Kernel2Ideal.τ).loc Cert.Kernel2Ideal.main_v24_1) = v1 c
          ∧ r.2.mem ((c.tc : Thread Cert.Kernel2Ideal.nD Cert.Kernel2Ideal.τ).loc Cert.Kernel2Ideal.main_v24_2) = v2 c
          ∧ r.2.mem ((c.tc : Thread Cert.Kernel2Ideal.nD Cert.Kernel2Ideal.τ).loc Cert.Kernel2Ideal.main_v24_3) = v3 c
          ∧ r.2.mem ((c.tc : Thread Cert.Kernel2Ideal.nD Cert.Kernel2Ideal.τ).loc Cert.Kernel2Ideal.main_v24_4) = v4 c
          ∧ r.2.mem ((c.tc : Thread Cert.Kernel2Ideal.nD Cert.Kernel2Ideal.τ).loc Cert.Kernel2Ideal.main_v24_5) = v5 c
          ∧ r.2.mem ((c.tc : Thread Cert.Kernel2Ideal.nD Cert.Kernel2Ideal.τ).loc Cert.Kernel2Ideal.main_v24_6) = v6 c
          ∧ r.2.mem ((c.tc : Thread Cert.Kernel2Ideal.nD Cert.Kernel2Ideal.τ).loc Cert.Kernel2Ideal.main_v24_7) = v7 c
          ∧ r.2.mem ((c.tc : Thread Cert.Kernel2Ideal.nD Cert.Kernel2Ideal.τ).loc Cert.Kernel2Ideal.main_v24_8) = v8 c
          ∧ r.2.mem ((c.tc : Thread Cert.Kernel2Ideal.nD Cert.Kernel2Ideal.τ).loc Cert.Kernel2Ideal.main_v24_9) = v9 c
          ∧ r.2.mem ((c.tc : Thread Cert.Kernel2Ideal.nD Cert.Kernel2Ideal.τ).loc Cert.Kernel2Ideal.main_v24_10) = v10 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_v19) = v2 c
          ∧ r.2.mem ((c.tc : Thread Cert.Reference2Ideal.nD Cert.Reference2Ideal.τ).loc Cert.Reference2Ideal.main_v21) = v3 c
          ∧ r.2.mem ((c.tc : Thread Cert.Reference2Ideal.nD Cert.Reference2Ideal.τ).loc Cert.Reference2Ideal.main_v22) = v4 c
          ∧ r.2.mem ((c.tc : Thread Cert.Reference2Ideal.nD Cert.Reference2Ideal.τ).loc Cert.Reference2Ideal.main_v23) = v5 c
          ∧ r.2.mem ((c.tc : Thread Cert.Reference2Ideal.nD Cert.Reference2Ideal.τ).loc Cert.Reference2Ideal.main_v24) = v6 c
          ∧ r.2.mem ((c.tc : Thread Cert.Reference2Ideal.nD Cert.Reference2Ideal.τ).loc Cert.Reference2Ideal.main_v25) = v7 c
          ∧ r.2.mem ((c.tc : Thread Cert.Reference2Ideal.nD Cert.Reference2Ideal.τ).loc Cert.Reference2Ideal.main_v26) = v8 c
          ∧ r.2.mem ((c.tc : Thread Cert.Reference2Ideal.nD Cert.Reference2Ideal.τ).loc Cert.Reference2Ideal.main_v27) = v9 c
          ∧ r.2.mem ((c.tc : Thread Cert.Reference2Ideal.nD Cert.Reference2Ideal.τ).loc Cert.Reference2Ideal.main_v28) = v10 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v8_2)) (v3 : (c : Dev Cert.Kernel4Ideal.nD) → Buf (Elt Ideal) ((c.tc : Thread Cert.Kernel4Ideal.nD Cert.Kernel4Ideal.τ).loc Cert.Kernel4Ideal.main_v8_3)) (v4 : (c : Dev Cert.Kernel4Ideal.nD) → Buf (Elt Ideal) ((c.tc : Thread Cert.Kernel4Ideal.nD Cert.Kernel4Ideal.τ).loc Cert.Kernel4Ideal.main_v8_4)) (v5 : (c : Dev Cert.Kernel4Ideal.nD) → Buf (Elt Ideal) ((c.tc : Thread Cert.Kernel4Ideal.nD Cert.Kernel4Ideal.τ).loc Cert.Kernel4Ideal.main_v8_5)) (v6 : (c : Dev Cert.Kernel4Ideal.nD) → Buf (Elt Ideal) ((c.tc : Thread Cert.Kernel4Ideal.nD Cert.Kernel4Ideal.τ).loc Cert.Kernel4Ideal.main_v8_6)) (v7 : (c : Dev Cert.Kernel4Ideal.nD) → Buf (Elt Ideal) ((c.tc : Thread Cert.Kernel4Ideal.nD Cert.Kernel4Ideal.τ).loc Cert.Kernel4Ideal.main_v8_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_v8_3) = v3 c
          ∧ r.2.mem ((c.tc : Thread Cert.Kernel4Ideal.nD Cert.Kernel4Ideal.τ).loc Cert.Kernel4Ideal.main_v8_4) = v4 c
          ∧ r.2.mem ((c.tc : Thread Cert.Kernel4Ideal.nD Cert.Kernel4Ideal.τ).loc Cert.Kernel4Ideal.main_v8_5) = v5 c
          ∧ r.2.mem ((c.tc : Thread Cert.Kernel4Ideal.nD Cert.Kernel4Ideal.τ).loc Cert.Kernel4Ideal.main_v8_6) = v6 c
          ∧ r.2.mem ((c.tc : Thread Cert.Kernel4Ideal.nD Cert.Kernel4Ideal.τ).loc Cert.Kernel4Ideal.main_v8_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_v11) = v1 c
          ∧ r.2.mem ((c.tc : Thread Cert.Reference4Ideal.nD Cert.Reference4Ideal.τ).loc Cert.Reference4Ideal.main_v12) = v2 c
          ∧ r.2.mem ((c.tc : Thread Cert.Reference4Ideal.nD Cert.Reference4Ideal.τ).loc Cert.Reference4Ideal.main_v13) = v3 c
          ∧ r.2.mem ((c.tc : Thread Cert.Reference4Ideal.nD Cert.Reference4Ideal.τ).loc Cert.Reference4Ideal.main_v14) = v4 c
          ∧ r.2.mem ((c.tc : Thread Cert.Reference4Ideal.nD Cert.Reference4Ideal.τ).loc Cert.Reference4Ideal.main_v15) = v5 c
          ∧ r.2.mem ((c.tc : Thread Cert.Reference4Ideal.nD Cert.Reference4Ideal.τ).loc Cert.Reference4Ideal.main_v16) = v6 c
          ∧ r.2.mem ((c.tc : Thread Cert.Reference4Ideal.nD Cert.Reference4Ideal.τ).loc Cert.Reference4Ideal.main_v17) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v11)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
-- ==== Pre_finite.lean ====
abbrev S4x4096x8x64 : Shape := ⟨4, ![4, 4096, 8, 64]⟩
abbrev S_ : Shape := ⟨0, ![]⟩

class Facts : Prop where
  bcast_S_S4x4096x8x64 : S_.BroadcastsInDim S4x4096x8x64 (![] : Fin 0 → Fin S4x4096x8x64.rank)
  reducesTo_S4x4096x8x64_S_d0_1_2_3 : S4x4096x8x64.ReducesTo [0, 1, 2, 3] S_
  h_S_ : 0 < S_.numel

variable [Facts]

def fn {F : FTy → Type} [FloatOps F] (main_arg0 : FVec F S4x4096x8x64 .f32) (main_arg1 : FVec F S4x4096x8x64 .f32) (main_arg2 : FVec F S4x4096x8x64 .f32) : IVec S_ 1 :=
  let main_v0 : FVec F S4x4096x8x64 .f32 := Host.absf main_arg0
  let main_cst : FVec F S_ .f32 := constant S_ .f32 0x7F800000#32
  let main_v1 : FVec F S4x4096x8x64 .f32 := broadcastInDim S4x4096x8x64 ![] bcast_S_S4x4096x8x64 main_cst
  let main_v2 : IVec S4x4096x8x64 1 := cmpf .olt main_v0 main_v1
  let main_c : IVec S_ 1 := constantI S_ 1 1#1
  let main_v3 : IVec S_ 1 := (fun x v => Host.reduce IntOp.andi x v reducesTo_S4x4096x8x64_S_d0_1_2_3 h_S_) main_v2 main_c
  let main_v4 : FVec F S4x4096x8x64 .f32 := Host.absf main_arg1
  let main_cst_0 : FVec F S_ .f32 := constant S_ .f32 0x7F800000#32
  let main_v5 : FVec F S4x4096x8x64 .f32 := broadcastInDim S4x4096x8x64 ![] bcast_S_S4x4096x8x64 main_cst_0
  let main_v6 : IVec S4x4096x8x64 1 := cmpf .olt main_v4 main_v5
  let main_c_1 : IVec S_ 1 := constantI S_ 1 1#1
  let main_v7 : IVec S_ 1 := (fun x v => Host.reduce IntOp.andi x v reducesTo_S4x4096x8x64_S_d0_1_2_3 h_S_) main_v6 main_c_1
  let main_v8 : IVec S_ 1 := andi main_v3 main_v7
  main_v8
-- ==== Pre_finite2.lean ====
abbrev S4x4096x1024 : Shape := ⟨3, ![4, 4096, 1024]⟩
abbrev S1x1024x4096 : Shape := ⟨3, ![1, 1024, 4096]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1x1024x4096 : S_.BroadcastsInDim S1x1024x4096 (![] : Fin 0 → Fin S1x1024x4096.rank)
  reducesTo_S1x1024x4096_S_d0_1_2 : S1x1024x4096.ReducesTo [0, 1, 2] S_

variable [Facts]

def fn {F : FTy → Type} [FloatOps F] (main_arg0 : FVec F S4x4096x1024 .f32) (main_arg1 : FVec F S1x1024x4096 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1x1024x4096 .f32 := Host.absf main_arg1
  let main_cst_0 : FVec F S_ .f32 := constant S_ .f32 0x7F800000#32
  let main_v5 : FVec F S1x1024x4096 .f32 := broadcastInDim S1x1024x4096 ![] bcast_S_S1x1024x4096 main_cst_0
  let main_v6 : IVec S1x1024x4096 1 := cmpf .olt main_v4 main_v5
  let main_c_1 : IVec S_ 1 := constantI S_ 1 1#1
  let main_v7 : IVec S_ 1 := (fun x v => Host.reduce IntOp.andi x v reducesTo_S1x1024x4096_S_d0_1_2 h_S_) main_v6 main_c_1
  let main_v8 : IVec S_ 1 := andi main_v3 main_v7
  main_v8
-- ==== Pre_finite4.lean ====
abbrev S32x4x1024 : Shape := ⟨3, ![32, 4, 1024]⟩
abbrev S1x1024x4096 : Shape := ⟨3, ![1, 1024, 4096]⟩
abbrev S_ : Shape := ⟨0, ![]⟩

class Facts : Prop where
  bcast_S_S32x4x1024 : S_.BroadcastsInDim S32x4x1024 (![] : Fin 0 → Fin S32x4x1024.rank)
  reducesTo_S32x4x1024_S_d0_1_2 : S32x4x1024.ReducesTo [0, 1, 2] S_
  h_S_ : 0 < S_.numel
  bcast_S_S1x1024x4096 : S_.BroadcastsInDim S1x1024x4096 (![] : Fin 0 → Fin S1x1024x4096.rank)
  reducesTo_S1x1024x4096_S_d0_1_2 : S1x1024x4096.ReducesTo [0, 1, 2] S_

variable [Facts]

def fn {F : FTy → Type} [FloatOps F] (main_arg0 : FVec F S32x4x1024 .f32) (main_arg1 : FVec F S1x1024x4096 .f32) : IVec S_ 1 :=
  let main_v0 : FVec F S32x4x1024 .f32 := Host.absf main_arg0
  let main_cst : FVec F S_ .f32 := constant S_ .f32 0x7F800000#32
  let main_v1 : FVec F S32x4x1024 .f32 := broadcastInDim S32x4x1024 ![] bcast_S_S32x4x1024 main_cst
  let main_v2 : IVec S32x4x1024 1 := cmpf .olt main_v0 main_v1
  let main_c : IVec S_ 1 := constantI S_ 1 1#1
  let main_v3 : IVec S_ 1 := (fun x v => Host.reduce IntOp.andi x v reducesTo_S32x4x1024_S_d0_1_2 h_S_) main_v2 main_c
  let main_v4 : FVec F S1x1024x4096 .f32 := Host.absf main_arg1
  let main_cst_0 : FVec F S_ .f32 := constant S_ .f32 0x7F800000#32
  let main_v5 : FVec F S1x1024x4096 .f32 := broadcastInDim S1x1024x4096 ![] bcast_S_S1x1024x4096 main_cst_0
  let main_v6 : IVec S1x1024x4096 1 := cmpf .olt main_v4 main_v5
  let main_c_1 : IVec S_ 1 := constantI S_ 1 1#1
  let main_v7 : IVec S_ 1 := (fun x v => Host.reduce IntOp.andi x v reducesTo_S1x1024x4096_S_d0_1_2 h_S_) main_v6 main_c_1
  let main_v8 : IVec S_ 1 := andi main_v3 main_v7
  main_v8
-- ==== Kernel.lean ====
abbrev S4x4096x8x64 : Shape := ⟨4, ![4, 4096, 8, 64]⟩
abbrev S4x4096x512 : Shape := ⟨3, ![4, 4096, 512]⟩
abbrev S4x512x4096 : Shape := ⟨3, ![4, 512, 4096]⟩
abbrev S1x128x4096 : Shape := ⟨3, ![1, 128, 4096]⟩
abbrev S1x4096x128 : Shape := ⟨3, ![1, 4096, 128]⟩
abbrev S144x256 : Shape := ⟨2, ![144, 256]⟩
abbrev S128x4096 : Shape := ⟨2, ![128, 4096]⟩
abbrev S2x1x512 : Shape := ⟨3, ![2, 1, 512]⟩
abbrev S2x128x512 : Shape := ⟨3, ![2, 128, 512]⟩
abbrev S1x128x256 : Shape := ⟨3, ![1, 128, 256]⟩
abbrev S128x256 : Shape := ⟨2, ![128, 256]⟩
abbrev S128x512 : Shape := ⟨2, ![128, 512]⟩
abbrev S1x512 : Shape := ⟨2, ![1, 512]⟩
abbrev S1x1x512 : Shape := ⟨3, ![1, 1, 512]⟩
abbrev S1x128x512 : Shape := ⟨3, ![1, 128, 512]⟩
abbrev S1x256x128 : Shape := ⟨3, ![1, 256, 128]⟩
abbrev S256x128 : Shape := ⟨2, ![256, 128]⟩
abbrev S256x512 : Shape := ⟨2, ![256, 512]⟩
abbrev S144x512 : Shape := ⟨2, ![144, 512]⟩
abbrev S1 : Shape := ⟨1, ![1]⟩
abbrev S1x1x1 : Shape := ⟨3, ![1, 1, 1]⟩

abbrev nBuf : Space → Nat
  | .hbm => 10
  | .vmem => 12
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S4x4096x512, .f32⟩
  | .hbm, ⟨4, _⟩ => ⟨S4x512x4096, .f32⟩
  | .hbm, ⟨5, _⟩ => ⟨S4x4096x512, .f32⟩
  | .hbm, ⟨6, _⟩ => ⟨S4x4096x512, .bf16⟩
  | .hbm, ⟨7, _⟩ => ⟨S4x4096x512, .f32⟩
  | .hbm, ⟨8, _⟩ => ⟨S4x512x4096, .f32⟩
  | .hbm, ⟨9, _⟩ => ⟨S4x4096x512, .bf16⟩
  | .local _ .vmem, ⟨0, _⟩ => ⟨S1x128x4096, .f32⟩
  | .local _ .vmem, ⟨1, _⟩ => ⟨S1x128x4096, .f32⟩
  | .local _ .vmem, ⟨2, _⟩ => ⟨S1x4096x128, .bf16⟩
  | .local _ .vmem, ⟨3, _⟩ => ⟨S1x4096x128, .bf16⟩
  | .local _ .vmem, ⟨4, _⟩ => ⟨S1x128x4096, .f32⟩
  | .local _ .vmem, ⟨5, _⟩ => ⟨S1x128x4096, .f32⟩
  | .local _ .vmem, ⟨6, _⟩ => ⟨S1x4096x128, .bf16⟩
  | .local _ .vmem, ⟨7, _⟩ => ⟨S1x4096x128, .bf16⟩
  | .local _ .vmem, ⟨8, _⟩ => ⟨S144x256, .bf16⟩
  | .local _ .vmem, ⟨9, _⟩ => ⟨S128x4096, .bf16⟩
  | .local _ .vmem, ⟨10, _⟩ => ⟨S2x1x512, .f32⟩
  | .local _ .vmem, ⟨11, _⟩ => ⟨S2x128x512, .f32⟩
  | _, _ => ⟨S4x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_mult1 : BitVec 32 :=
  let c0_i32_6 : BitVec 32 := 0#32
  c0_i32_6
def k0_mult2 : BitVec 32 :=
  let c0_i32_19 : BitVec 32 := 0#32
  c0_i32_19
def k0_mult3 : BitVec 32 :=
  let c0_i32_41 : BitVec 32 := 0#32
  c0_i32_41
def k0_mult4 : BitVec 32 :=
  let c0_i32_51 : BitVec 32 := 0#32
  c0_i32_51
def k0_mult5 : BitVec 32 :=
  let c256_i32 : BitVec 32 := 256#32
  c256_i32
def k0_mult6 : BitVec 32 :=
  let c256_i32_68 : BitVec 32 := 256#32
  c256_i32_68
def k0_mult7 : BitVec 32 :=
  let c0_i32_78 : BitVec 32 := 0#32
  c0_i32_78
def k0_mult8 : BitVec 32 :=
  let c256_i32_102 : BitVec 32 := 256#32
  c256_i32_102
def k0_mult9 : BitVec 32 :=
  let c0_i32_117 : BitVec 32 := 0#32
  c0_i32_117
def k0_mult10 (arg10 : BitVec 32) : BitVec 32 :=
  let c1_i32_139 : BitVec 32 := 1#32
  let v300 : BitVec 32 := Scalar.subi c1_i32_139 arg10
  let c256_i32_140 : BitVec 32 := 256#32
  let v301 : BitVec 32 := Scalar.muli v300 c256_i32_140
  v301

def k0_off1 (arg10 : BitVec 32) : Fin 3 → Nat :=
  let c0_141 : Index := 0#32
  let c1_i32_139 : BitVec 32 := 1#32
  let v300 : BitVec 32 := Scalar.subi c1_i32_139 arg10
  let c256_i32_140 : BitVec 32 := 256#32
  let v301 : BitVec 32 := Scalar.muli v300 c256_i32_140
  let v302 : BitVec 32 := v301
  let v303 : Index := Scalar.indexCast v302
  let c0_142 : Index := 0#32
  ![0, v303.toNat, 0]
def k0_mult11 (arg10 : BitVec 32) : BitVec 32 :=
  let c1_i32_148 : BitVec 32 := 1#32
  let c1_i32_147 : BitVec 32 := 1#32
  let v326 : BitVec 32 := Scalar.addi arg10 c1_i32_147
  let v327 : BitVec 32 := Scalar.subi c1_i32_148 v326
  let c256_i32_149 : BitVec 32 := 256#32
  let v328 : BitVec 32 := Scalar.muli v327 c256_i32_149
  v328
def k0_off2 (arg10 : BitVec 32) : Fin 3 → Nat :=
  let c0_150 : Index := 0#32
  let c1_i32_148 : BitVec 32 := 1#32
  let c1_i32_147 : BitVec 32 := 1#32
  let v326 : BitVec 32 := Scalar.addi arg10 c1_i32_147
  let v327 : BitVec 32 := Scalar.subi c1_i32_148 v326
  let c256_i32_149 : BitVec 32 := 256#32
  let v328 : BitVec 32 := Scalar.muli v327 c256_i32_149
  let v329 : BitVec 32 := v328
  let v330 : Index := Scalar.indexCast v329
  let c0_151 : Index := 0#32
  ![0, v330.toNat, 0]
def k0_mult12 (arg10 : BitVec 32) : BitVec 32 :=
  let c1_i32_173 : BitVec 32 := 1#32
  let v384 : BitVec 32 := Scalar.subi c1_i32_173 arg10
  let c256_i32_174 : BitVec 32 := 256#32
  let v385 : BitVec 32 := Scalar.muli v384 c256_i32_174
  v385
def k0_off3 (arg10 : BitVec 32) : Fin 2 → Nat :=
  let c0_175 : Index := 0#32
  let c1_i32_173 : BitVec 32 := 1#32
  let v384 : BitVec 32 := Scalar.subi c1_i32_173 arg10
  let c256_i32_174 : BitVec 32 := 256#32
  let v385 : BitVec 32 := Scalar.muli v384 c256_i32_174
  let v386 : BitVec 32 := v385
  let v387 : Index := Scalar.indexCast v386
  ![0, v387.toNat]
def k0_mult13 (arg10 : BitVec 32) : BitVec 32 :=
  let c1_i32_190 : BitVec 32 := 1#32
  let c1_i32_180 : BitVec 32 := 1#32
  let v394 : BitVec 32 := Scalar.addi arg10 c1_i32_180
  let v420 : BitVec 32 := Scalar.subi c1_i32_190 v394
  let c256_i32_191 : BitVec 32 := 256#32
  let v421 : BitVec 32 := Scalar.muli v420 c256_i32_191
  v421
def k0_off4 (arg10 : BitVec 32) : Fin 2 → Nat :=
  let c0_192 : Index := 0#32
  let c1_i32_190 : BitVec 32 := 1#32
  let c1_i32_180 : BitVec 32 := 1#32
  let v394 : BitVec 32 := Scalar.addi arg10 c1_i32_180
  let v420 : BitVec 32 := Scalar.subi c1_i32_190 v394
  let c256_i32_191 : BitVec 32 := 256#32
  let v421 : BitVec 32 := Scalar.muli v420 c256_i32_191
  let v422 : BitVec 32 := v421
  let v423 : Index := Scalar.indexCast v422
  ![0, v423.toNat]

def k0_chk1 (arg10 : BitVec 32) : Prop :=
  (256 ∣ (k0_mult10 arg10).toNat) ∧
  (∀ a, (k0_off1 arg10) a + S1x256x128.size a ≤ S1x4096x128.size a) ∧
  (256 ∣ (k0_mult11 arg10).toNat) ∧
  (∀ a, (k0_off2 arg10) a + S1x256x128.size a ≤ S1x4096x128.size a) ∧
  (256 ∣ (k0_mult12 arg10).toNat) ∧
  (∀ a, (k0_off3 arg10) a + S128x256.size a ≤ S128x4096.size a) ∧
  (256 ∣ (k0_mult13 arg10).toNat) ∧
  (∀ a, (k0_off4 arg10) a + S128x256.size a ≤ S128x4096.size a)
theorem k0_mult10_dvd : ∀ (arg10 : BitVec 32) (k0_hw1 : k0_chk1 arg10), 256 ∣ (k0_mult10 arg10).toNat := fun arg10 k0_hw1 => k0_hw1.1
theorem k0_off1_inb : ∀ (arg10 : BitVec 32) (k0_hw1 : k0_chk1 arg10), ∀ a, (k0_off1 arg10) a + S1x256x128.size a ≤ S1x4096x128.size a := fun arg10 k0_hw1 => k0_hw1.2.1
theorem k0_mult11_dvd : ∀ (arg10 : BitVec 32) (k0_hw1 : k0_chk1 arg10), 256 ∣ (k0_mult11 arg10).toNat := fun arg10 k0_hw1 => k0_hw1.2.2.1
theorem k0_off2_inb : ∀ (arg10 : BitVec 32) (k0_hw1 : k0_chk1 arg10), ∀ a, (k0_off2 arg10) a + S1x256x128.size a ≤ S1x4096x128.size a := fun arg10 k0_hw1 => k0_hw1.2.2.2.1
theorem k0_mult12_dvd : ∀ (arg10 : BitVec 32) (k0_hw1 : k0_chk1 arg10), 256 ∣ (k0_mult12 arg10).toNat := fun arg10 k0_hw1 => k0_hw1.2.2.2.2.1
theorem k0_off3_inb : ∀ (arg10 : BitVec 32) (k0_hw1 : k0_chk1 arg10), ∀ a, (k0_off3 arg10) a + S128x256.size a ≤ S128x4096.size a := fun arg10 k0_hw1 => k0_hw1.2.2.2.2.2.1
theorem k0_mult13_dvd : ∀ (arg10 : BitVec 32) (k0_hw1 : k0_chk1 arg10), 256 ∣ (k0_mult13 arg10).toNat := fun arg10 k0_hw1 => k0_hw1.2.2.2.2.2.2.1
theorem k0_off4_inb : ∀ (arg10 : BitVec 32) (k0_hw1 : k0_chk1 arg10), ∀ a, (k0_off4 arg10) a + S128x256.size a ≤ S128x4096.size a := fun arg10 k0_hw1 => k0_hw1.2.2.2.2.2.2.2

def k0_mult14 (v279_0 : BitVec 32) : BitVec 32 :=
  let c1_i32_139 : BitVec 32 := 1#32
  let v300 : BitVec 32 := Scalar.subi c1_i32_139 v279_0
  let c256_i32_140 : BitVec 32 := 256#32
  let v301 : BitVec 32 := Scalar.muli v300 c256_i32_140
  v301
def k0_cond2 (v279_0 : BitVec 32) (v279_1 : BitVec 1) : BitVec 1 :=
  let c1_i32 : BitVec 32 := 1#32
  let v280 : BitVec 1 := Scalar.cmpi .eq v279_0 c1_i32
  let v281 : BitVec 1 := Scalar.andi v280 v279_1
  let v282 : BitVec 32 := Scalar.extui v281
  let c0_i32_128 : BitVec 32 := 0#32
  let v283 : BitVec 1 := Scalar.cmpi .ne v282 c0_i32_128
  v283

def k0_off5 (v279_0 : BitVec 32) : Fin 3 → Nat :=
  let c0_141 : Index := 0#32
  let c1_i32_139 : BitVec 32 := 1#32
  let v300 : BitVec 32 := Scalar.subi c1_i32_139 v279_0
  let c256_i32_140 : BitVec 32 := 256#32
  let v301 : BitVec 32 := Scalar.muli v300 c256_i32_140
  let v302 : BitVec 32 := v301
  let v303 : Index := Scalar.indexCast v302
  let c0_142 : Index := 0#32
  ![0, v303.toNat, 0]
def k0_mult15 (v279_0 : BitVec 32) : BitVec 32 :=
  let c1_i32_160 : BitVec 32 := 1#32
  let v354 : BitVec 32 := Scalar.subi c1_i32_160 v279_0
  let c256_i32_161 : BitVec 32 := 256#32
  let v355 : BitVec 32 := Scalar.muli v354 c256_i32_161
  v355
def k0_off6 (v279_0 : BitVec 32) : Fin 2 → Nat :=
  let c0_162 : Index := 0#32
  let c1_i32_160 : BitVec 32 := 1#32
  let v354 : BitVec 32 := Scalar.subi c1_i32_160 v279_0
  let c256_i32_161 : BitVec 32 := 256#32
  let v355 : BitVec 32 := Scalar.muli v354 c256_i32_161
  let v356 : BitVec 32 := v355
  let v357 : Index := Scalar.indexCast v356
  ![0, v357.toNat]

def k0_chk2 (v279_0 : BitVec 32) (v279_1 : BitVec 1) : Prop :=
  (∀ (k0_h2 : k0_cond2 v279_0 v279_1 = 1#1), 256 ∣ (k0_mult14 v279_0).toNat) ∧
  (∀ (k0_h2 : k0_cond2 v279_0 v279_1 = 1#1), ∀ a, (k0_off5 v279_0) a + S1x256x128.size a ≤ S1x4096x128.size a) ∧
  (∀ (k0_h2 : k0_cond2 v279_0 v279_1 = 1#1), 256 ∣ (k0_mult15 v279_0).toNat) ∧
  (∀ (k0_h2 : k0_cond2 v279_0 v279_1 = 1#1), ∀ a, (k0_off6 v279_0) a + S128x256.size a ≤ S128x4096.size a)
theorem k0_mult14_dvd : ∀ (v279_0 : BitVec 32) (v279_1 : BitVec 1) (k0_hw2 : k0_chk2 v279_0 v279_1), ∀ (k0_h2 : k0_cond2 v279_0 v279_1 = 1#1), 256 ∣ (k0_mult14 v279_0).toNat := fun v279_0 v279_1 k0_hw2 k0_h2 => k0_hw2.1 k0_h2
theorem k0_off5_inb : ∀ (v279_0 : BitVec 32) (v279_1 : BitVec 1) (k0_hw2 : k0_chk2 v279_0 v279_1), ∀ (k0_h2 : k0_cond2 v279_0 v279_1 = 1#1), ∀ a, (k0_off5 v279_0) a + S1x256x128.size a ≤ S1x4096x128.size a := fun v279_0 v279_1 k0_hw2 k0_h2 => k0_hw2.2.1 k0_h2
theorem k0_mult15_dvd : ∀ (v279_0 : BitVec 32) (v279_1 : BitVec 1) (k0_hw2 : k0_chk2 v279_0 v279_1), ∀ (k0_h2 : k0_cond2 v279_0 v279_1 = 1#1), 256 ∣ (k0_mult15 v279_0).toNat := fun v279_0 v279_1 k0_hw2 k0_h2 => k0_hw2.2.2.1 k0_h2
theorem k0_off6_inb : ∀ (v279_0 : BitVec 32) (v279_1 : BitVec 1) (k0_hw2 : k0_chk2 v279_0 v279_1), ∀ (k0_h2 : k0_cond2 v279_0 v279_1 = 1#1), ∀ a, (k0_off6 v279_0) a + S128x256.size a ≤ S128x4096.size a := fun v279_0 v279_1 k0_hw2 k0_h2 => k0_hw2.2.2.2 k0_h2

def k0_mult16 : BitVec 32 :=
  let c256_i32_133 : BitVec 32 := 256#32
  c256_i32_133
@[reducible] def k0_t1_loop : Scf.Loop 32 :=
  let c1_i32_136 : BitVec 32 := 1#32
  let c7_i32 : BitVec 32 := 7#32
  let v299 : BitVec 32 := Scalar.addi c1_i32_136 c7_i32
  let c1_i32_137 : BitVec 32 := 1#32
  ⟨c1_i32_136, v299, c1_i32_137⟩
def k0_mult17 (k0_t1 : Fin k0_t1_loop.trips) : BitVec 32 :=
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c0_i32_140 : BitVec 32 := 0#32
  let v301 : BitVec 32 := Scalar.addi v300 c0_i32_140
  let c256_i32_141 : BitVec 32 := 256#32
  let v302 : BitVec 32 := Scalar.muli v301 c256_i32_141
  v302
def k0_off7 (k0_t1 : Fin k0_t1_loop.trips) (c0_i32_140 : BitVec 32) : Fin 3 → Nat :=
  let c0_142 : Index := 0#32
  let c0_143 : Index := 0#32
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let v301 : BitVec 32 := Scalar.addi v300 c0_i32_140
  let c256_i32_141 : BitVec 32 := 256#32
  let v302 : BitVec 32 := Scalar.muli v301 c256_i32_141
  let v303 : BitVec 32 := v302
  let v304 : Index := Scalar.indexCast v303
  ![0, 0, v304.toNat]
def k0_mult18 (k0_t1 : Fin k0_t1_loop.trips) : BitVec 32 :=
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c1_i32_148 : BitVec 32 := 1#32
  let v319 : BitVec 32 := Scalar.addi v300 c1_i32_148
  let c256_i32_149 : BitVec 32 := 256#32
  let v320 : BitVec 32 := Scalar.muli v319 c256_i32_149
  v320
def k0_mult19 (k0_t1 : Fin k0_t1_loop.trips) : BitVec 32 :=
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c0_i32_140 : BitVec 32 := 0#32
  let v301 : BitVec 32 := Scalar.addi v300 c0_i32_140
  let c0_i32_171 : BitVec 32 := 0#32
  let v353 : BitVec 32 := Scalar.subi v301 c0_i32_171
  let c256_i32_172 : BitVec 32 := 256#32
  let v354 : BitVec 32 := Scalar.muli v353 c256_i32_172
  v354
def k0_off8 (k0_t1 : Fin k0_t1_loop.trips) (c0_i32_140 : BitVec 32) (c0_i32_171 : BitVec 32) : Fin 3 → Nat :=
  let c0_173 : Index := 0#32
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let v301 : BitVec 32 := Scalar.addi v300 c0_i32_140
  let v353 : BitVec 32 := Scalar.subi v301 c0_i32_171
  let c256_i32_172 : BitVec 32 := 256#32
  let v354 : BitVec 32 := Scalar.muli v353 c256_i32_172
  let v355 : BitVec 32 := v354
  let v356 : Index := Scalar.indexCast v355
  let c0_174 : Index := 0#32
  ![0, v356.toNat, 0]
def k0_mult20 (k0_t1 : Fin k0_t1_loop.trips) : BitVec 32 :=
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c0_i32_140 : BitVec 32 := 0#32
  let v301 : BitVec 32 := Scalar.addi v300 c0_i32_140
  let c1_i32_182 : BitVec 32 := 1#32
  let v388 : BitVec 32 := Scalar.subi v301 c1_i32_182
  let c256_i32_183 : BitVec 32 := 256#32
  let v389 : BitVec 32 := Scalar.muli v388 c256_i32_183
  v389
def k0_mult21 (k0_t1 : Fin k0_t1_loop.trips) : BitVec 32 :=
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c1_i32_148 : BitVec 32 := 1#32
  let v319 : BitVec 32 := Scalar.addi v300 c1_i32_148
  let c0_i32_190 : BitVec 32 := 0#32
  let v414 : BitVec 32 := Scalar.subi v319 c0_i32_190
  let c256_i32_191 : BitVec 32 := 256#32
  let v415 : BitVec 32 := Scalar.muli v414 c256_i32_191
  v415
def k0_mult22 (k0_t1 : Fin k0_t1_loop.trips) : BitVec 32 :=
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c1_i32_148 : BitVec 32 := 1#32
  let v319 : BitVec 32 := Scalar.addi v300 c1_i32_148
  let c1_i32_201 : BitVec 32 := 1#32
  let v449 : BitVec 32 := Scalar.subi v319 c1_i32_201
  let c256_i32_202 : BitVec 32 := 256#32
  let v450 : BitVec 32 := Scalar.muli v449 c256_i32_202
  v450
def k0_mult23 (k0_t1 : Fin k0_t1_loop.trips) : BitVec 32 :=
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c0_i32_140 : BitVec 32 := 0#32
  let v301 : BitVec 32 := Scalar.addi v300 c0_i32_140
  let c0_i32_234 : BitVec 32 := 0#32
  let v512 : BitVec 32 := Scalar.subi v301 c0_i32_234
  let c256_i32_235 : BitVec 32 := 256#32
  let v513 : BitVec 32 := Scalar.muli v512 c256_i32_235
  v513
def k0_off9 (k0_t1 : Fin k0_t1_loop.trips) (c0_i32_140 : BitVec 32) (c0_i32_234 : BitVec 32) : Fin 2 → Nat :=
  let c0_236 : Index := 0#32
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let v301 : BitVec 32 := Scalar.addi v300 c0_i32_140
  let v512 : BitVec 32 := Scalar.subi v301 c0_i32_234
  let c256_i32_235 : BitVec 32 := 256#32
  let v513 : BitVec 32 := Scalar.muli v512 c256_i32_235
  let v514 : BitVec 32 := v513
  let v515 : Index := Scalar.indexCast v514
  ![0, v515.toNat]
def k0_mult24 (k0_t1 : Fin k0_t1_loop.trips) : BitVec 32 :=
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c0_i32_140 : BitVec 32 := 0#32
  let v301 : BitVec 32 := Scalar.addi v300 c0_i32_140
  let c1_i32_250 : BitVec 32 := 1#32
  let v547 : BitVec 32 := Scalar.subi v301 c1_i32_250
  let c256_i32_251 : BitVec 32 := 256#32
  let v548 : BitVec 32 := Scalar.muli v547 c256_i32_251
  v548
def k0_mult25 (k0_t1 : Fin k0_t1_loop.trips) : BitVec 32 :=
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c1_i32_148 : BitVec 32 := 1#32
  let v319 : BitVec 32 := Scalar.addi v300 c1_i32_148
  let c0_i32_266 : BitVec 32 := 0#32
  let v582 : BitVec 32 := Scalar.subi v319 c0_i32_266
  let c256_i32_267 : BitVec 32 := 256#32
  let v583 : BitVec 32 := Scalar.muli v582 c256_i32_267
  v583
def k0_mult26 (k0_t1 : Fin k0_t1_loop.trips) : BitVec 32 :=
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c1_i32_148 : BitVec 32 := 1#32
  let v319 : BitVec 32 := Scalar.addi v300 c1_i32_148
  let c1_i32_282 : BitVec 32 := 1#32
  let v617 : BitVec 32 := Scalar.subi v319 c1_i32_282
  let c256_i32_283 : BitVec 32 := 256#32
  let v618 : BitVec 32 := Scalar.muli v617 c256_i32_283
  v618
def k0_mult27 (k0_t1 : Fin k0_t1_loop.trips) (arg11 : BitVec 32) : BitVec 32 :=
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c0_i32_140 : BitVec 32 := 0#32
  let v301 : BitVec 32 := Scalar.addi v300 c0_i32_140
  let v683 : BitVec 32 := Scalar.subi v301 arg11
  let c256_i32_317 : BitVec 32 := 256#32
  let v684 : BitVec 32 := Scalar.muli v683 c256_i32_317
  v684

def k0_off10 (k0_t1 : Fin k0_t1_loop.trips) (arg11 : BitVec 32) : Fin 3 → Nat :=
  let c0_318 : Index := 0#32
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c0_i32_140 : BitVec 32 := 0#32
  let v301 : BitVec 32 := Scalar.addi v300 c0_i32_140
  let v683 : BitVec 32 := Scalar.subi v301 arg11
  let c256_i32_317 : BitVec 32 := 256#32
  let v684 : BitVec 32 := Scalar.muli v683 c256_i32_317
  let v685 : BitVec 32 := v684
  let v686 : Index := Scalar.indexCast v685
  let c0_319 : Index := 0#32
  ![0, v686.toNat, 0]
def k0_mult28 (k0_t1 : Fin k0_t1_loop.trips) (arg11 : BitVec 32) : BitVec 32 :=
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c0_i32_140 : BitVec 32 := 0#32
  let v301 : BitVec 32 := Scalar.addi v300 c0_i32_140
  let c1_i32_324 : BitVec 32 := 1#32
  let v709 : BitVec 32 := Scalar.addi arg11 c1_i32_324
  let v710 : BitVec 32 := Scalar.subi v301 v709
  let c256_i32_325 : BitVec 32 := 256#32
  let v711 : BitVec 32 := Scalar.muli v710 c256_i32_325
  v711
def k0_off11 (k0_t1 : Fin k0_t1_loop.trips) (arg11 : BitVec 32) : Fin 3 → Nat :=
  let c0_326 : Index := 0#32
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c0_i32_140 : BitVec 32 := 0#32
  let v301 : BitVec 32 := Scalar.addi v300 c0_i32_140
  let c1_i32_324 : BitVec 32 := 1#32
  let v709 : BitVec 32 := Scalar.addi arg11 c1_i32_324
  let v710 : BitVec 32 := Scalar.subi v301 v709
  let c256_i32_325 : BitVec 32 := 256#32
  let v711 : BitVec 32 := Scalar.muli v710 c256_i32_325
  let v712 : BitVec 32 := v711
  let v713 : Index := Scalar.indexCast v712
  let c0_327 : Index := 0#32
  ![0, v713.toNat, 0]
def k0_mult29 (k0_t1 : Fin k0_t1_loop.trips) (arg11 : BitVec 32) : BitVec 32 :=
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c0_i32_140 : BitVec 32 := 0#32
  let v301 : BitVec 32 := Scalar.addi v300 c0_i32_140
  let v767 : BitVec 32 := Scalar.subi v301 arg11
  let c256_i32_349 : BitVec 32 := 256#32
  let v768 : BitVec 32 := Scalar.muli v767 c256_i32_349
  v768
def k0_off12 (k0_t1 : Fin k0_t1_loop.trips) (arg11 : BitVec 32) : Fin 2 → Nat :=
  let c0_350 : Index := 0#32
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c0_i32_140 : BitVec 32 := 0#32
  let v301 : BitVec 32 := Scalar.addi v300 c0_i32_140
  let v767 : BitVec 32 := Scalar.subi v301 arg11
  let c256_i32_349 : BitVec 32 := 256#32
  let v768 : BitVec 32 := Scalar.muli v767 c256_i32_349
  let v769 : BitVec 32 := v768
  let v770 : Index := Scalar.indexCast v769
  ![0, v770.toNat]
def k0_mult30 (k0_t1 : Fin k0_t1_loop.trips) (arg11 : BitVec 32) : BitVec 32 :=
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c0_i32_140 : BitVec 32 := 0#32
  let v301 : BitVec 32 := Scalar.addi v300 c0_i32_140
  let c1_i32_355 : BitVec 32 := 1#32
  let v777 : BitVec 32 := Scalar.addi arg11 c1_i32_355
  let v803 : BitVec 32 := Scalar.subi v301 v777
  let c256_i32_365 : BitVec 32 := 256#32
  let v804 : BitVec 32 := Scalar.muli v803 c256_i32_365
  v804
def k0_off13 (k0_t1 : Fin k0_t1_loop.trips) (arg11 : BitVec 32) : Fin 2 → Nat :=
  let c0_366 : Index := 0#32
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c0_i32_140 : BitVec 32 := 0#32
  let v301 : BitVec 32 := Scalar.addi v300 c0_i32_140
  let c1_i32_355 : BitVec 32 := 1#32
  let v777 : BitVec 32 := Scalar.addi arg11 c1_i32_355
  let v803 : BitVec 32 := Scalar.subi v301 v777
  let c256_i32_365 : BitVec 32 := 256#32
  let v804 : BitVec 32 := Scalar.muli v803 c256_i32_365
  let v805 : BitVec 32 := v804
  let v806 : Index := Scalar.indexCast v805
  ![0, v806.toNat]

def k0_chk3 (k0_t1 : Fin k0_t1_loop.trips) (arg11 : BitVec 32) : Prop :=
  (256 ∣ (k0_mult27 k0_t1 arg11).toNat) ∧
  (∀ a, (k0_off10 k0_t1 arg11) a + S1x256x128.size a ≤ S1x4096x128.size a) ∧
  (256 ∣ (k0_mult28 k0_t1 arg11).toNat) ∧
  (∀ a, (k0_off11 k0_t1 arg11) a + S1x256x128.size a ≤ S1x4096x128.size a) ∧
  (256 ∣ (k0_mult29 k0_t1 arg11).toNat) ∧
  (∀ a, (k0_off12 k0_t1 arg11) a + S128x256.size a ≤ S128x4096.size a) ∧
  (256 ∣ (k0_mult30 k0_t1 arg11).toNat) ∧
  (∀ a, (k0_off13 k0_t1 arg11) a + S128x256.size a ≤ S128x4096.size a)
theorem k0_mult27_dvd : ∀ (k0_t1 : Fin k0_t1_loop.trips) (arg11 : BitVec 32) (k0_hw3 : k0_chk3 k0_t1 arg11), 256 ∣ (k0_mult27 k0_t1 arg11).toNat := fun k0_t1 arg11 k0_hw3 => k0_hw3.1
theorem k0_off10_inb : ∀ (k0_t1 : Fin k0_t1_loop.trips) (arg11 : BitVec 32) (k0_hw3 : k0_chk3 k0_t1 arg11), ∀ a, (k0_off10 k0_t1 arg11) a + S1x256x128.size a ≤ S1x4096x128.size a := fun k0_t1 arg11 k0_hw3 => k0_hw3.2.1
theorem k0_mult28_dvd : ∀ (k0_t1 : Fin k0_t1_loop.trips) (arg11 : BitVec 32) (k0_hw3 : k0_chk3 k0_t1 arg11), 256 ∣ (k0_mult28 k0_t1 arg11).toNat := fun k0_t1 arg11 k0_hw3 => k0_hw3.2.2.1
theorem k0_off11_inb : ∀ (k0_t1 : Fin k0_t1_loop.trips) (arg11 : BitVec 32) (k0_hw3 : k0_chk3 k0_t1 arg11), ∀ a, (k0_off11 k0_t1 arg11) a + S1x256x128.size a ≤ S1x4096x128.size a := fun k0_t1 arg11 k0_hw3 => k0_hw3.2.2.2.1
theorem k0_mult29_dvd : ∀ (k0_t1 : Fin k0_t1_loop.trips) (arg11 : BitVec 32) (k0_hw3 : k0_chk3 k0_t1 arg11), 256 ∣ (k0_mult29 k0_t1 arg11).toNat := fun k0_t1 arg11 k0_hw3 => k0_hw3.2.2.2.2.1
theorem k0_off12_inb : ∀ (k0_t1 : Fin k0_t1_loop.trips) (arg11 : BitVec 32) (k0_hw3 : k0_chk3 k0_t1 arg11), ∀ a, (k0_off12 k0_t1 arg11) a + S128x256.size a ≤ S128x4096.size a := fun k0_t1 arg11 k0_hw3 => k0_hw3.2.2.2.2.2.1
theorem k0_mult30_dvd : ∀ (k0_t1 : Fin k0_t1_loop.trips) (arg11 : BitVec 32) (k0_hw3 : k0_chk3 k0_t1 arg11), 256 ∣ (k0_mult30 k0_t1 arg11).toNat := fun k0_t1 arg11 k0_hw3 => k0_hw3.2.2.2.2.2.2.1
theorem k0_off13_inb : ∀ (k0_t1 : Fin k0_t1_loop.trips) (arg11 : BitVec 32) (k0_hw3 : k0_chk3 k0_t1 arg11), ∀ a, (k0_off13 k0_t1 arg11) a + S128x256.size a ≤ S128x4096.size a := fun k0_t1 arg11 k0_hw3 => k0_hw3.2.2.2.2.2.2.2

def k0_mult31 (k0_t1 : Fin k0_t1_loop.trips) (v634_0 : BitVec 32) : BitVec 32 :=
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c0_i32_140 : BitVec 32 := 0#32
  let v301 : BitVec 32 := Scalar.addi v300 c0_i32_140
  let v683 : BitVec 32 := Scalar.subi v301 v634_0
  let c256_i32_317 : BitVec 32 := 256#32
  let v684 : BitVec 32 := Scalar.muli v683 c256_i32_317
  v684
def k0_cond3 (k0_t1 : Fin k0_t1_loop.trips) (v634_0 : BitVec 32) (v634_1 : BitVec 1) : BitVec 1 :=
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c0_i32_140 : BitVec 32 := 0#32
  let v301 : BitVec 32 := Scalar.addi v300 c0_i32_140
  let v635 : BitVec 1 := Scalar.cmpi .eq v634_0 v301
  let v636 : BitVec 1 := Scalar.andi v635 v634_1
  let v637 : BitVec 32 := Scalar.extui v636
  let c0_i32_295 : BitVec 32 := 0#32
  let v638 : BitVec 1 := Scalar.cmpi .ne v637 c0_i32_295
  v638

def k0_off14 (k0_t1 : Fin k0_t1_loop.trips) (v634_0 : BitVec 32) : Fin 3 → Nat :=
  let c0_318 : Index := 0#32
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c0_i32_140 : BitVec 32 := 0#32
  let v301 : BitVec 32 := Scalar.addi v300 c0_i32_140
  let v683 : BitVec 32 := Scalar.subi v301 v634_0
  let c256_i32_317 : BitVec 32 := 256#32
  let v684 : BitVec 32 := Scalar.muli v683 c256_i32_317
  let v685 : BitVec 32 := v684
  let v686 : Index := Scalar.indexCast v685
  let c0_319 : Index := 0#32
  ![0, v686.toNat, 0]
def k0_mult32 (k0_t1 : Fin k0_t1_loop.trips) (v634_0 : BitVec 32) : BitVec 32 :=
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c0_i32_140 : BitVec 32 := 0#32
  let v301 : BitVec 32 := Scalar.addi v300 c0_i32_140
  let v737 : BitVec 32 := Scalar.subi v301 v634_0
  let c256_i32_337 : BitVec 32 := 256#32
  let v738 : BitVec 32 := Scalar.muli v737 c256_i32_337
  v738
def k0_off15 (k0_t1 : Fin k0_t1_loop.trips) (v634_0 : BitVec 32) : Fin 2 → Nat :=
  let c0_338 : Index := 0#32
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c0_i32_140 : BitVec 32 := 0#32
  let v301 : BitVec 32 := Scalar.addi v300 c0_i32_140
  let v737 : BitVec 32 := Scalar.subi v301 v634_0
  let c256_i32_337 : BitVec 32 := 256#32
  let v738 : BitVec 32 := Scalar.muli v737 c256_i32_337
  let v739 : BitVec 32 := v738
  let v740 : Index := Scalar.indexCast v739
  ![0, v740.toNat]

def k0_chk4 (k0_t1 : Fin k0_t1_loop.trips) (v634_0 : BitVec 32) (v634_1 : BitVec 1) : Prop :=
  (∀ (k0_h3 : k0_cond3 k0_t1 v634_0 v634_1 = 1#1), 256 ∣ (k0_mult31 k0_t1 v634_0).toNat) ∧
  (∀ (k0_h3 : k0_cond3 k0_t1 v634_0 v634_1 = 1#1), ∀ a, (k0_off14 k0_t1 v634_0) a + S1x256x128.size a ≤ S1x4096x128.size a) ∧
  (∀ (k0_h3 : k0_cond3 k0_t1 v634_0 v634_1 = 1#1), 256 ∣ (k0_mult32 k0_t1 v634_0).toNat) ∧
  (∀ (k0_h3 : k0_cond3 k0_t1 v634_0 v634_1 = 1#1), ∀ a, (k0_off15 k0_t1 v634_0) a + S128x256.size a ≤ S128x4096.size a)
theorem k0_mult31_dvd : ∀ (k0_t1 : Fin k0_t1_loop.trips) (v634_0 : BitVec 32) (v634_1 : BitVec 1) (k0_hw4 : k0_chk4 k0_t1 v634_0 v634_1), ∀ (k0_h3 : k0_cond3 k0_t1 v634_0 v634_1 = 1#1), 256 ∣ (k0_mult31 k0_t1 v634_0).toNat := fun k0_t1 v634_0 v634_1 k0_hw4 k0_h3 => k0_hw4.1 k0_h3
theorem k0_off14_inb : ∀ (k0_t1 : Fin k0_t1_loop.trips) (v634_0 : BitVec 32) (v634_1 : BitVec 1) (k0_hw4 : k0_chk4 k0_t1 v634_0 v634_1), ∀ (k0_h3 : k0_cond3 k0_t1 v634_0 v634_1 = 1#1), ∀ a, (k0_off14 k0_t1 v634_0) a + S1x256x128.size a ≤ S1x4096x128.size a := fun k0_t1 v634_0 v634_1 k0_hw4 k0_h3 => k0_hw4.2.1 k0_h3
theorem k0_mult32_dvd : ∀ (k0_t1 : Fin k0_t1_loop.trips) (v634_0 : BitVec 32) (v634_1 : BitVec 1) (k0_hw4 : k0_chk4 k0_t1 v634_0 v634_1), ∀ (k0_h3 : k0_cond3 k0_t1 v634_0 v634_1 = 1#1), 256 ∣ (k0_mult32 k0_t1 v634_0).toNat := fun k0_t1 v634_0 v634_1 k0_hw4 k0_h3 => k0_hw4.2.2.1 k0_h3
theorem k0_off15_inb : ∀ (k0_t1 : Fin k0_t1_loop.trips) (v634_0 : BitVec 32) (v634_1 : BitVec 1) (k0_hw4 : k0_chk4 k0_t1 v634_0 v634_1), ∀ (k0_h3 : k0_cond3 k0_t1 v634_0 v634_1 = 1#1), ∀ a, (k0_off15 k0_t1 v634_0) a + S128x256.size a ≤ S128x4096.size a := fun k0_t1 v634_0 v634_1 k0_hw4 k0_h3 => k0_hw4.2.2.2 k0_h3

def k0_mult33 (k0_t1 : Fin k0_t1_loop.trips) : BitVec 32 :=
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c0_i32_140 : BitVec 32 := 0#32
  let v301 : BitVec 32 := Scalar.addi v300 c0_i32_140
  let c256_i32_300 : BitVec 32 := 256#32
  let v649 : BitVec 32 := Scalar.muli v301 c256_i32_300
  v649
def k0_off16 (k0_t1 : Fin k0_t1_loop.trips) : Fin 3 → Nat :=
  let c0_301 : Index := 0#32
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c0_i32_140 : BitVec 32 := 0#32
  let v301 : BitVec 32 := Scalar.addi v300 c0_i32_140
  let c256_i32_300 : BitVec 32 := 256#32
  let v649 : BitVec 32 := Scalar.muli v301 c256_i32_300
  let v650 : BitVec 32 := v649
  let v651 : Index := Scalar.indexCast v650
  let c0_302 : Index := 0#32
  ![0, v651.toNat, 0]
def k0_mult34 (k0_t1 : Fin k0_t1_loop.trips) (arg11 : BitVec 32) : BitVec 32 :=
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c1_i32_148 : BitVec 32 := 1#32
  let v319 : BitVec 32 := Scalar.addi v300 c1_i32_148
  let v683 : BitVec 32 := Scalar.subi v319 arg11
  let c256_i32_317 : BitVec 32 := 256#32
  let v684 : BitVec 32 := Scalar.muli v683 c256_i32_317
  v684

def k0_off17 (k0_t1 : Fin k0_t1_loop.trips) (arg11 : BitVec 32) : Fin 3 → Nat :=
  let c0_318 : Index := 0#32
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c1_i32_148 : BitVec 32 := 1#32
  let v319 : BitVec 32 := Scalar.addi v300 c1_i32_148
  let v683 : BitVec 32 := Scalar.subi v319 arg11
  let c256_i32_317 : BitVec 32 := 256#32
  let v684 : BitVec 32 := Scalar.muli v683 c256_i32_317
  let v685 : BitVec 32 := v684
  let v686 : Index := Scalar.indexCast v685
  let c0_319 : Index := 0#32
  ![0, v686.toNat, 0]
def k0_mult35 (k0_t1 : Fin k0_t1_loop.trips) (arg11 : BitVec 32) : BitVec 32 :=
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c1_i32_148 : BitVec 32 := 1#32
  let v319 : BitVec 32 := Scalar.addi v300 c1_i32_148
  let c1_i32_324 : BitVec 32 := 1#32
  let v709 : BitVec 32 := Scalar.addi arg11 c1_i32_324
  let v710 : BitVec 32 := Scalar.subi v319 v709
  let c256_i32_325 : BitVec 32 := 256#32
  let v711 : BitVec 32 := Scalar.muli v710 c256_i32_325
  v711
def k0_off18 (k0_t1 : Fin k0_t1_loop.trips) (arg11 : BitVec 32) : Fin 3 → Nat :=
  let c0_326 : Index := 0#32
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c1_i32_148 : BitVec 32 := 1#32
  let v319 : BitVec 32 := Scalar.addi v300 c1_i32_148
  let c1_i32_324 : BitVec 32 := 1#32
  let v709 : BitVec 32 := Scalar.addi arg11 c1_i32_324
  let v710 : BitVec 32 := Scalar.subi v319 v709
  let c256_i32_325 : BitVec 32 := 256#32
  let v711 : BitVec 32 := Scalar.muli v710 c256_i32_325
  let v712 : BitVec 32 := v711
  let v713 : Index := Scalar.indexCast v712
  let c0_327 : Index := 0#32
  ![0, v713.toNat, 0]
def k0_mult36 (k0_t1 : Fin k0_t1_loop.trips) (arg11 : BitVec 32) : BitVec 32 :=
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c1_i32_148 : BitVec 32 := 1#32
  let v319 : BitVec 32 := Scalar.addi v300 c1_i32_148
  let v767 : BitVec 32 := Scalar.subi v319 arg11
  let c256_i32_349 : BitVec 32 := 256#32
  let v768 : BitVec 32 := Scalar.muli v767 c256_i32_349
  v768
def k0_off19 (k0_t1 : Fin k0_t1_loop.trips) (arg11 : BitVec 32) : Fin 2 → Nat :=
  let c0_350 : Index := 0#32
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c1_i32_148 : BitVec 32 := 1#32
  let v319 : BitVec 32 := Scalar.addi v300 c1_i32_148
  let v767 : BitVec 32 := Scalar.subi v319 arg11
  let c256_i32_349 : BitVec 32 := 256#32
  let v768 : BitVec 32 := Scalar.muli v767 c256_i32_349
  let v769 : BitVec 32 := v768
  let v770 : Index := Scalar.indexCast v769
  ![0, v770.toNat]
def k0_mult37 (k0_t1 : Fin k0_t1_loop.trips) (arg11 : BitVec 32) : BitVec 32 :=
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c1_i32_148 : BitVec 32 := 1#32
  let v319 : BitVec 32 := Scalar.addi v300 c1_i32_148
  let c1_i32_355 : BitVec 32 := 1#32
  let v777 : BitVec 32 := Scalar.addi arg11 c1_i32_355
  let v803 : BitVec 32 := Scalar.subi v319 v777
  let c256_i32_365 : BitVec 32 := 256#32
  let v804 : BitVec 32 := Scalar.muli v803 c256_i32_365
  v804
def k0_off20 (k0_t1 : Fin k0_t1_loop.trips) (arg11 : BitVec 32) : Fin 2 → Nat :=
  let c0_366 : Index := 0#32
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c1_i32_148 : BitVec 32 := 1#32
  let v319 : BitVec 32 := Scalar.addi v300 c1_i32_148
  let c1_i32_355 : BitVec 32 := 1#32
  let v777 : BitVec 32 := Scalar.addi arg11 c1_i32_355
  let v803 : BitVec 32 := Scalar.subi v319 v777
  let c256_i32_365 : BitVec 32 := 256#32
  let v804 : BitVec 32 := Scalar.muli v803 c256_i32_365
  let v805 : BitVec 32 := v804
  let v806 : Index := Scalar.indexCast v805
  ![0, v806.toNat]

def k0_chk5 (k0_t1 : Fin k0_t1_loop.trips) (arg11 : BitVec 32) : Prop :=
  (256 ∣ (k0_mult34 k0_t1 arg11).toNat) ∧
  (∀ a, (k0_off17 k0_t1 arg11) a + S1x256x128.size a ≤ S1x4096x128.size a) ∧
  (256 ∣ (k0_mult35 k0_t1 arg11).toNat) ∧
  (∀ a, (k0_off18 k0_t1 arg11) a + S1x256x128.size a ≤ S1x4096x128.size a) ∧
  (256 ∣ (k0_mult36 k0_t1 arg11).toNat) ∧
  (∀ a, (k0_off19 k0_t1 arg11) a + S128x256.size a ≤ S128x4096.size a) ∧
  (256 ∣ (k0_mult37 k0_t1 arg11).toNat) ∧
  (∀ a, (k0_off20 k0_t1 arg11) a + S128x256.size a ≤ S128x4096.size a)
theorem k0_mult34_dvd : ∀ (k0_t1 : Fin k0_t1_loop.trips) (arg11 : BitVec 32) (k0_hw5 : k0_chk5 k0_t1 arg11), 256 ∣ (k0_mult34 k0_t1 arg11).toNat := fun k0_t1 arg11 k0_hw5 => k0_hw5.1
theorem k0_off17_inb : ∀ (k0_t1 : Fin k0_t1_loop.trips) (arg11 : BitVec 32) (k0_hw5 : k0_chk5 k0_t1 arg11), ∀ a, (k0_off17 k0_t1 arg11) a + S1x256x128.size a ≤ S1x4096x128.size a := fun k0_t1 arg11 k0_hw5 => k0_hw5.2.1
theorem k0_mult35_dvd : ∀ (k0_t1 : Fin k0_t1_loop.trips) (arg11 : BitVec 32) (k0_hw5 : k0_chk5 k0_t1 arg11), 256 ∣ (k0_mult35 k0_t1 arg11).toNat := fun k0_t1 arg11 k0_hw5 => k0_hw5.2.2.1
theorem k0_off18_inb : ∀ (k0_t1 : Fin k0_t1_loop.trips) (arg11 : BitVec 32) (k0_hw5 : k0_chk5 k0_t1 arg11), ∀ a, (k0_off18 k0_t1 arg11) a + S1x256x128.size a ≤ S1x4096x128.size a := fun k0_t1 arg11 k0_hw5 => k0_hw5.2.2.2.1
theorem k0_mult36_dvd : ∀ (k0_t1 : Fin k0_t1_loop.trips) (arg11 : BitVec 32) (k0_hw5 : k0_chk5 k0_t1 arg11), 256 ∣ (k0_mult36 k0_t1 arg11).toNat := fun k0_t1 arg11 k0_hw5 => k0_hw5.2.2.2.2.1
theorem k0_off19_inb : ∀ (k0_t1 : Fin k0_t1_loop.trips) (arg11 : BitVec 32) (k0_hw5 : k0_chk5 k0_t1 arg11), ∀ a, (k0_off19 k0_t1 arg11) a + S128x256.size a ≤ S128x4096.size a := fun k0_t1 arg11 k0_hw5 => k0_hw5.2.2.2.2.2.1
theorem k0_mult37_dvd : ∀ (k0_t1 : Fin k0_t1_loop.trips) (arg11 : BitVec 32) (k0_hw5 : k0_chk5 k0_t1 arg11), 256 ∣ (k0_mult37 k0_t1 arg11).toNat := fun k0_t1 arg11 k0_hw5 => k0_hw5.2.2.2.2.2.2.1
theorem k0_off20_inb : ∀ (k0_t1 : Fin k0_t1_loop.trips) (arg11 : BitVec 32) (k0_hw5 : k0_chk5 k0_t1 arg11), ∀ a, (k0_off20 k0_t1 arg11) a + S128x256.size a ≤ S128x4096.size a := fun k0_t1 arg11 k0_hw5 => k0_hw5.2.2.2.2.2.2.2

def k0_mult38 (k0_t1 : Fin k0_t1_loop.trips) (v662_0 : BitVec 32) : BitVec 32 :=
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c1_i32_148 : BitVec 32 := 1#32
  let v319 : BitVec 32 := Scalar.addi v300 c1_i32_148
  let v683 : BitVec 32 := Scalar.subi v319 v662_0
  let c256_i32_317 : BitVec 32 := 256#32
  let v684 : BitVec 32 := Scalar.muli v683 c256_i32_317
  v684
def k0_cond4 (k0_t1 : Fin k0_t1_loop.trips) (v662_0 : BitVec 32) (v662_1 : BitVec 1) : BitVec 1 :=
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c1_i32_148 : BitVec 32 := 1#32
  let v319 : BitVec 32 := Scalar.addi v300 c1_i32_148
  let v663 : BitVec 1 := Scalar.cmpi .eq v662_0 v319
  let v664 : BitVec 1 := Scalar.andi v663 v662_1
  let v665 : BitVec 32 := Scalar.extui v664
  let c0_i32_309 : BitVec 32 := 0#32
  let v666 : BitVec 1 := Scalar.cmpi .ne v665 c0_i32_309
  v666

def k0_off21 (k0_t1 : Fin k0_t1_loop.trips) (v662_0 : BitVec 32) : Fin 3 → Nat :=
  let c0_318 : Index := 0#32
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c1_i32_148 : BitVec 32 := 1#32
  let v319 : BitVec 32 := Scalar.addi v300 c1_i32_148
  let v683 : BitVec 32 := Scalar.subi v319 v662_0
  let c256_i32_317 : BitVec 32 := 256#32
  let v684 : BitVec 32 := Scalar.muli v683 c256_i32_317
  let v685 : BitVec 32 := v684
  let v686 : Index := Scalar.indexCast v685
  let c0_319 : Index := 0#32
  ![0, v686.toNat, 0]
def k0_mult39 (k0_t1 : Fin k0_t1_loop.trips) (v662_0 : BitVec 32) : BitVec 32 :=
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c1_i32_148 : BitVec 32 := 1#32
  let v319 : BitVec 32 := Scalar.addi v300 c1_i32_148
  let v737 : BitVec 32 := Scalar.subi v319 v662_0
  let c256_i32_337 : BitVec 32 := 256#32
  let v738 : BitVec 32 := Scalar.muli v737 c256_i32_337
  v738
def k0_off22 (k0_t1 : Fin k0_t1_loop.trips) (v662_0 : BitVec 32) : Fin 2 → Nat :=
  let c0_338 : Index := 0#32
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c1_i32_148 : BitVec 32 := 1#32
  let v319 : BitVec 32 := Scalar.addi v300 c1_i32_148
  let v737 : BitVec 32 := Scalar.subi v319 v662_0
  let c256_i32_337 : BitVec 32 := 256#32
  let v738 : BitVec 32 := Scalar.muli v737 c256_i32_337
  let v739 : BitVec 32 := v738
  let v740 : Index := Scalar.indexCast v739
  ![0, v740.toNat]

def k0_chk6 (k0_t1 : Fin k0_t1_loop.trips) (v662_0 : BitVec 32) (v662_1 : BitVec 1) : Prop :=
  (∀ (k0_h4 : k0_cond4 k0_t1 v662_0 v662_1 = 1#1), 256 ∣ (k0_mult38 k0_t1 v662_0).toNat) ∧
  (∀ (k0_h4 : k0_cond4 k0_t1 v662_0 v662_1 = 1#1), ∀ a, (k0_off21 k0_t1 v662_0) a + S1x256x128.size a ≤ S1x4096x128.size a) ∧
  (∀ (k0_h4 : k0_cond4 k0_t1 v662_0 v662_1 = 1#1), 256 ∣ (k0_mult39 k0_t1 v662_0).toNat) ∧
  (∀ (k0_h4 : k0_cond4 k0_t1 v662_0 v662_1 = 1#1), ∀ a, (k0_off22 k0_t1 v662_0) a + S128x256.size a ≤ S128x4096.size a)
theorem k0_mult38_dvd : ∀ (k0_t1 : Fin k0_t1_loop.trips) (v662_0 : BitVec 32) (v662_1 : BitVec 1) (k0_hw6 : k0_chk6 k0_t1 v662_0 v662_1), ∀ (k0_h4 : k0_cond4 k0_t1 v662_0 v662_1 = 1#1), 256 ∣ (k0_mult38 k0_t1 v662_0).toNat := fun k0_t1 v662_0 v662_1 k0_hw6 k0_h4 => k0_hw6.1 k0_h4
theorem k0_off21_inb : ∀ (k0_t1 : Fin k0_t1_loop.trips) (v662_0 : BitVec 32) (v662_1 : BitVec 1) (k0_hw6 : k0_chk6 k0_t1 v662_0 v662_1), ∀ (k0_h4 : k0_cond4 k0_t1 v662_0 v662_1 = 1#1), ∀ a, (k0_off21 k0_t1 v662_0) a + S1x256x128.size a ≤ S1x4096x128.size a := fun k0_t1 v662_0 v662_1 k0_hw6 k0_h4 => k0_hw6.2.1 k0_h4
theorem k0_mult39_dvd : ∀ (k0_t1 : Fin k0_t1_loop.trips) (v662_0 : BitVec 32) (v662_1 : BitVec 1) (k0_hw6 : k0_chk6 k0_t1 v662_0 v662_1), ∀ (k0_h4 : k0_cond4 k0_t1 v662_0 v662_1 = 1#1), 256 ∣ (k0_mult39 k0_t1 v662_0).toNat := fun k0_t1 v662_0 v662_1 k0_hw6 k0_h4 => k0_hw6.2.2.1 k0_h4
theorem k0_off22_inb : ∀ (k0_t1 : Fin k0_t1_loop.trips) (v662_0 : BitVec 32) (v662_1 : BitVec 1) (k0_hw6 : k0_chk6 k0_t1 v662_0 v662_1), ∀ (k0_h4 : k0_cond4 k0_t1 v662_0 v662_1 = 1#1), ∀ a, (k0_off22 k0_t1 v662_0) a + S128x256.size a ≤ S128x4096.size a := fun k0_t1 v662_0 v662_1 k0_hw6 k0_h4 => k0_hw6.2.2.2 k0_h4

def k0_mult40 (k0_t1 : Fin k0_t1_loop.trips) : BitVec 32 :=
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c1_i32_148 : BitVec 32 := 1#32
  let v319 : BitVec 32 := Scalar.addi v300 c1_i32_148
  let c256_i32_314 : BitVec 32 := 256#32
  let v677 : BitVec 32 := Scalar.muli v319 c256_i32_314
  v677
def k0_off23 (k0_t1 : Fin k0_t1_loop.trips) : Fin 3 → Nat :=
  let c0_315 : Index := 0#32
  let c1_i32_136 : BitVec 32 := 1#32
  let c1_i32_137 : BitVec 32 := 1#32
  let arg10 : BitVec 32 := Scf.iv c1_i32_136 c1_i32_137 k0_t1
  let c2_i32_139 : BitVec 32 := 2#32
  let v300 : BitVec 32 := Scalar.muli arg10 c2_i32_139
  let c1_i32_148 : BitVec 32 := 1#32
  let v319 : BitVec 32 := Scalar.addi v300 c1_i32_148
  let c256_i32_314 : BitVec 32 := 256#32
  let v677 : BitVec 32 := Scalar.muli v319 c256_i32_314
  let v678 : BitVec 32 := v677
  let v679 : Index := Scalar.indexCast v678
  let c0_316 : Index := 0#32
  ![0, v679.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "clamp" => some ⊤
  | "dead" => some ⊥
  | "log2e" => some (((Real.log 2)⁻¹ : ℝ) : EReal)
  | "mask" => some ⊥
  | "qk_scale" => some (((8 * (Real.log 2))⁻¹ : ℝ) : EReal)
  | _ => none
-- ==== ReferenceIdeal.lean ====
abbrev S4x4096x8x64 : Shape := ⟨4, ![4, 4096, 8, 64]⟩
abbrev S4096 : Shape := ⟨1, ![4096]⟩
abbrev S4x8x4096x4096 : Shape := ⟨4, ![4, 8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S4x8x64x4096 : Shape := ⟨4, ![4, 8, 64, 4096]⟩
abbrev S4x4096x512 : Shape := ⟨3, ![4, 4096, 512]⟩

abbrev nBuf : Space → Nat
  | .hbm => 65
  | .vmem => 0
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S4096, .i32⟩
  | .hbm, ⟨4, _⟩ => ⟨S4x8x4096x4096, .f32⟩
  | .hbm, ⟨5, _⟩ => ⟨S_, .f32⟩
  | .hbm, ⟨6, _⟩ => ⟨S4x8x4096x4096, .f32⟩
  | .hbm, ⟨7, _⟩ => ⟨S4x8x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S4x8x4096x4096, .f32⟩
  | .hbm, ⟨16, _⟩ => ⟨S4x8x4096x4096, .f32⟩
  | .hbm, ⟨17, _⟩ => ⟨S4x8x4096x4096, .f32⟩
  | .hbm, ⟨18, _⟩ => ⟨S4x8x4096x4096, .f32⟩
  | .hbm, ⟨19, _⟩ => ⟨S4x8x4096x4096, .i1⟩
  | .hbm, ⟨20, _⟩ => ⟨S4x8x4096x4096, .f32⟩
  | .hbm, ⟨21, _⟩ => ⟨S4x8x4096x4096, .f32⟩
  | .hbm, ⟨22, _⟩ => ⟨S4x8x4096x4096, .f32⟩
  | .hbm, ⟨23, _⟩ => ⟨S4x8x4096x4096, .f32⟩
  | .hbm, ⟨24, _⟩ => ⟨S4x8x4096x4096, .f32⟩
  | .hbm, ⟨25, _⟩ => ⟨S4x8x4096x4096, .f32⟩
  | .hbm, ⟨26, _⟩ => ⟨S4x8x4096x4096, .f32⟩
  | .hbm, ⟨27, _⟩ => ⟨S4x8x4096x4096, .f32⟩
  | .hbm, ⟨28, _⟩ => ⟨S4x8x4096x4096, .f32⟩
  | .hbm, ⟨29, _⟩ => ⟨S_, .f32⟩
  | .hbm, ⟨30, _⟩ => ⟨S_, .f32⟩
  | .hbm, ⟨31, _⟩ => ⟨S4x8x4096x4096, .i1⟩
  | .hbm, ⟨32, _⟩ => ⟨S4x8x4096x4096, .f32⟩
  | .hbm, ⟨33, _⟩ => ⟨S4x8x4096x4096, .f32⟩
  | .hbm, ⟨34, _⟩ => ⟨S_, .f32⟩
  | .hbm, ⟨35, _⟩ => ⟨S_, .f32⟩
  | .hbm, ⟨36, _⟩ => ⟨S4x8x4096x4096, .f32⟩
  | .hbm, ⟨37, _⟩ => ⟨S4x8x4096x4096, .f32⟩
  | .hbm, ⟨38, _⟩ => ⟨S4x8x4096x4096, .f32⟩
  | .hbm, ⟨39, _⟩ => ⟨S_, .f32⟩
  | .hbm, ⟨40, _⟩ => ⟨S4x8x4096x4096, .f32⟩
  | .hbm, ⟨41, _⟩ => ⟨S4x8x4096x4096, .f32⟩
  | .hbm, ⟨42, _⟩ => ⟨S4x8x4096x4096, .f32⟩
  | .hbm, ⟨43, _⟩ => ⟨S4x8x4096x4096, .f32⟩
  | .hbm, ⟨44, _⟩ => ⟨S4x8x4096x4096, .i1⟩
  | .hbm, ⟨45, _⟩ => ⟨S4x8x4096x4096, .f32⟩
  | .hbm, ⟨46, _⟩ => ⟨S4x8x4096x4096, .f32⟩
  | .hbm, ⟨47, _⟩ => ⟨S4x8x4096x4096, .f32⟩
  | .hbm, ⟨48, _⟩ => ⟨S4x8x4096x4096, .f32⟩
  | .hbm, ⟨49, _⟩ => ⟨S4x8x4096x4096, .f32⟩
  | .hbm, ⟨50, _⟩ => ⟨S4x8x4096x4096, .f32⟩
  | .hbm, ⟨51, _⟩ => ⟨S4x8x4096x4096, .f32⟩
  | .hbm, ⟨52, _⟩ => ⟨S4x8x4096x4096, .f32⟩
  | .hbm, ⟨53, _⟩ => ⟨S4x8x4096x4096, .f32⟩
  | .hbm, ⟨54, _⟩ => ⟨S4x8x4096x4096, .f32⟩
  | .hbm, ⟨55, _⟩ => ⟨S4x8x4096x4096, .f32⟩
  | .hbm, ⟨56, _⟩ => ⟨S_, .f32⟩
  | .hbm, ⟨57, _⟩ => ⟨S_, .f32⟩
  | .hbm, ⟨58, _⟩ => ⟨S4x8x4096x4096, .i1⟩
  | .hbm, ⟨59, _⟩ => ⟨S4x8x4096x4096, .f32⟩
  | .hbm, ⟨60, _⟩ => ⟨S4x8x4096x4096, .f32⟩
  | .hbm, ⟨61, _⟩ => ⟨S4x8x64x4096, .f32⟩
  | .hbm, ⟨62, _⟩ => ⟨S4x4096x8x64, .f32⟩
  | .hbm, ⟨63, _⟩ => ⟨S4x4096x512, .f32⟩
  | .hbm, ⟨64, _⟩ => ⟨S4x4096x512, .bf16⟩
  | _, _ => ⟨S4x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v12 : Ref sig .tc := ⟨.hbm, 33, rfl⟩
abbrev main_call2_cst : Ref sig .tc := ⟨.hbm, 34, rfl⟩
abbrev main_call2_v0 : Ref sig .tc := ⟨.hbm, 35, rfl⟩
abbrev main_v13 : Ref sig .tc := ⟨.hbm, 36, rfl⟩
abbrev main_v14 : Ref sig .tc := ⟨.hbm, 37, rfl⟩
abbrev main_call3_v0 : Ref sig .tc := ⟨.hbm, 38, rfl⟩
abbrev main_call3_call0_cst : Ref sig .tc := ⟨.hbm, 39, rfl⟩
abbrev main_call3_call0_v0 : Ref sig .tc := ⟨.hbm, 40, rfl⟩
abbrev main_call3_call0_v1 : Ref sig .tc := ⟨.hbm, 41, rfl⟩
abbrev main_call3_call0_v2 : Ref sig .tc := ⟨.hbm, 42, rfl⟩
abbrev main_call3_call0_v3 : Ref sig .tc := ⟨.hbm, 43, rfl⟩
abbrev main_call3_call0_v4 : Ref sig .tc := ⟨.hbm, 44, rfl⟩
abbrev main_call3_call0_v5 : Ref sig .tc := ⟨.hbm, 45, rfl⟩
abbrev main_call3_call0_v6 : Ref sig .tc := ⟨.hbm, 46, rfl⟩
abbrev main_call3_call0_v7 : Ref sig .tc := ⟨.hbm, 47, rfl⟩
abbrev main_call3_call0_v8 : Ref sig .tc := ⟨.hbm, 48, rfl⟩
abbrev main_call3_call0_v9 : Ref sig .tc := ⟨.hbm, 49, rfl⟩
abbrev main_call3_call0_v10 : Ref sig .tc := ⟨.hbm, 50, rfl⟩
abbrev main_call3_call0_v11 : Ref sig .tc := ⟨.hbm, 51, rfl⟩
abbrev main_call3_v1 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_cst_1 : Ref sig .tc := ⟨.hbm, 56, rfl⟩
abbrev main_call4_v0 : Ref sig .tc := ⟨.hbm, 57, rfl⟩
abbrev main_call4_v1 : Ref sig .tc := ⟨.hbm, 58, rfl⟩
abbrev main_call4_v2 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩

abbrev nD : Nat := 1
abbrev τ : Topo := Topo.v7x

variable {F : FTy → Type} [FloatOps F]
-- ==== Kernel2.lean ====
abbrev S4x4096x1024 : Shape := ⟨3, ![4, 4096, 1024]⟩
abbrev S1x1024x4096 : Shape := ⟨3, ![1, 1024, 4096]⟩
abbrev S1024x4096 : Shape := ⟨2, ![1024, 4096]⟩
abbrev S1024x1024 : Shape := ⟨2, ![1024, 1024]⟩
abbrev S1024x512 : Shape := ⟨2, ![1024, 512]⟩
abbrev S1024x2048 : Shape := ⟨2, ![1024, 2048]⟩
abbrev S1024x3072 : Shape := ⟨2, ![1024, 3072]⟩
abbrev S3072x1024 : Shape := ⟨2, ![3072, 1024]⟩
abbrev S512x1024 : Shape := ⟨2, ![512, 1024]⟩
abbrev S16384x1024 : Shape := ⟨2, ![16384, 1024]⟩
abbrev S16384x512 : Shape := ⟨2, ![16384, 512]⟩
abbrev S32x2x512 : Shape := ⟨3, ![32, 2, 512]⟩
abbrev S4x512x4096 : Shape := ⟨3, ![4, 512, 4096]⟩
abbrev S512x512 : Shape := ⟨2, ![512, 512]⟩
abbrev S1x2x512 : Shape := ⟨3, ![1, 2, 512]⟩
abbrev S1x512x512 : Shape := ⟨3, ![1, 512, 512]⟩
abbrev S8x1024 : Shape := ⟨2, ![8, 1024]⟩
abbrev S256x1024 : Shape := ⟨2, ![256, 1024]⟩
abbrev S1024 : Shape := ⟨1, ![1024]⟩
abbrev S1x1024 : Shape := ⟨2, ![1, 1024]⟩
abbrev S8x512 : Shape := ⟨2, ![8, 512]⟩
abbrev S2x512 : Shape := ⟨2, ![2, 512]⟩

abbrev nBuf : Space → Nat
  | .hbm => 37
  | .vmem => 28
  | .smem => 0
  | _ => 0

abbrev bufTy : (tb : Table) → Fin (tcTables nBuf tb) → BufTy
  | .hbm, ⟨0, _⟩ => ⟨S4x4096x1024, .f32⟩
  | .hbm, ⟨1, _⟩ => ⟨S1x1024x4096, .f32⟩
  | .hbm, ⟨2, _⟩ => ⟨S1024x4096, .f32⟩
  | .hbm, ⟨3, _⟩ => ⟨S1024x4096, .bf16⟩
  | .hbm, ⟨4, _⟩ => ⟨S1024x1024, .f32⟩
  | .hbm, ⟨5, _⟩ => ⟨S1024x1024, .bf16⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S1024x512, .bf16⟩
  | .hbm, ⟨10, _⟩ => ⟨S1024x512, .bf16⟩
  | .hbm, ⟨11, _⟩ => ⟨S1024x512, .bf16⟩
  | .hbm, ⟨12, _⟩ => ⟨S1024x512, .bf16⟩
  | .hbm, ⟨13, _⟩ => ⟨S1024x2048, .bf16⟩
  | .hbm, ⟨14, _⟩ => ⟨S1024x512, .bf16⟩
  | .hbm, ⟨15, _⟩ => ⟨S1024x512, .bf16⟩
  | .hbm, ⟨16, _⟩ => ⟨S1024x512, .bf16⟩
  | .hbm, ⟨17, _⟩ => ⟨S1024x512, .bf16⟩
  | .hbm, ⟨18, _⟩ => ⟨S1024x512, .bf16⟩
  | .hbm, ⟨19, _⟩ => ⟨S1024x512, .bf16⟩
  | .hbm, ⟨20, _⟩ => ⟨S1024x512, .bf16⟩
  | .hbm, ⟨21, _⟩ => ⟨S1024x3072, .bf16⟩
  | .hbm, ⟨22, _⟩ => ⟨S3072x1024, .bf16⟩
  | .hbm, ⟨23, _⟩ => ⟨S1024x512, .bf16⟩
  | .hbm, ⟨24, _⟩ => ⟨S512x1024, .bf16⟩
  | .hbm, ⟨25, _⟩ => ⟨S16384x1024, .f32⟩
  | .hbm, ⟨26, _⟩ => ⟨S16384x512, .bf16⟩
  | .hbm, ⟨27, _⟩ => ⟨S16384x512, .bf16⟩
  | .hbm, ⟨28, _⟩ => ⟨S16384x512, .bf16⟩
  | .hbm, ⟨29, _⟩ => ⟨S16384x512, .bf16⟩
  | .hbm, ⟨30, _⟩ => ⟨S32x2x512, .f32⟩
  | .hbm, ⟨31, _⟩ => ⟨S4x512x4096, .f32⟩
  | .hbm, ⟨32, _⟩ => ⟨S4x512x4096, .f32⟩
  | .hbm, ⟨33, _⟩ => ⟨S4x512x4096, .f32⟩
  | .hbm, ⟨34, _⟩ => ⟨S4x512x4096, .f32⟩
  | .hbm, ⟨35, _⟩ => ⟨S4x512x4096, .f32⟩
  | .hbm, ⟨36, _⟩ => ⟨S4x512x4096, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S1024x512, .bf16⟩
  | .local _ .vmem, ⟨4, _⟩ => ⟨S3072x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S1x2x512, .f32⟩
  | .local _ .vmem, ⟨15, _⟩ => ⟨S1x2x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | .local _ .vmem, ⟨27, _⟩ => ⟨S1x512x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24_0 : Ref sig .tc := ⟨.hbm, 26, rfl⟩
abbrev main_v24_1 : Ref sig .tc := ⟨.hbm, 27, rfl⟩
abbrev main_v24_2 : Ref sig .tc := ⟨.hbm, 28, rfl⟩
abbrev main_v24_3 : Ref sig .tc := ⟨.hbm, 29, rfl⟩
abbrev main_v24_4 : Ref sig .tc := ⟨.hbm, 30, rfl⟩
abbrev main_v24_5 : Ref sig .tc := ⟨.hbm, 31, rfl⟩
abbrev main_v24_6 : Ref sig .tc := ⟨.hbm, 32, rfl⟩
abbrev main_v24_7 : Ref sig .tc := ⟨.hbm, 33, rfl⟩
abbrev main_v24_8 : Ref sig .tc := ⟨.hbm, 34, rfl⟩
abbrev main_v24_9 : Ref sig .tc := ⟨.hbm, 35, rfl⟩
abbrev main_v24_10 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S4x4096x1024 : Shape := ⟨3, ![4, 4096, 1024]⟩
abbrev S1x1024x4096 : Shape := ⟨3, ![1, 1024, 4096]⟩
abbrev S1024x4096 : Shape := ⟨2, ![1024, 4096]⟩
abbrev S4x4096x4096 : Shape := ⟨3, ![4, 4096, 4096]⟩
abbrev S4x4096x512 : Shape := ⟨3, ![4, 4096, 512]⟩
abbrev S4x16x256x512 : Shape := ⟨4, ![4, 16, 256, 512]⟩
abbrev S_ : Shape := ⟨0, ![]⟩
abbrev S4x16x512 : Shape := ⟨3, ![4, 16, 512]⟩
abbrev S16384x512 : Shape := ⟨2, ![16384, 512]⟩
abbrev S32x2x512 : Shape := ⟨3, ![32, 2, 512]⟩
abbrev S4x512x4096 : Shape := ⟨3, ![4, 512, 4096]⟩

abbrev nBuf : Space → Nat
  | .hbm => 33
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024x4096, .f32⟩
  | .hbm, ⟨2, _⟩ => ⟨S1024x4096, .f32⟩
  | .hbm, ⟨3, _⟩ => ⟨S4x4096x4096, .f32⟩
  | .hbm, ⟨4, _⟩ => ⟨S4x4096x512, .f32⟩
  | .hbm, ⟨5, _⟩ => ⟨S4x4096x512, .f32⟩
  | .hbm, ⟨6, _⟩ => ⟨S4x4096x512, .f32⟩
  | .hbm, ⟨7, _⟩ => ⟨S4x4096x512, .f32⟩
  | .hbm, ⟨8, _⟩ => ⟨S4x4096x512, .f32⟩
  | .hbm, ⟨9, _⟩ => ⟨S4x4096x512, .f32⟩
  | .hbm, ⟨10, _⟩ => ⟨S4x4096x512, .f32⟩
  | .hbm, ⟨11, _⟩ => ⟨S4x4096x512, .f32⟩
  | .hbm, ⟨12, _⟩ => ⟨S4x16x256x512, .f32⟩
  | .hbm, ⟨13, _⟩ => ⟨S_, .f32⟩
  | .hbm, ⟨14, _⟩ => ⟨S4x16x512, .f32⟩
  | .hbm, ⟨15, _⟩ => ⟨S_, .f32⟩
  | .hbm, ⟨16, _⟩ => ⟨S4x16x512, .f32⟩
  | .hbm, ⟨17, _⟩ => ⟨S4x16x512, .f32⟩
  | .hbm, ⟨18, _⟩ => ⟨S16384x512, .f32⟩
  | .hbm, ⟨19, _⟩ => ⟨S16384x512, .bf16⟩
  | .hbm, ⟨20, _⟩ => ⟨S16384x512, .f32⟩
  | .hbm, ⟨21, _⟩ => ⟨S16384x512, .bf16⟩
  | .hbm, ⟨22, _⟩ => ⟨S16384x512, .f32⟩
  | .hbm, ⟨23, _⟩ => ⟨S16384x512, .bf16⟩
  | .hbm, ⟨24, _⟩ => ⟨S16384x512, .f32⟩
  | .hbm, ⟨25, _⟩ => ⟨S16384x512, .bf16⟩
  | .hbm, ⟨26, _⟩ => ⟨S32x2x512, .f32⟩
  | .hbm, ⟨27, _⟩ => ⟨S4x512x4096, .f32⟩
  | .hbm, ⟨28, _⟩ => ⟨S4x512x4096, .f32⟩
  | .hbm, ⟨29, _⟩ => ⟨S4x512x4096, .f32⟩
  | .hbm, ⟨30, _⟩ => ⟨S4x512x4096, .f32⟩
  | .hbm, ⟨31, _⟩ => ⟨S4x512x4096, .f32⟩
  | .hbm, ⟨32, _⟩ => ⟨S4x512x4096, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096x8x64 : Shape := ⟨4, ![4, 4096, 8, 64]⟩
abbrev S4x4096x512 : Shape := ⟨3, ![4, 4096, 512]⟩
abbrev S1x1024x1024 : Shape := ⟨3, ![1, 1024, 1024]⟩
abbrev S1x1024 : Shape := ⟨2, ![1, 1024]⟩
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 24
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x4096x8x64, .f32⟩
  | .hbm, ⟨2, _⟩ => ⟨S4x4096x512, .f32⟩
  | .hbm, ⟨3, _⟩ => ⟨S4x4096x8x64, .f32⟩
  | .hbm, ⟨4, _⟩ => ⟨S4x4096x512, .f32⟩
  | .hbm, ⟨5, _⟩ => ⟨S1x1024x1024, .f32⟩
  | .hbm, ⟨6, _⟩ => ⟨S1x1024, .f32⟩
  | .hbm, ⟨7, _⟩ => ⟨S1x1024, .f32⟩
  | .hbm, ⟨8, _⟩ => ⟨S16384x1024, .f32⟩
  | .hbm, ⟨9, _⟩ => ⟨S16384x512, .f32⟩
  | .hbm, ⟨10, _⟩ => ⟨S16384x512, .bf16⟩
  | .hbm, ⟨11, _⟩ => ⟨S16384x512, .f32⟩
  | .hbm, ⟨12, _⟩ => ⟨S16384x512, .bf16⟩
  | .hbm, ⟨13, _⟩ => ⟨S16384x512, .f32⟩
  | .hbm, ⟨14, _⟩ => ⟨S16384x512, .bf16⟩
  | .hbm, ⟨15, _⟩ => ⟨S16384x512, .f32⟩
  | .hbm, ⟨16, _⟩ => ⟨S16384x512, .bf16⟩
  | .hbm, ⟨17, _⟩ => ⟨S1024x1024, .f32⟩
  | .hbm, ⟨18, _⟩ => ⟨S1024x1024, .bf16⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S4x4096x1024 : Shape := ⟨3, ![4, 4096, 1024]⟩
abbrev S4x4096x8x64 : Shape := ⟨4, ![4, 4096, 8, 64]⟩
abbrev S4x4096x512 : Shape := ⟨3, ![4, 4096, 512]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 69
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x8x64, .f32⟩
  | .hbm, ⟨2, _⟩ => ⟨S4x4096x512, .f32⟩
  | .hbm, ⟨3, _⟩ => ⟨S4x4096x8x64, .f32⟩
  | .hbm, ⟨4, _⟩ => ⟨S4x4096x512, .f32⟩
  | .hbm, ⟨5, _⟩ => ⟨S1x1024x1024, .f32⟩
  | .hbm, ⟨6, _⟩ => ⟨S1x1024, .f32⟩
  | .hbm, ⟨7, _⟩ => ⟨S1x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S4x4096x512, .f32⟩
  | .hbm, ⟨12, _⟩ => ⟨S4x4096x512, .f32⟩
  | .hbm, ⟨13, _⟩ => ⟨S4x4096x512, .f32⟩
  | .hbm, ⟨14, _⟩ => ⟨S_, .f32⟩
  | .hbm, ⟨15, _⟩ => ⟨S4x4096x512, .f32⟩
  | .hbm, ⟨16, _⟩ => ⟨S4x4096x512, .f32⟩
  | .hbm, ⟨17, _⟩ => ⟨S_, .f32⟩
  | .hbm, ⟨18, _⟩ => ⟨S4x4096x512, .f32⟩
  | .hbm, ⟨19, _⟩ => ⟨S4x4096x512, .f32⟩
  | .hbm, ⟨20, _⟩ => ⟨S4x4096x512, .f32⟩
  | .hbm, ⟨21, _⟩ => ⟨S4x4096x512, .f32⟩
  | .hbm, ⟨22, _⟩ => ⟨S4x4096x512, .f32⟩
  | .hbm, ⟨23, _⟩ => ⟨S4x4096x512, .f32⟩
  | .hbm, ⟨24, _⟩ => ⟨S4x4096x512, .f32⟩
  | .hbm, ⟨25, _⟩ => ⟨S_, .f32⟩
  | .hbm, ⟨26, _⟩ => ⟨S4x4096x512, .f32⟩
  | .hbm, ⟨27, _⟩ => ⟨S4x4096x512, .f32⟩
  | .hbm, ⟨28, _⟩ => ⟨S_, .f32⟩
  | .hbm, ⟨29, _⟩ => ⟨S4x4096x512, .f32⟩
  | .hbm, ⟨30, _⟩ => ⟨S4x4096x512, .f32⟩
  | .hbm, ⟨31, _⟩ => ⟨S4x4096x512, .f32⟩
  | .hbm, ⟨32, _⟩ => ⟨S4x4096x512, .f32⟩
  | .hbm, ⟨33, _⟩ => ⟨S4x4096x1024, .f32⟩
  | .hbm, ⟨34, _⟩ => ⟨S4x4096x1024, .f32⟩
  | .hbm, ⟨35, _⟩ => ⟨S_, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S4x4096x1024, .f32⟩
  | .hbm, ⟨46, _⟩ => ⟨S4x4096x1024, .f32⟩
  | .hbm, ⟨47, _⟩ => ⟨S4x4096x1024, .f32⟩
  | .hbm, ⟨48, _⟩ => ⟨S_, .f32⟩
  | .hbm, ⟨49, _⟩ => ⟨S4x4096, .f32⟩
  | .hbm, ⟨50, _⟩ => ⟨S4x4096x1, .f32⟩
  | .hbm, ⟨51, _⟩ => ⟨S_, .f32⟩
  | .hbm, ⟨52, _⟩ => ⟨S4x4096x1, .f32⟩
  | .hbm, ⟨53, _⟩ => ⟨S4x4096x1, .f32⟩
  | .hbm, ⟨54, _⟩ => ⟨S4x4096x1024, .f32⟩
  | .hbm, ⟨55, _⟩ => ⟨S4x4096x1024, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S4x4096x1, .f32⟩
  | .hbm, ⟨60, _⟩ => ⟨S4x4096x1024, .f32⟩
  | .hbm, ⟨61, _⟩ => ⟨S4x4096x1024, .f32⟩
  | .hbm, ⟨62, _⟩ => ⟨S1x1x1024, .f32⟩
  | .hbm, ⟨63, _⟩ => ⟨S4x4096x1024, .f32⟩
  | .hbm, ⟨64, _⟩ => ⟨S4x4096x1024, .f32⟩
  | .hbm, ⟨65, _⟩ => ⟨S1x1x1024, .f32⟩
  | .hbm, ⟨66, _⟩ => ⟨S4x4096x1024, .f32⟩
  | .hbm, ⟨67, _⟩ => ⟨S4x4096x1024, .f32⟩
  | .hbm, ⟨68, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_0 : Ref sig .tc := ⟨.hbm, 39, rfl⟩
abbrev main_v14 : Ref sig .tc := ⟨.hbm, 40, rfl⟩
abbrev main_v15 : Ref sig .tc := ⟨.hbm, 41, rfl⟩
abbrev main_cst_1 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_2 : Ref sig .tc := ⟨.hbm, 48, rfl⟩
abbrev main_v21 : Ref sig .tc := ⟨.hbm, 49, rfl⟩
abbrev main_v22 : Ref sig .tc := ⟨.hbm, 50, rfl⟩
abbrev main_cst_3 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_4 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩

abbrev nD : Nat := 1
abbrev τ : Topo := Topo.v7x

variable {F : FTy → Type} [FloatOps F]
-- ==== Kernel4.lean ====
abbrev S32x4x1024 : Shape := ⟨3, ![32, 4, 1024]⟩
abbrev S1x1024x4096 : Shape := ⟨3, ![1, 1024, 4096]⟩
abbrev S1024x4096 : Shape := ⟨2, ![1024, 4096]⟩
abbrev S1024x1024 : Shape := ⟨2, ![1024, 1024]⟩
abbrev S128x1024 : Shape := ⟨2, ![128, 1024]⟩
abbrev S128x512 : Shape := ⟨2, ![128, 512]⟩
abbrev S1024x512 : Shape := ⟨2, ![1024, 512]⟩

abbrev nBuf : Space → Nat
  | .hbm => 18
  | .vmem => 11
  | .smem => 0
  | _ => 0

abbrev bufTy : (tb : Table) → Fin (tcTables nBuf tb) → BufTy
  | .hbm, ⟨0, _⟩ => ⟨S32x4x1024, .f32⟩
  | .hbm, ⟨1, _⟩ => ⟨S1x1024x4096, .f32⟩
  | .hbm, ⟨2, _⟩ => ⟨S1024x4096, .f32⟩
  | .hbm, ⟨3, _⟩ => ⟨S1024x4096, .bf16⟩
  | .hbm, ⟨4, _⟩ => ⟨S1024x1024, .f32⟩
  | .hbm, ⟨5, _⟩ => ⟨S1024x1024, .bf16⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S128x1024, .f32⟩
  | .hbm, ⟨10, _⟩ => ⟨S128x512, .f32⟩
  | .hbm, ⟨11, _⟩ => ⟨S128x512, .f32⟩
  | .hbm, ⟨12, _⟩ => ⟨S128x512, .f32⟩
  | .hbm, ⟨13, _⟩ => ⟨S128x512, .f32⟩
  | .hbm, ⟨14, _⟩ => ⟨S128x512, .f32⟩
  | .hbm, ⟨15, _⟩ => ⟨S128x512, .f32⟩
  | .hbm, ⟨16, _⟩ => ⟨S128x512, .f32⟩
  | .hbm, ⟨17, _⟩ => ⟨S128x512, .f32⟩
  | .local _ .vmem, ⟨0, _⟩ => ⟨S128x1024, .f32⟩
  | .local _ .vmem, ⟨1, _⟩ => ⟨S1024x4096, .bf16⟩
  | .local _ .vmem, ⟨2, _⟩ => ⟨S1024x1024, .bf16⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8_0 : Ref sig .tc := ⟨.hbm, 10, rfl⟩
abbrev main_v8_1 : Ref sig .tc := ⟨.hbm, 11, rfl⟩
abbrev main_v8_2 : Ref sig .tc := ⟨.hbm, 12, rfl⟩
abbrev main_v8_3 : Ref sig .tc := ⟨.hbm, 13, rfl⟩
abbrev main_v8_4 : Ref sig .tc := ⟨.hbm, 14, rfl⟩
abbrev main_v8_5 : Ref sig .tc := ⟨.hbm, 15, rfl⟩
abbrev main_v8_6 : Ref sig .tc := ⟨.hbm, 16, rfl⟩
abbrev main_v8_7 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference4Ideal.lean ====
abbrev S32x4x1024 : Shape := ⟨3, ![32, 4, 1024]⟩
abbrev S1x1024x4096 : Shape := ⟨3, ![1, 1024, 4096]⟩
abbrev S1024x4096 : Shape := ⟨2, ![1024, 4096]⟩
abbrev S32x4x4096 : Shape := ⟨3, ![32, 4, 4096]⟩
abbrev S32x4x512 : Shape := ⟨3, ![32, 4, 512]⟩
abbrev S128x512 : Shape := ⟨2, ![128, 512]⟩

abbrev nBuf : Space → Nat
  | .hbm => 20
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1x1024x4096, .f32⟩
  | .hbm, ⟨2, _⟩ => ⟨S1024x4096, .f32⟩
  | .hbm, ⟨3, _⟩ => ⟨S32x4x4096, .f32⟩
  | .hbm, ⟨4, _⟩ => ⟨S32x4x512, .f32⟩
  | .hbm, ⟨5, _⟩ => ⟨S32x4x512, .f32⟩
  | .hbm, ⟨6, _⟩ => ⟨S32x4x512, .f32⟩
  | .hbm, ⟨7, _⟩ => ⟨S32x4x512, .f32⟩
  | .hbm, ⟨8, _⟩ => ⟨S32x4x512, .f32⟩
  | .hbm, ⟨9, _⟩ => ⟨S32x4x512, .f32⟩
  | .hbm, ⟨10, _⟩ => ⟨S32x4x512, .f32⟩
  | .hbm, ⟨11, _⟩ => ⟨S32x4x512, .f32⟩
  | .hbm, ⟨12, _⟩ => ⟨S128x512, .f32⟩
  | .hbm, ⟨13, _⟩ => ⟨S128x512, .f32⟩
  | .hbm, ⟨14, _⟩ => ⟨S128x512, .f32⟩
  | .hbm, ⟨15, _⟩ => ⟨S128x512, .f32⟩
  | .hbm, ⟨16, _⟩ => ⟨S128x512, .f32⟩
  | .hbm, ⟨17, _⟩ => ⟨S128x512, .f32⟩
  | .hbm, ⟨18, _⟩ => ⟨S128x512, .f32⟩
  | .hbm, ⟨19, _⟩ => ⟨S128x512, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩

abbrev nD : Nat := 1
abbrev τ : Topo := Topo.v7x

variable {F : FTy → Type} [FloatOps F]
-- ==== Kernel5.lean ====
abbrev S32x4x1024 : Shape := ⟨3, ![32, 4, 1024]⟩
abbrev S32x4x8x64 : Shape := ⟨4, ![32, 4, 8, 64]⟩
abbrev S32x4x512 : Shape := ⟨3, ![32, 4, 512]⟩
abbrev S1x1024x1024 : Shape := ⟨3, ![1, 1024, 1024]⟩
abbrev S1x1024 : Shape := ⟨2, ![1, 1024]⟩
abbrev S128x1024 : Shape := ⟨2, ![128, 1024]⟩
abbrev S128x512 : Shape := ⟨2, ![128, 512]⟩
abbrev S1024x1024 : Shape := ⟨2, ![1024, 1024]⟩
abbrev S1024 : Shape := ⟨1, ![1024]⟩
abbrev S128 : Shape := ⟨1, ![128]⟩
abbrev S128x1 : Shape := ⟨2, ![128, 1]⟩

abbrev nBuf : Space → Nat
  | .hbm => 20
  | .vmem => 9
  | .smem => 0
  | _ => 0

abbrev bufTy : (tb : Table) → Fin (tcTables nBuf tb) → BufTy
  | .hbm, ⟨0, _⟩ => ⟨S32x4x1024, .f32⟩
  | .hbm, ⟨1, _⟩ => ⟨S32x4x8x64, .f32⟩
  | .hbm, ⟨2, _⟩ => ⟨S32x4x512, .f32⟩
  | .hbm, ⟨3, _⟩ => ⟨S32x4x8x64, .f32⟩
  | .hbm, ⟨4, _⟩ => ⟨S32x4x512, .f32⟩
  | .hbm, ⟨5, _⟩ => ⟨S1x1024x1024, .f32⟩
  | .hbm, ⟨6, _⟩ => ⟨S1x1024, .f32⟩
  | .hbm, ⟨7, _⟩ => ⟨S1x1024, .f32⟩
  | .hbm, ⟨8, _⟩ => ⟨S128x1024, .f32⟩
  | .hbm, ⟨9, _⟩ => ⟨S128x512, .f32⟩
  | .hbm, ⟨10, _⟩ => ⟨S128x512, .f32⟩
  | .hbm, ⟨11, _⟩ => ⟨S128x512, .f32⟩
  | .hbm, ⟨12, _⟩ => ⟨S128x512, .f32⟩
  | .hbm, ⟨13, _⟩ => ⟨S1024x1024, .f32⟩
  | .hbm, ⟨14, _⟩ => ⟨S1024x1024, .bf16⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S128x1024, .f32⟩
  | .local _ .vmem, ⟨0, _⟩ => ⟨S128x1024, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S128x1024, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference5Ideal.lean ====
abbrev S32x4x1024 : Shape := ⟨3, ![32, 4, 1024]⟩
abbrev S32x4x8x64 : Shape := ⟨4, ![32, 4, 8, 64]⟩
abbrev S32x4x512 : Shape := ⟨3, ![32, 4, 512]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S128x1024 : Shape := ⟨2, ![128, 1024]⟩

abbrev nBuf : Space → Nat
  | .hbm => 69
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x4x8x64, .f32⟩
  | .hbm, ⟨2, _⟩ => ⟨S32x4x512, .f32⟩
  | .hbm, ⟨3, _⟩ => ⟨S32x4x8x64, .f32⟩
  | .hbm, ⟨4, _⟩ => ⟨S32x4x512, .f32⟩
  | .hbm, ⟨5, _⟩ => ⟨S1x1024x1024, .f32⟩
  | .hbm, ⟨6, _⟩ => ⟨S1x1024, .f32⟩
  | .hbm, ⟨7, _⟩ => ⟨S1x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S32x4x512, .f32⟩
  | .hbm, ⟨12, _⟩ => ⟨S32x4x512, .f32⟩
  | .hbm, ⟨13, _⟩ => ⟨S32x4x512, .f32⟩
  | .hbm, ⟨14, _⟩ => ⟨S_, .f32⟩
  | .hbm, ⟨15, _⟩ => ⟨S32x4x512, .f32⟩
  | .hbm, ⟨16, _⟩ => ⟨S32x4x512, .f32⟩
  | .hbm, ⟨17, _⟩ => ⟨S_, .f32⟩
  | .hbm, ⟨18, _⟩ => ⟨S32x4x512, .f32⟩
  | .hbm, ⟨19, _⟩ => ⟨S32x4x512, .f32⟩
  | .hbm, ⟨20, _⟩ => ⟨S32x4x512, .f32⟩
  | .hbm, ⟨21, _⟩ => ⟨S32x4x512, .f32⟩
  | .hbm, ⟨22, _⟩ => ⟨S32x4x512, .f32⟩
  | .hbm, ⟨23, _⟩ => ⟨S32x4x512, .f32⟩
  | .hbm, ⟨24, _⟩ => ⟨S32x4x512, .f32⟩
  | .hbm, ⟨25, _⟩ => ⟨S_, .f32⟩
  | .hbm, ⟨26, _⟩ => ⟨S32x4x512, .f32⟩
  | .hbm, ⟨27, _⟩ => ⟨S32x4x512, .f32⟩
  | .hbm, ⟨28, _⟩ => ⟨S_, .f32⟩
  | .hbm, ⟨29, _⟩ => ⟨S32x4x512, .f32⟩
  | .hbm, ⟨30, _⟩ => ⟨S32x4x512, .f32⟩
  | .hbm, ⟨31, _⟩ => ⟨S32x4x512, .f32⟩
  | .hbm, ⟨32, _⟩ => ⟨S32x4x512, .f32⟩
  | .hbm, ⟨33, _⟩ => ⟨S32x4x1024, .f32⟩
  | .hbm, ⟨34, _⟩ => ⟨S32x4x1024, .f32⟩
  | .hbm, ⟨35, _⟩ => ⟨S_, .f32⟩
  | .hbm, ⟨36, _⟩ => ⟨S32x4x1024, .f32⟩
  | .hbm, ⟨37, _⟩ => ⟨S32x4x1024, .f32⟩
  | .hbm, ⟨38, _⟩ => ⟨S32x4x1024, .f32⟩
  | .hbm, ⟨39, _⟩ => ⟨S_, .f32⟩
  | .hbm, ⟨40, _⟩ => ⟨S32x4, .f32⟩
  | .hbm, ⟨41, _⟩ => ⟨S32x4x1, .f32⟩
  | .hbm, ⟨42, _⟩ => ⟨S_, .f32⟩
  | .hbm, ⟨43, _⟩ => ⟨S32x4x1, .f32⟩
  | .hbm, ⟨44, _⟩ => ⟨S32x4x1, .f32⟩
  | .hbm, ⟨45, _⟩ => ⟨S32x4x1024, .f32⟩
  | .hbm, ⟨46, _⟩ => ⟨S32x4x1024, .f32⟩
  | .hbm, ⟨47, _⟩ => ⟨S32x4x1024, .f32⟩
  | .hbm, ⟨48, _⟩ => ⟨S_, .f32⟩
  | .hbm, ⟨49, _⟩ => ⟨S32x4, .f32⟩
  | .hbm, ⟨50, _⟩ => ⟨S32x4x1, .f32⟩
  | .hbm, ⟨51, _⟩ => ⟨S_, .f32⟩
  | .hbm, ⟨52, _⟩ => ⟨S32x4x1, .f32⟩
  | .hbm, ⟨53, _⟩ => ⟨S32x4x1, .f32⟩
  | .hbm, ⟨54, _⟩ => ⟨S32x4x1024, .f32⟩
  | .hbm, ⟨55, _⟩ => ⟨S32x4x1024, .f32⟩
  | .hbm, ⟨56, _⟩ => ⟨S_, .f32⟩
  | .hbm, ⟨57, _⟩ => ⟨S32x4x1, .f32⟩
  | .hbm, ⟨58, _⟩ => ⟨S32x4x1, .f32⟩
  | .hbm, ⟨59, _⟩ => ⟨S32x4x1, .f32⟩
  | .hbm, ⟨60, _⟩ => ⟨S32x4x1024, .f32⟩
  | .hbm, ⟨61, _⟩ => ⟨S32x4x1024, .f32⟩
  | .hbm, ⟨62, _⟩ => ⟨S1x1x1024, .f32⟩
  | .hbm, ⟨63, _⟩ => ⟨S32x4x1024, .f32⟩
  | .hbm, ⟨64, _⟩ => ⟨S32x4x1024, .f32⟩
  | .hbm, ⟨65, _⟩ => ⟨S1x1x1024, .f32⟩
  | .hbm, ⟨66, _⟩ => ⟨S32x4x1024, .f32⟩
  | .hbm, ⟨67, _⟩ => ⟨S32x4x1024, .f32⟩
  | .hbm, ⟨68, _⟩ => ⟨S128x1024, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_0 : Ref sig .tc := ⟨.hbm, 39, rfl⟩
abbrev main_v14 : Ref sig .tc := ⟨.hbm, 40, rfl⟩
abbrev main_v15 : Ref sig .tc := ⟨.hbm, 41, rfl⟩
abbrev main_cst_1 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_2 : Ref sig .tc := ⟨.hbm, 48, rfl⟩
abbrev main_v21 : Ref sig .tc := ⟨.hbm, 49, rfl⟩
abbrev main_v22 : Ref sig .tc := ⟨.hbm, 50, rfl⟩
abbrev main_cst_3 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_4 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩

abbrev nD : Nat := 1
abbrev τ : Topo := Topo.v7x

variable {F : FTy → Type} [FloatOps F]
-- ==== Proof.Mem.lean ====
/-
  Loads and stores against what a memory reference READS. A kernel body is proved here over symbolic buffers, each known
  only by its contents as an array of its shape (`owns c m fullShare X`); a load through a rectangle hands the body those
  contents at the rectangle's indices, and a store replaces them there.
-/
module

public import Idealize.ShloMosaic.Lib.Pipeline.FrameBody
public import Idealize.ShloMosaic.Lib.Tactic
public import Idealize.ShloMosaic.Lib.ValueIdx

@[expose] public section

noncomputable section

namespace Cert.Proof.Mem

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type} [Preorder Lvl]
variable {Λ : Labels} {defs : Defs nD τ sig Val Λ} (𝒱 : Variants) (c : Thread nD τ) (bd : Option 𝒱.V) (E : Set Name)
variable {α : Type} {Q : α → sProp (MT nD τ sig Ix Val Name U Lvl)}

local notation "𝕄" => MT nD τ sig Ix Val Name U Lvl

/-- Storing through the rectangle `r` of a view leaves the view's contents replaced by the stored array there. -/
theorem read_store {κ : Kind} {sp : Space} {s : Shape} {e : EltTy} (v : View sig κ sp s e) (f : v.ty.Contents Val) (r : Rect s)
    (w : r.shape.Idx → Val e) : v.read Val ((v.slice r).write Val f w Finset.univ) = r.overlay (v.read Val f) w := by
  funext y
  by_cases hy : y ∈ r.set
  · obtain ⟨x, rfl⟩ : ∃ x, r.emb x = y := r.exists_idx_of_mem hy
    rw [Rect.overlay_emb]
    exact View.read_writes_cons_emb (v := v) (f := f) r w [] x
  · rw [Rect.overlay_of_not_mem _ _ _ hy]
    exact View.read_slice_write_of_not_mem r _ _ _ (by rwa [Rect.map_emb_univ])

/-- A load through a rectangle, by contents. -/
theorem own_load {cs : CoreSpace} {s : Shape} {e : EltTy} {m : Memref sig c.2.kind cs s e} {r : Rect s} {hl : m.view.LoadsAt r}
    {k : (r.shape.Idx → Val e) → Prog (TpuEff nD τ sig Val Λ c.2) α} {q : PosShare TreeShare} {X : s.Idx → Val e} :
    (owns c m q X : sProp 𝕄)
      ⊢ iprop(((owns c m q X) -∗ wp frame (wpE defs 𝒱 c bd) E (k (View.ld X r)) Q)
        -∗ wp frame (wpE defs 𝒱 c bd) E (.op (.load m r.toLoadRect hl) k) Q) := by
  unfold owns
  iintro ⟨%f, %hf, H⟩ Hk
  subst hf
  iapply (wp_load 𝒱 c bd E (m := m) (View.setOn_subset_set _ _)) $$ H
  iintro H
  iapply Hk
  iexists f
  isplitr
  · ipureintro; rfl
  · iexact H

/-- An unmasked store through a rectangle, by contents. -/
theorem own_store {cs : CoreSpace} {s : Shape} {e : EltTy} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} :
    (owns c m fullShare X : sProp 𝕄)
      ⊢ iprop(((owns c m fullShare (r.overlay X w)) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  subst hf
  iapply (wp_store 𝒱 c bd E (m := m) (r := r) (Mk := Finset.univ) (S := m.view.set) (View.set_slice_subset _ _)) $$ H
  iintro H
  iapply Hk
  iexists ((m.view.slice r).write Val f w Finset.univ)
  isplitr
  · ipureintro; exact read_store m.view f r w
  · iexact H

/-- A load through a rectangle whose value is already named. -/
theorem own_load_eq {cs : CoreSpace} {s : Shape} {e : EltTy} {m : Memref sig c.2.kind cs s e} {r : Rect s} {hl : m.view.LoadsAt r}
    {k : (r.shape.Idx → Val e) → Prog (TpuEff nD τ sig Val Λ c.2) α} {q : PosShare TreeShare} {X : s.Idx → Val e}
    {v : r.shape.Idx → Val e} (hv : View.ld X r = v) :
    (owns c m q X : sProp 𝕄)
      ⊢ iprop(((owns c m q X) -∗ wp frame (wpE defs 𝒱 c bd) E (k v) Q)
        -∗ wp frame (wpE defs 𝒱 c bd) E (.op (.load m r.toLoadRect hl) k) Q) := by
  subst hv; exact own_load 𝒱 c bd E

/-- A load through a rectangle that is the whole shape is the contents. -/
theorem ld_whole {s : Shape} {e : EltTy} (X : s.Idx → Val e) {off : Fin s.rank → ℕ} (h0 : off = fun _ => 0)
    (inb : ∀ a, off a + s.size a ≤ s.size a) : (View.ld X (Rect.unit (s := s) off s.size inb) : s.Idx → Val e) = X := by
  subst h0
  funext y
  refine congrArg X (funext fun a => Fin.ext ?_)
  show 0 + 1 * (y a).val = (y a).val
  omega

/-- A store through a rectangle that is the whole shape replaces the contents. -/
theorem own_store_whole {cs : CoreSpace} {s : Shape} {e : EltTy} {m : Memref sig c.2.kind cs s e} {off : Fin s.rank → ℕ}
    (h0 : off = fun _ => 0) {inb : ∀ a, off a + s.size a ≤ s.size a} {w : s.Idx → Val e}
    {hx : (m.access (Rect.unit (s := s) off s.size inb)).Stores Finset.univ}
    {hm : (Finset.univ : Finset (Rect.unit (s := s) off s.size inb).shape.Idx) = Finset.univ ∨ ∀ a, (Rect.unit (s := s) off s.size inb).stride a = 1}
    {k : PUnit → Prog (TpuEff nD τ sig Val Λ c.2) α} {X : s.Idx → Val e} :
    (owns c m fullShare X : sProp 𝕄)
      ⊢ iprop(((owns c m fullShare w) -∗ wp frame (wpE defs 𝒱 c bd) E (k ⟨⟩) Q)
        -∗ wp frame (wpE defs 𝒱 c bd) E (.op (.store m (Rect.unit (s := s) off s.size inb) w Finset.univ hx hm) k) Q) := by
  have h := own_store (defs := defs) 𝒱 c bd E (Q := Q) (m := m) (r := Rect.unit (s := s) off s.size inb) (w := w) (hx := hx) (hm := hm) (k := k) (X := X)
  have he : (Rect.unit (s := s) off s.size inb).overlay X w = w := by
    subst h0
    funext y
    have hy : (Rect.unit (s := s) (fun _ => 0) s.size inb).emb y = y := by
      funext a; apply Fin.ext
      show 0 + 1 * (y a).val = (y a).val
      omega
    have h := Rect.overlay_emb (Rect.unit (s := s) (fun _ => 0) s.size inb) X w y
    rwa [hy] at h
  rwa [he] at h

/-! ## A buffer known on two disjoint rectangles -/

/-- The contents are `a` on the one and `b` on the other. -/
def two {cs : CoreSpace} {s : Shape} {e : EltTy} (m : Memref sig c.2.kind cs s e) (r0 r1 : Rect s)
    (a : r0.shape.Idx → Val e) (b : r1.shape.Idx → Val e) : sProp 𝕄 :=
  iprop(∃ X : s.Idx → Val e, ⌜View.ld X r0 = a ∧ View.ld X r1 = b⌝ ∗ owns c m fullShare X)

section Two
variable {cs : CoreSpace} {s : Shape} {e : EltTy} {m : Memref sig c.2.kind cs s e} {r0 r1 : Rect s}
    {a : r0.shape.Idx → Val e} {b : r1.shape.Idx → Val e}

theorem ld_overlay_self (r : Rect s) (X : s.Idx → Val e) (w : r.shape.Idx → Val e) : View.ld (r.overlay X w) r = w := by
  funext x; exact Rect.overlay_emb r X w x

theorem ld_overlay_of_disjoint {r r' : Rect s} (hd : ∀ x, r'.idx x ∉ r.set) (X : s.Idx → Val e) (w : r.shape.Idx → Val e) :
    View.ld (r.overlay X w) r' = View.ld X r' := by
  funext x; exact Rect.overlay_of_not_mem r X w (hd x)

theorem two_intro {X : s.Idx → Val e} : (owns c m fullShare X : sProp 𝕄) ⊢ two c m r0 r1 (View.ld X r0) (View.ld X r1) := by
  unfold two; iintro H; iexists X; isplitr
  · ipureintro; exact ⟨rfl, rfl⟩
  · iexact H

theorem two_elim : (two c m r0 r1 a b : sProp 𝕄) ⊢ iprop(∃ X, owns c m fullShare X) := by
  unfold two; iintro ⟨%X, -, H⟩; iexists X; iexact H

theorem two_load0 {hl : m.view.LoadsAt r0} {k : (r0.shape.Idx → Val e) → Prog (TpuEff nD τ sig Val Λ c.2) α} :
    (two c m r0 r1 a b : sProp 𝕄)
      ⊢ iprop(((two c m r0 r1 a b) -∗ wp frame (wpE defs 𝒱 c bd) E (k a) Q)
        -∗ wp frame (wpE defs 𝒱 c bd) E (.op (.load m r0.toLoadRect hl) k) Q) := by
  unfold two
  iintro ⟨%X, %h, H⟩ Hk
  iapply (own_load_eq 𝒱 c bd E h.1) $$ H
  iintro H; iapply Hk; iexists X; isplitr
  · ipureintro; exact h
  · iexact H

theorem two_load1 {hl : m.view.LoadsAt r1} {k : (r1.shape.Idx → Val e) → Prog (TpuEff nD τ sig Val Λ c.2) α} :
    (two c m r0 r1 a b : sProp 𝕄)
      ⊢ iprop(((two c m r0 r1 a b) -∗ wp frame (wpE defs 𝒱 c bd) E (k b) Q)
        -∗ wp frame (wpE defs 𝒱 c bd) E (.op (.load m r1.toLoadRect hl) k) Q) := by
  unfold two
  iintro ⟨%X, %h, H⟩ Hk
  iapply (own_load_eq 𝒱 c bd E h.2) $$ H
  iintro H; iapply Hk; iexists X; isplitr
  · ipureintro; exact h
  · iexact H

theorem two_store0 (hd : ∀ x, r1.idx x ∉ r0.set) {w : r0.shape.Idx → Val e}
    {hx : (m.access r0).Stores Finset.univ} {hm : (Finset.univ : Finset r0.shape.Idx) = Finset.univ ∨ ∀ a, r0.stride a = 1}
    {k : PUnit → Prog (TpuEff nD τ sig Val Λ c.2) α} :
    (two c m r0 r1 a b : sProp 𝕄)
      ⊢ iprop(((two c m r0 r1 w b) -∗ wp frame (wpE defs 𝒱 c bd) E (k ⟨⟩) Q)
        -∗ wp frame (wpE defs 𝒱 c bd) E (.op (.store m r0 w Finset.univ hx hm) k) Q) := by
  unfold two
  iintro ⟨%X, %h, H⟩ Hk
  iapply (own_store 𝒱 c bd E) $$ H
  iintro H; iapply Hk; iexists (r0.overlay X w); isplitr
  · ipureintro; exact ⟨ld_overlay_self r0 X w, (ld_overlay_of_disjoint hd X w).trans h.2⟩
  · iexact H

theorem two_store1 (hd : ∀ x, r0.idx x ∉ r1.set) {w : r1.shape.Idx → Val e}
    {hx : (m.access r1).Stores Finset.univ} {hm : (Finset.univ : Finset r1.shape.Idx) = Finset.univ ∨ ∀ a, r1.stride a = 1}
    {k : PUnit → Prog (TpuEff nD τ sig Val Λ c.2) α} :
    (two c m r0 r1 a b : sProp 𝕄)
      ⊢ iprop(((two c m r0 r1 a w) -∗ wp frame (wpE defs 𝒱 c bd) E (k ⟨⟩) Q)
        -∗ wp frame (wpE defs 𝒱 c bd) E (.op (.store m r1 w Finset.univ hx hm) k) Q) := by
  unfold two
  iintro ⟨%X, %h, H⟩ Hk
  iapply (own_store 𝒱 c bd E) $$ H
  iintro H; iapply Hk; iexists (r1.overlay X w); isplitr
  · ipureintro; exact ⟨(ld_overlay_of_disjoint hd X w).trans h.1, ld_overlay_self r1 X w⟩
  · iexact H

end Two

/-! ## A buffer filled rectangle by rectangle -/

/-- The first `n` rectangles of a family hold their values. -/
def upto {cs : CoreSpace} {s : Shape} {e : EltTy} {N : ℕ} (m : Memref sig c.2.kind cs s e) (r : Fin N → Rect s)
    (G : (j : Fin N) → (r j).shape.Idx → Val e) (n : ℕ) : sProp 𝕄 :=
  iprop(∃ X : s.Idx → Val e, ⌜∀ j : Fin N, j.val < n → View.ld X (r j) = G j⌝ ∗ owns c m fullShare X)

section Upto
variable {cs : CoreSpace} {s : Shape} {e : EltTy} {N : ℕ} {m : Memref sig c.2.kind cs s e} {r : Fin N → Rect s}
    {G : (j : Fin N) → (r j).shape.Idx → Val e} {n : ℕ}

theorem upto_intro {X : s.Idx → Val e} : (owns c m fullShare X : sProp 𝕄) ⊢ upto c m r G 0 := by
  unfold upto; iintro H; iexists X; isplitr
  · ipureintro; exact fun j hj => absurd hj (Nat.not_lt_zero _)
  · iexact H

theorem upto_elim : (upto c m r G n : sProp 𝕄)
    ⊢ iprop(∃ X : s.Idx → Val e, ⌜∀ j : Fin N, j.val < n → View.ld X (r j) = G j⌝ ∗ owns c m fullShare X) := by
  unfold upto; exact .rfl

theorem upto_load {r' : Rect s} {hl : m.view.LoadsAt r'} {k : (r'.shape.Idx → Val e) → Prog (TpuEff nD τ sig Val Λ c.2) α} :
    (upto c m r G n : sProp 𝕄)
      ⊢ iprop((∀ v, (upto c m r G n) -∗ wp frame (wpE defs 𝒱 c bd) E (k v) Q)
        -∗ wp frame (wpE defs 𝒱 c bd) E (.op (.load m r'.toLoadRect hl) k) Q) := by
  unfold upto
  iintro ⟨%X, %h, H⟩ Hk
  iapply (own_load 𝒱 c bd E) $$ H
  iintro H; iapply Hk; iexists X; isplitr
  · ipureintro; exact h
  · iexact H

theorem upto_store (hd : ∀ i j : Fin N, i ≠ j → ∀ x, (r j).idx x ∉ (r i).set) (i : Fin N) (hi : i.val = n) {r' : Rect s} (hr : r' = r i)
    {w : r'.shape.Idx → Val e} (hw : HEq w (G i))
    {hx : (m.access r').Stores Finset.univ} {hm : (Finset.univ : Finset r'.shape.Idx) = Finset.univ ∨ ∀ a, r'.stride a = 1}
    {k : PUnit → Prog (TpuEff nD τ sig Val Λ c.2) α} :
    (upto c m r G n : sProp 𝕄)
      ⊢ iprop(((upto c m r G (n + 1)) -∗ wp frame (wpE defs 𝒱 c bd) E (k ⟨⟩) Q)
        -∗ wp frame (wpE defs 𝒱 c bd) E (.op (.store m r' w Finset.univ hx hm) k) Q) := by
  subst hr
  have hw := eq_of_heq hw
  unfold upto
  iintro ⟨%X, %h, H⟩ Hk
  iapply (own_store 𝒱 c bd E) $$ H
  iintro H; iapply Hk; iexists ((r i).overlay X w); isplitr
  · ipureintro
    intro j hj
    by_cases hij : j = i
    · subst hij; rw [ld_overlay_self]; exact hw
    · rw [ld_overlay_of_disjoint (hd i j (fun hh => hij hh.symm))]
      have : j.val ≠ i.val := fun hh => hij (Fin.ext hh)
      exact h j (by omega)
  · iexact H

end Upto

end Cert.Proof.Mem

end
-- ==== Proof.SbIdeal.Block.lean ====
/-
  What the kernel computes at one grid point, as plain functions. A state is the running log-mass row (1×1×512) and the
  accumulator (1×128×512); a key block advances it (`stepDiag` for the block holding the query's own positions, `stepFull`
  for an earlier one); a query block's result is the state after its own block, the block before it, the pairs of earlier
  blocks the while visits (`sweep`), and the block left over.
-/
module

public import proofs.«01_k».proof.Proof.Gen.KernelIdeal.Skeleton
public import proofs.«01_k».proof.Proof.Mem

@[expose] public section

set_option maxRecDepth 16384

noncomputable section

namespace Cert.KernelIdeal.Sb

open Cert.KernelIdeal Cert.KernelIdeal.Gen
open Idealize.ShloMosaic Idealize.ShloMosaic.TcCoe

variable {F : FTy → Type} [FloatOps F] [Named F]

/-! ## Rectangles -/

theorem keyRows_inb (n : Fin 16) : ∀ a, (![0, 256 * n.val, 0] : Fin 3 → ℕ) a + S1x256x128.size a ≤ S1x4096x128.size a := by
  revert n; decide
theorem valCols_inb (n : Fin 16) : ∀ a, (![0, 256 * n.val] : Fin 2 → ℕ) a + S128x256.size a ≤ S128x4096.size a := by
  revert n; decide
theorem qryCols_inb (n : Fin 16) : ∀ a, (![0, 0, 256 * n.val] : Fin 3 → ℕ) a + S1x128x256.size a ≤ S1x128x4096.size a := by
  revert n; decide

/-- Rows `256 n …` of a 1×4096×128 array: the keys of a block, and the rows of a result block. -/
abbrev rowsRect (n : Fin 16) : Rect S1x4096x128 := Rect.unit (s := S1x4096x128) ![0, 256 * n.val, 0] S1x256x128.size (keyRows_inb n)
/-- Columns `256 n …` of the 128×4096 values. -/
abbrev valRect (n : Fin 16) : Rect S128x4096 := Rect.unit (s := S128x4096) ![0, 256 * n.val] S128x256.size (valCols_inb n)
/-- Columns `256 n …` of the 1×128×4096 queries. -/
abbrev qryRect (n : Fin 16) : Rect S1x128x4096 := Rect.unit (s := S1x128x4096) ![0, 0, 256 * n.val] S1x128x256.size (qryCols_inb n)

abbrev run0 : Rect S2x1x512 := Rect.unit (s := S2x1x512) ![0, 0, 0] S1x1x512.size inb_S2x1x512_S1x1x512_0_0_0
abbrev run1 : Rect S2x1x512 := Rect.unit (s := S2x1x512) ![1, 0, 0] S1x1x512.size inb_S2x1x512_S1x1x512_1_0_0
abbrev acc0 : Rect S2x128x512 := Rect.unit (s := S2x128x512) ![0, 0, 0] S1x128x512.size inb_S2x128x512_S1x128x512_0_0_0
abbrev acc1 : Rect S2x128x512 := Rect.unit (s := S2x128x512) ![1, 0, 0] S1x128x512.size inb_S2x128x512_S1x128x512_1_0_0

/-- A load through a unit rectangle depends on its offsets only. -/
theorem ld_off {s : Shape} {α : EltTy → Type} {e : EltTy} (X : s.Idx → α e) {off off' : Fin s.rank → ℕ} (h : off = off') (sz : Fin s.rank → ℕ)
    (h1 : ∀ a, off a + sz a ≤ s.size a) (h2 : ∀ a, off' a + sz a ≤ s.size a) :
    (View.ld X (Rect.unit (s := s) off sz h1) : (⟨s.rank, sz⟩ : Shape).Idx → α e) = View.ld X (Rect.unit (s := s) off' sz h2) := by
  subst h; rfl

/-! ## The arrays a query block reads -/

abbrev keyBlk (K : Vec F S1x4096x128 .bf16) (n : Fin 16) : Vec F S1x256x128 .bf16 := View.ld K (rowsRect n)
abbrev valBlk (V : Vec F S128x4096 .bf16) (n : Fin 16) : Vec F S128x256 .bf16 := View.ld V (valRect n)
/-- The query columns of block `n`, scaled, the even head's rows in the left half and the odd head's in the right. -/
abbrev qBlk (Q : Vec F S1x128x4096 .f32) (n : Fin 16) : FVec F S128x512 .bf16 := k0_pay119 (View.ld Q (qryRect n) : Vec F S1x128x256 .f32)

/-! ## The state and its steps -/

/-- The running row and the accumulator. -/
structure St (F : FTy → Type) where
  run : Vec F S1x1x512 .f32
  acc : Vec F S1x128x512 .f32

/-- A query block starts from zeros. -/
def start : St F := ⟨k0_pay120, k0_pay122 k0_pay121⟩

/-- The block holding the query's own positions. -/
def stepDiag (U : Vec F S144x256 .bf16) (q : FVec F S128x512 .bf16) (kb : Vec F S1x256x128 .bf16) (vb : Vec F S128x256 .bf16) (s : St F) : St F :=
  ⟨k0_pay134 (k0_pay130 q kb U) (k0_pay131 s.run) (k0_pay132 q kb U),
   k0_pay135 (k0_pay126 q kb) (k0_pay129 q kb U) (k0_pay130 q kb U) (k0_pay131 s.run) s.acc vb⟩

/-- An earlier block. -/
def stepFull (U : Vec F S144x256 .bf16) (q : FVec F S128x512 .bf16) (kb : Vec F S1x256x128 .bf16) (vb : Vec F S128x256 .bf16) (s : St F) : St F :=
  ⟨k0_pay212 (k0_pay199 q kb) (k0_pay200 q kb) U s.run,
   k0_pay214 (k0_pay211 (k0_pay195 q kb) (k0_pay199 q kb) (k0_pay200 q kb) U s.run) (k0_pay213 s.acc) vb⟩

/-- The level below which a running row counts as spent. -/
def dead : F .f32 := Named.named κ "dead" 0xC3200000#32

/-- Whether some entry of the running row is above it. -/
def live (s : St F) : BitVec 1 := Scalar.cmpf .ogt (k0_pay12 s.run) dead

/-- The result block an accumulator stores. -/
def outBlk (s : St F) : Vec F S1x256x128 .bf16 := k0_pay137 (k0_pay136 s.acc)

/-! ## One query block -/

section Query
variable (U : Vec F S144x256 .bf16) (Q : Vec F S1x128x4096 .f32) (K : Vec F S1x4096x128 .bf16) (V : Vec F S128x4096 .bf16)

/-- `n - j` blocks in, as a block number. -/
abbrev back (n : Fin 16) (j : ℕ) : Fin 16 := ⟨n.val - j, Nat.lt_of_le_of_lt (Nat.sub_le _ _) n.isLt⟩

/-- Query block `n` reads key block `n - j`. -/
def full (n : Fin 16) (j : ℕ) (s : St F) : St F := stepFull U (qBlk Q n) (keyBlk K (back n j)) (valBlk V (back n j)) s

/-- One trip of the while at `j`: key blocks `n - j` and `n - j - 1`. -/
def pair (n : Fin 16) (j : ℕ) (s : St F) : St F := full U Q K V n (j + 1) (full U Q K V n j s)

/-- The while, with `f` trips at most: the counter, the flag and the state it leaves. -/
def sweep (n : Fin 16) : ℕ → ℕ → BitVec 1 → St F → ℕ × BitVec 1 × St F
  | 0, j, b, s => (j, b, s)
  | f + 1, j, b, s => if j + 1 ≤ n.val ∧ b = 1#1 then sweep n f (j + 2) (live (pair U Q K V n j s)) (pair U Q K V n j s) else (j, b, s)

/-- The query's own block and the one before it. -/
def first (n : Fin 16) : St F := full U Q K V n 1 (stepDiag U (qBlk Q n) (keyBlk K n) (valBlk V n) start)

/-- The state after the while. -/
def swept (n : Fin 16) : ℕ × BitVec 1 × St F := sweep U Q K V n 8 2 (live (first U Q K V n)) (first U Q K V n)

/-- The state after a block left over. -/
def final (n : Fin 16) : St F :=
  if (swept U Q K V n).1 = n.val ∧ (swept U Q K V n).2.1 = 1#1 then full U Q K V n (swept U Q K V n).1 (swept U Q K V n).2.2 else (swept U Q K V n).2.2

/-- The state a query block ends in. -/
def query (n : Fin 16) : St F := if n.val = 0 then stepDiag U (qBlk Q n) (keyBlk K n) (valBlk V n) start else final U Q K V n

end Query

section Sweep
variable {U : Vec F S144x256 .bf16} {Q : Vec F S1x128x4096 .f32} {K : Vec F S1x4096x128 .bf16} {V : Vec F S128x4096 .bf16}

/-- The counter stays within the blocks, and one trip is one pair. -/
theorem sweep_step {n : Fin 16} {f j : ℕ} {b : BitVec 1} {s : St F} (h : j + 1 ≤ n.val ∧ b = 1#1) :
    sweep U Q K V n (f + 1) j b s = sweep U Q K V n f (j + 2) (live (pair U Q K V n j s)) (pair U Q K V n j s) := by
  rw [sweep, if_pos h]

theorem sweep_stop {n : Fin 16} {f j : ℕ} {b : BitVec 1} {s : St F} (h : ¬(j + 1 ≤ n.val ∧ b = 1#1)) :
    sweep U Q K V n f j b s = (j, b, s) := by
  cases f with
  | zero => rfl
  | succ f => rw [sweep, if_neg h]

theorem sweep_le {n : Fin 16} {f j : ℕ} {b : BitVec 1} {s : St F} (hj : j ≤ 16) : (sweep U Q K V n f j b s).1 ≤ 16 := by
  induction f generalizing j b s with
  | zero => exact hj
  | succ f ih =>
    by_cases h : j + 1 ≤ n.val ∧ b = 1#1
    · rw [sweep_step h]; exact ih (by have := n.isLt; omega)
    · rw [sweep_stop h]; exact hj

end Sweep

end Cert.KernelIdeal.Sb
-- ==== Proof.SbIdeal.Words.lean ====
/-
  The counter words of the query loop and of the while, decided: query blocks `2 (t + 1)` and `2 (t + 1) + 1` at trip `t`,
  the offsets a key block's loads have, the while's test and the leftover block's test.
-/
module

public import proofs.«01_k».proof.Proof.SbIdeal.Block

@[expose] public section

set_option maxRecDepth 16384

noncomputable section

namespace Cert.KernelIdeal.Sb

open Cert.KernelIdeal Cert.KernelIdeal.Gen
open Idealize.ShloMosaic Idealize.ShloMosaic.TcCoe

theorem trips_eq : k0_t1_loop.trips = 7 := by decide +kernel
theorem qEven_lt (t : Fin k0_t1_loop.trips) : 2 * (t.val + 1) < 16 := by
  have h1 := t.isLt
  have h2 := trips_eq
  omega
theorem qOdd_lt (t : Fin k0_t1_loop.trips) : 2 * (t.val + 1) + 1 < 16 := by
  have h1 := t.isLt
  have h2 := trips_eq
  omega

/-- The even query block of a trip, and the odd one. -/
abbrev qEven (t : Fin k0_t1_loop.trips) : Fin 16 := ⟨2 * (t.val + 1), qEven_lt t⟩
abbrev qOdd (t : Fin k0_t1_loop.trips) : Fin 16 := ⟨2 * (t.val + 1) + 1, qOdd_lt t⟩

/-- The even query block's word at a trip. -/
abbrev wEven (t : Fin k0_t1_loop.trips) : BitVec 32 := Scalar.addi (Scalar.muli (Scf.iv 1#32 1#32 t) 2#32) 0#32
abbrev wOdd (t : Fin k0_t1_loop.trips) : BitVec 32 := Scalar.addi (Scalar.muli (Scf.iv 1#32 1#32 t) 2#32) 1#32

theorem off7_even : ∀ t : Fin k0_t1_loop.trips, k0_off7 t 0#32 = ![0, 0, 256 * (qEven t).val] := by decide +kernel
theorem off7_odd : ∀ t : Fin k0_t1_loop.trips, k0_off7 t 1#32 = ![0, 0, 256 * (qOdd t).val] := by decide +kernel
theorem off8_even0 : ∀ t : Fin k0_t1_loop.trips, k0_off8 t 0#32 0#32 = ![0, 256 * (qEven t).val, 0] := by decide +kernel
theorem off8_even1 : ∀ t : Fin k0_t1_loop.trips, k0_off8 t 0#32 1#32 = ![0, 256 * (back (qEven t) 1).val, 0] := by decide +kernel
theorem off8_odd0 : ∀ t : Fin k0_t1_loop.trips, k0_off8 t 1#32 0#32 = ![0, 256 * (qOdd t).val, 0] := by decide +kernel
theorem off8_odd1 : ∀ t : Fin k0_t1_loop.trips, k0_off8 t 1#32 1#32 = ![0, 256 * (back (qOdd t) 1).val, 0] := by decide +kernel
theorem off9_even0 : ∀ t : Fin k0_t1_loop.trips, k0_off9 t 0#32 0#32 = ![0, 256 * (qEven t).val] := by decide +kernel
theorem off9_even1 : ∀ t : Fin k0_t1_loop.trips, k0_off9 t 0#32 1#32 = ![0, 256 * (back (qEven t) 1).val] := by decide +kernel
theorem off9_odd0 : ∀ t : Fin k0_t1_loop.trips, k0_off9 t 1#32 0#32 = ![0, 256 * (qOdd t).val] := by decide +kernel
theorem off9_odd1 : ∀ t : Fin k0_t1_loop.trips, k0_off9 t 1#32 1#32 = ![0, 256 * (back (qOdd t) 1).val] := by decide +kernel
theorem off16 : ∀ t : Fin k0_t1_loop.trips, k0_off16 t = ![0, 256 * (qEven t).val, 0] := by decide +kernel
theorem off23 : ∀ t : Fin k0_t1_loop.trips, k0_off23 t = ![0, 256 * (qOdd t).val, 0] := by decide +kernel

/-! ## The even block's while -/

theorem test2 : ∀ (t : Fin k0_t1_loop.trips) (j : Fin 17) (b : BitVec 1),
    Scalar.andi (Scalar.cmpi .sle (Scalar.addi (BitVec.ofNat 32 j.val) 1#32) (wEven t)) b = 1#1 ↔ j.val + 1 ≤ (qEven t).val ∧ b = 1#1 := by decide +kernel
theorem off10 : ∀ (t : Fin k0_t1_loop.trips) (j : Fin 17), j.val + 1 ≤ (qEven t).val →
    k0_off10 t (BitVec.ofNat 32 j.val) = ![0, 256 * (back (qEven t) j.val).val, 0] := by decide +kernel
theorem off11 : ∀ (t : Fin k0_t1_loop.trips) (j : Fin 17), j.val + 1 ≤ (qEven t).val →
    k0_off11 t (BitVec.ofNat 32 j.val) = ![0, 256 * (back (qEven t) (j.val + 1)).val, 0] := by decide +kernel
theorem off12 : ∀ (t : Fin k0_t1_loop.trips) (j : Fin 17), j.val + 1 ≤ (qEven t).val →
    k0_off12 t (BitVec.ofNat 32 j.val) = ![0, 256 * (back (qEven t) j.val).val] := by decide +kernel
theorem off13 : ∀ (t : Fin k0_t1_loop.trips) (j : Fin 17), j.val + 1 ≤ (qEven t).val →
    k0_off13 t (BitVec.ofNat 32 j.val) = ![0, 256 * (back (qEven t) (j.val + 1)).val] := by decide +kernel
theorem chk3 : ∀ (t : Fin k0_t1_loop.trips) (j : Fin 17), j.val + 1 ≤ (qEven t).val → k0_chk3 t (BitVec.ofNat 32 j.val) := by decide +kernel
theorem cond3 : ∀ (t : Fin k0_t1_loop.trips) (j : Fin 17) (b : BitVec 1),
    k0_cond3 t (BitVec.ofNat 32 j.val) b = 1#1 ↔ j.val = (qEven t).val ∧ b = 1#1 := by decide +kernel
theorem chk4 : ∀ (t : Fin k0_t1_loop.trips) (j : Fin 17) (b : BitVec 1), k0_chk4 t (BitVec.ofNat 32 j.val) b := by decide +kernel
theorem off14 : ∀ (t : Fin k0_t1_loop.trips) (j : Fin 17), j.val = (qEven t).val →
    k0_off14 t (BitVec.ofNat 32 j.val) = ![0, 256 * (back (qEven t) j.val).val, 0] := by decide +kernel
theorem off15 : ∀ (t : Fin k0_t1_loop.trips) (j : Fin 17), j.val = (qEven t).val →
    k0_off15 t (BitVec.ofNat 32 j.val) = ![0, 256 * (back (qEven t) j.val).val] := by decide +kernel

/-- A trip moves the counter by two. -/
theorem addi_two : ∀ j : Fin 17, Scalar.addi (BitVec.ofNat 32 j.val) 2#32 = BitVec.ofNat 32 (j.val + 2) := by decide +kernel

/-! ## The odd block's while -/

theorem test3 : ∀ (t : Fin k0_t1_loop.trips) (j : Fin 17) (b : BitVec 1),
    Scalar.andi (Scalar.cmpi .sle (Scalar.addi (BitVec.ofNat 32 j.val) 1#32) (wOdd t)) b = 1#1 ↔ j.val + 1 ≤ (qOdd t).val ∧ b = 1#1 := by decide +kernel
theorem off17 : ∀ (t : Fin k0_t1_loop.trips) (j : Fin 17), j.val + 1 ≤ (qOdd t).val →
    k0_off17 t (BitVec.ofNat 32 j.val) = ![0, 256 * (back (qOdd t) j.val).val, 0] := by decide +kernel
theorem off18 : ∀ (t : Fin k0_t1_loop.trips) (j : Fin 17), j.val + 1 ≤ (qOdd t).val →
    k0_off18 t (BitVec.ofNat 32 j.val) = ![0, 256 * (back (qOdd t) (j.val + 1)).val, 0] := by decide +kernel
theorem off19 : ∀ (t : Fin k0_t1_loop.trips) (j : Fin 17), j.val + 1 ≤ (qOdd t).val →
    k0_off19 t (BitVec.ofNat 32 j.val) = ![0, 256 * (back (qOdd t) j.val).val] := by decide +kernel
theorem off20 : ∀ (t : Fin k0_t1_loop.trips) (j : Fin 17), j.val + 1 ≤ (qOdd t).val →
    k0_off20 t (BitVec.ofNat 32 j.val) = ![0, 256 * (back (qOdd t) (j.val + 1)).val] := by decide +kernel
theorem chk5 : ∀ (t : Fin k0_t1_loop.trips) (j : Fin 17), j.val + 1 ≤ (qOdd t).val → k0_chk5 t (BitVec.ofNat 32 j.val) := by decide +kernel
theorem cond4 : ∀ (t : Fin k0_t1_loop.trips) (j : Fin 17) (b : BitVec 1),
    k0_cond4 t (BitVec.ofNat 32 j.val) b = 1#1 ↔ j.val = (qOdd t).val ∧ b = 1#1 := by decide +kernel
theorem chk6 : ∀ (t : Fin k0_t1_loop.trips) (j : Fin 17) (b : BitVec 1), k0_chk6 t (BitVec.ofNat 32 j.val) b := by decide +kernel
theorem off21 : ∀ (t : Fin k0_t1_loop.trips) (j : Fin 17), j.val = (qOdd t).val →
    k0_off21 t (BitVec.ofNat 32 j.val) = ![0, 256 * (back (qOdd t) j.val).val, 0] := by decide +kernel
theorem off22 : ∀ (t : Fin k0_t1_loop.trips) (j : Fin 17), j.val = (qOdd t).val →
    k0_off22 t (BitVec.ofNat 32 j.val) = ![0, 256 * (back (qOdd t) j.val).val] := by decide +kernel

/-! ## Query block 1's while makes no trip -/

theorem test1 : ∀ b : BitVec 1, Scalar.andi (Scalar.cmpi .sle (Scalar.addi 2#32 1#32) 1#32) b = 0#1 := by decide +kernel
theorem cond2 : ∀ b : BitVec 1, k0_cond2 2#32 b = 0#1 := by decide +kernel
theorem chk2 : ∀ b : BitVec 1, k0_chk2 2#32 b := by decide +kernel

/-! ## The reads at those offsets -/

variable {F : FTy → Type} [FloatOps F] [Named F]

theorem ld_key (K : Vec F S1x4096x128 .bf16) (n : Fin 16) {off : Fin 3 → ℕ} (h : off = ![0, 256 * n.val, 0])
    (hb : ∀ a, off a + S1x256x128.size a ≤ S1x4096x128.size a) :
    View.ld K (Rect.unit (s := S1x4096x128) off S1x256x128.size hb) = keyBlk K n := ld_off K h _ _ _
theorem ld_val (V : Vec F S128x4096 .bf16) (n : Fin 16) {off : Fin 2 → ℕ} (h : off = ![0, 256 * n.val])
    (hb : ∀ a, off a + S128x256.size a ≤ S128x4096.size a) :
    View.ld V (Rect.unit (s := S128x4096) off S128x256.size hb) = valBlk V n := ld_off V h _ _ _
theorem ld_qry (Q : Vec F S1x128x4096 .f32) (n : Fin 16) {off : Fin 3 → ℕ} (h : off = ![0, 0, 256 * n.val])
    (hb : ∀ a, off a + S1x128x256.size a ≤ S1x128x4096.size a) :
    View.ld Q (Rect.unit (s := S1x128x4096) off S1x128x256.size hb) = View.ld Q (qryRect n) := ld_off Q h _ _ _
theorem ld_sum (U : Vec F S144x256 .bf16) : View.ld U (Rect.unit (s := S144x256) ![0, 0] S144x256.size inb_S144x256_S144x256_0_0) = U :=
  Cert.Proof.Mem.ld_whole U (by decide) _
theorem rows_eq (n : Fin 16) {off : Fin 3 → ℕ} (h : off = ![0, 256 * n.val, 0])
    (hb : ∀ a, off a + S1x256x128.size a ≤ S1x4096x128.size a) :
    Rect.unit (s := S1x4096x128) off S1x256x128.size hb = rowsRect n := by subst h; rfl

theorem run_disjoint : ∀ x, run1.idx x ∉ run0.set := by
  intro x h
  have h0 := Rect.mem_set_unit.mp h 0
  have h1 : ((run1.idx x) 0).val = 1 + 1 * (x 0).val := rfl
  have h2 : ((run1.idx x) 0).val < 0 + 1 := h0.2
  omega
theorem run_disjoint' : ∀ x, run0.idx x ∉ run1.set := by
  intro x h
  have h0 := Rect.mem_set_unit.mp h 0
  have h1 : ((run0.idx x) 0).val = 0 + 1 * (x 0).val := rfl
  have h2 : 1 ≤ ((run0.idx x) 0).val := h0.1
  have h3 : (x 0).val < 1 := (x 0).isLt
  omega
theorem acc_disjoint : ∀ x, acc1.idx x ∉ acc0.set := by
  intro x h
  have h0 := Rect.mem_set_unit.mp h 0
  have h1 : ((acc1.idx x) 0).val = 1 + 1 * (x 0).val := rfl
  have h2 : ((acc1.idx x) 0).val < 0 + 1 := h0.2
  omega
theorem acc_disjoint' : ∀ x, acc0.idx x ∉ acc1.set := by
  intro x h
  have h0 := Rect.mem_set_unit.mp h 0
  have h1 : ((acc0.idx x) 0).val = 0 + 1 * (x 0).val := rfl
  have h2 : 1 ≤ ((acc0.idx x) 0).val := h0.1
  have h3 : (x 0).val < 1 := (x 0).isLt
  omega
theorem rows_disjoint : ∀ i j : Fin 16, i ≠ j → ∀ x, (rowsRect j).idx x ∉ (rowsRect i).set := by
  intro i j hij x h
  have h0 := Rect.mem_set_unit.mp h 1
  have h1 : (((rowsRect j).idx x) 1).val = 256 * j.val + 1 * (x 1).val := rfl
  have h2 : 256 * i.val ≤ (((rowsRect j).idx x) 1).val := h0.1
  have h4 : (((rowsRect j).idx x) 1).val < 256 * i.val + 256 := h0.2
  have h3 : (x 1).val < 256 := (x 1).isLt
  have h5 : i.val ≠ j.val := fun hh => hij (Fin.ext hh)
  omega

end Cert.KernelIdeal.Sb
-- ==== Proof.SbIdeal.While.lean ====
/-
  The two whiles of a trip of the query loop. Each is a label that runs a pair of key blocks and calls itself; its
  specification says that it returns the counter and flag `sweep` returns and leaves the state `sweep` leaves in its slot of
  the running rows and accumulators, the other slot as it was.
-/
module

public import proofs.«01_k».proof.Proof.SbIdeal.Words
public import Idealize.ShloMosaic.Lib.Pipeline.Frame

@[expose] public section

set_option maxRecDepth 65536

noncomputable section

namespace Cert.KernelIdeal.Sb

open Cert.KernelIdeal Cert.KernelIdeal.Gen Cert.Proof.Mem
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F] [Named F]

/-- The ghost algebra of the launch. -/
abbrev UR (nD : Nat) (τ : Topo) : Type := URounds (GSem nD τ sig) Unit

local notation "𝕄" => MT nD τ sig Unit (Elt F) ℕ (UR nD τ) ℕ

/-- The variants: the trips a while has left. -/
abbrev 𝒱₀ : Variants := Variants.nat

section Label
variable (c : Dev nD) (i : grid0.Coords)
  (arg3 : Memref sig .tc .vmem S1x4096x128 .bf16) (harg3 : arg3.IsWhole)
  (arg6 : Memref sig .tc .vmem S144x256 .bf16) (harg6 : arg6.IsWhole) (arg7 : Memref sig .tc .vmem S128x4096 .bf16) (harg7 : arg7.IsWhole)
  (arg8 : Memref sig .tc .vmem S2x1x512 .f32) (harg8 : arg8.IsWhole) (arg9 : Memref sig .tc .vmem S2x128x512 .f32) (harg9 : arg9.IsWhole)
  (K : Vec F S1x4096x128 .bf16) (U : Vec F S144x256 .bf16) (V : Vec F S128x4096 .bf16) (Q : Vec F S1x128x4096 .f32)

/-- The keys, the summing matrix and the values as they are; the two slots at `s0` and `s1`. -/
def held (s0 s1 : St F) : sProp 𝕄 :=
  iprop(owns (c : Thread nD τ) arg3 fullShare K ∗ owns (c : Thread nD τ) arg6 fullShare U ∗ owns (c : Thread nD τ) arg7 fullShare V
    ∗ two (c : Thread nD τ) arg8 run0 run1 s0.run s1.run ∗ two (c : Thread nD τ) arg9 acc0 acc1 s0.acc s1.acc)

/-- The even block's label. -/
def spec2 (n : Fin 16) (f j : ℕ) (b : BitVec 1) (s0 s1 : St F) : sWPT 𝕄 (BitVec 32 × BitVec 1) := do
  sWPT.consume (held c arg3 arg6 arg7 arg8 arg9 K U V s0 s1)
  sWPT.produce (held c arg3 arg6 arg7 arg8 arg9 K U V (sweep U Q K V n f j b s0).2.2 s1)
  pure (BitVec.ofNat 32 (sweep U Q K V n f j b s0).1, (sweep U Q K V n f j b s0).2.1)

theorem spec2_apply (n : Fin 16) (f j : ℕ) (b : BitVec 1) (s0 s1 : St F) (k : BitVec 32 × BitVec 1 → sProp 𝕄) :
    spec2 c arg3 arg6 arg7 arg8 arg9 K U V Q n f j b s0 s1 k
      = iprop(held c arg3 arg6 arg7 arg8 arg9 K U V s0 s1
        ∗ (held c arg3 arg6 arg7 arg8 arg9 K U V (sweep U Q K V n f j b s0).2.2 s1
          -∗ k (BitVec.ofNat 32 (sweep U Q K V n f j b s0).1, (sweep U Q K V n f j b s0).2.1))) := rfl

variable (v279_0 : BitVec 32) (v279_1 : BitVec 1) (hw2 : k0_chk2 v279_0 v279_1) (t : Fin k0_t1_loop.trips)

theorem spec2_le (E : Set ℕ) : ∀ (f j : ℕ) (b : BitVec 1) (s0 s1 : St F) (Z : BitVec 32 × BitVec 1 → sProp 𝕄), j ≤ 16 → (qEven t).val ≤ j + 2 * f →
    spec2 c arg3 arg6 arg7 arg8 arg9 K U V Q (qEven t) f j b s0 s1 Z
      ⊢ wp frame (wpE (defs₀ (F := F)) 𝒱₀ (c : Thread nD τ) (some f)) E
          (defs₀ (F := F) .tc 2 ⟨i, v279_0, v279_1, hw2, t, arg3, harg3, qBlk Q (qEven t), arg6, harg6, arg8, harg8, arg9, harg9, arg7, harg7, BitVec.ofNat 32 j, b⟩) Z := by
  intro f
  induction f with
  | zero =>
    intro j b s0 s1 Z hj hf
    rw [spec2_apply]
    show _ ⊢ wp frame (wpE (defs₀ (F := F)) 𝒱₀ (c : Thread nD τ) (some 0)) E
      (cc0_while2 i v279_0 v279_1 hw2 t arg3 harg3 (qBlk Q (qEven t)) arg6 harg6 arg8 harg8 arg9 harg9 arg7 harg7 (BitVec.ofNat 32 j) b) Z
    have hj17 : j < 17 := by omega
    have hn : ¬(j + 1 ≤ (qEven t).val ∧ b = 1#1) := by rintro ⟨h, -⟩; omega
    rw [sweep_stop hn]
    rw [cc0_while2_eq_skeleton]; unfold cc0_while2_skel
    have ht := fun h => hn ((test2 t ⟨j, hj17⟩ b).mp h)
    simp only [Prog.pure_eq_ret]
    rw [if_neg ht]
    iintro ⟨H, Hk⟩
    rw [wp_ret]; imodintro
    iapply Hk; iexact H
  | succ f ih =>
    intro j b s0 s1 Z hj hf
    rw [spec2_apply]
    show _ ⊢ wp frame (wpE (defs₀ (F := F)) 𝒱₀ (c : Thread nD τ) (some (f + 1))) E
      (cc0_while2 i v279_0 v279_1 hw2 t arg3 harg3 (qBlk Q (qEven t)) arg6 harg6 arg8 harg8 arg9 harg9 arg7 harg7 (BitVec.ofNat 32 j) b) Z
    have hj17 : j < 17 := by omega
    by_cases hn : j + 1 ≤ (qEven t).val ∧ b = 1#1
    · rw [sweep_step hn]
      rw [cc0_while2_eq_skeleton]; unfold cc0_while2_skel
      have ht := (test2 t ⟨j, hj17⟩ b).mpr hn
      rw [if_pos ht]
      rw [k0_part23_eq_skeleton, k0_part24_eq_skeleton, k0_part25_eq_skeleton]
      unfold k0_part23_skel k0_part24_skel k0_part25_skel
      simp only [Prog.lift, Prog.bind_op, Prog.bind_ret, Prog.pure_eq_ret]
      unfold held
      iintro ⟨⟨H3, H6, H7, H8, H9⟩, Hk⟩
      iapply (wp_assume 𝒱₀ (c : Thread nD τ) (some (f + 1)) E (chk3 t ⟨j, hj17⟩ hn.1))
      iapply (own_load_eq 𝒱₀ (c : Thread nD τ) _ E (ld_key K _ (off10 t ⟨j, hj17⟩ hn.1) _)) $$ H3; iintro H3
      iapply (own_load_eq 𝒱₀ (c : Thread nD τ) _ E (ld_key K _ (off11 t ⟨j, hj17⟩ hn.1) _)) $$ H3; iintro H3
      iapply (own_load_eq 𝒱₀ (c : Thread nD τ) _ E (ld_sum U)) $$ H6; iintro H6
      iapply (own_load_eq 𝒱₀ (c : Thread nD τ) _ E (ld_sum U)) $$ H6; iintro H6
      iapply (two_load0 𝒱₀ (c : Thread nD τ) _ E) $$ H8; iintro H8
      iapply (two_load0 𝒱₀ (c : Thread nD τ) _ E) $$ H8; iintro H8
      iapply (two_store0 𝒱₀ (c : Thread nD τ) _ E run_disjoint) $$ H8; iintro H8
      iapply (two_load0 𝒱₀ (c : Thread nD τ) _ E) $$ H9; iintro H9
      iapply (own_load_eq 𝒱₀ (c : Thread nD τ) _ E (ld_val V _ (off12 t ⟨j, hj17⟩ hn.1) _)) $$ H7; iintro H7
      iapply (two_load0 𝒱₀ (c : Thread nD τ) _ E) $$ H9; iintro H9
      iapply (two_store0 𝒱₀ (c : Thread nD τ) _ E acc_disjoint) $$ H9; iintro H9
      iapply (two_load0 𝒱₀ (c : Thread nD τ) _ E) $$ H8; iintro H8
      iapply (two_load0 𝒱₀ (c : Thread nD τ) _ E) $$ H8; iintro H8
      iapply (two_store0 𝒱₀ (c : Thread nD τ) _ E run_disjoint) $$ H8; iintro H8
      iapply (two_load0 𝒱₀ (c : Thread nD τ) _ E) $$ H9; iintro H9
      iapply (own_load_eq 𝒱₀ (c : Thread nD τ) _ E (ld_val V _ (off13 t ⟨j, hj17⟩ hn.1) _)) $$ H7; iintro H7
      iapply (two_load0 𝒱₀ (c : Thread nD τ) _ E) $$ H9; iintro H9
      iapply (two_store0 𝒱₀ (c : Thread nD τ) _ E acc_disjoint) $$ H9; iintro H9
      iapply (two_load0 𝒱₀ (c : Thread nD τ) _ E) $$ H8; iintro H8
      rw [show Scalar.addi (BitVec.ofNat 32 j) 2#32 = BitVec.ofNat 32 (j + 2) from addi_two ⟨j, hj17⟩]
      iapply (wp_call_spec 𝒱₀ (c : Thread nD τ) (some (f + 1)) E
        (spec2 c arg3 arg6 arg7 arg8 arg9 K U V Q (qEven t) f (j + 2) (live (pair U Q K V (qEven t) j s0)) (pair U Q K V (qEven t) j s0) s1) f
        (fun u hu => by cases hu; exact Nat.lt_succ_self f)
        (fun Z => ih (j + 2) _ _ s1 Z (by have := (qEven t).isLt; omega) (by omega)))
      rw [spec2_apply]; unfold held
      isplitl [H3 H6 H7 H8 H9]
      · isplitl [H3]; · iexact H3
        isplitl [H6]; · iexact H6
        isplitl [H7]; · iexact H7
        isplitl [H8]; · iexact H8
        iexact H9
      iintro H
      rw [wp_ret]; imodintro
      iapply Hk; iexact H
    · rw [sweep_stop hn]
      rw [cc0_while2_eq_skeleton]; unfold cc0_while2_skel
      have ht := fun h => hn ((test2 t ⟨j, hj17⟩ b).mp h)
      simp only [Prog.pure_eq_ret]
      rw [if_neg ht]
      iintro ⟨H, Hk⟩
      rw [wp_ret]; imodintro
      iapply Hk; iexact H

/-! ## The odd block -/

/-- The odd block's label. -/
def spec3 (n : Fin 16) (f j : ℕ) (b : BitVec 1) (s0 s1 : St F) : sWPT 𝕄 (BitVec 32 × BitVec 1) := do
  sWPT.consume (held c arg3 arg6 arg7 arg8 arg9 K U V s0 s1)
  sWPT.produce (held c arg3 arg6 arg7 arg8 arg9 K U V s0 (sweep U Q K V n f j b s1).2.2)
  pure (BitVec.ofNat 32 (sweep U Q K V n f j b s1).1, (sweep U Q K V n f j b s1).2.1)

theorem spec3_apply (n : Fin 16) (f j : ℕ) (b : BitVec 1) (s0 s1 : St F) (k : BitVec 32 × BitVec 1 → sProp 𝕄) :
    spec3 c arg3 arg6 arg7 arg8 arg9 K U V Q n f j b s0 s1 k
      = iprop(held c arg3 arg6 arg7 arg8 arg9 K U V s0 s1
        ∗ (held c arg3 arg6 arg7 arg8 arg9 K U V s0 (sweep U Q K V n f j b s1).2.2
          -∗ k (BitVec.ofNat 32 (sweep U Q K V n f j b s1).1, (sweep U Q K V n f j b s1).2.1))) := rfl

variable (v634_0 : BitVec 32) (v634_1 : BitVec 1) (hw4 : k0_chk4 t v634_0 v634_1)

theorem spec3_le (E : Set ℕ) : ∀ (f j : ℕ) (b : BitVec 1) (s0 s1 : St F) (Z : BitVec 32 × BitVec 1 → sProp 𝕄), j ≤ 16 → (qOdd t).val ≤ j + 2 * f →
    spec3 c arg3 arg6 arg7 arg8 arg9 K U V Q (qOdd t) f j b s0 s1 Z
      ⊢ wp frame (wpE (defs₀ (F := F)) 𝒱₀ (c : Thread nD τ) (some f)) E
          (defs₀ (F := F) .tc 3 ⟨i, v279_0, v279_1, hw2, t, v634_0, v634_1, hw4, arg3, harg3, qBlk Q (qOdd t), arg6, harg6, arg8, harg8, arg9, harg9, arg7, harg7, BitVec.ofNat 32 j, b⟩) Z := by
  intro f
  induction f with
  | zero =>
    intro j b s0 s1 Z hj hf
    rw [spec3_apply]
    show _ ⊢ wp frame (wpE (defs₀ (F := F)) 𝒱₀ (c : Thread nD τ) (some 0)) E
      (cc0_while3 i v279_0 v279_1 hw2 t v634_0 v634_1 hw4 arg3 harg3 (qBlk Q (qOdd t)) arg6 harg6 arg8 harg8 arg9 harg9 arg7 harg7 (BitVec.ofNat 32 j) b) Z
    have hj17 : j < 17 := by omega
    have hn : ¬(j + 1 ≤ (qOdd t).val ∧ b = 1#1) := by rintro ⟨h, -⟩; omega
    rw [sweep_stop hn]
    rw [cc0_while3_eq_skeleton]; unfold cc0_while3_skel
    have ht := fun h => hn ((test3 t ⟨j, hj17⟩ b).mp h)
    simp only [Prog.pure_eq_ret]
    rw [if_neg ht]
    iintro ⟨H, Hk⟩
    rw [wp_ret]; imodintro
    iapply Hk; iexact H
  | succ f ih =>
    intro j b s0 s1 Z hj hf
    rw [spec3_apply]
    show _ ⊢ wp frame (wpE (defs₀ (F := F)) 𝒱₀ (c : Thread nD τ) (some (f + 1))) E
      (cc0_while3 i v279_0 v279_1 hw2 t v634_0 v634_1 hw4 arg3 harg3 (qBlk Q (qOdd t)) arg6 harg6 arg8 harg8 arg9 harg9 arg7 harg7 (BitVec.ofNat 32 j) b) Z
    have hj17 : j < 17 := by omega
    by_cases hn : j + 1 ≤ (qOdd t).val ∧ b = 1#1
    · rw [sweep_step hn]
      rw [cc0_while3_eq_skeleton]; unfold cc0_while3_skel
      have ht := (test3 t ⟨j, hj17⟩ b).mpr hn
      rw [if_pos ht]
      rw [k0_part26_eq_skeleton, k0_part27_eq_skeleton, k0_part28_eq_skeleton]
      unfold k0_part26_skel k0_part27_skel k0_part28_skel
      simp only [Prog.lift, Prog.bind_op, Prog.bind_ret, Prog.pure_eq_ret]
      unfold held
      iintro ⟨⟨H3, H6, H7, H8, H9⟩, Hk⟩
      iapply (wp_assume 𝒱₀ (c : Thread nD τ) (some (f + 1)) E (chk5 t ⟨j, hj17⟩ hn.1))
      iapply (own_load_eq 𝒱₀ (c : Thread nD τ) _ E (ld_key K _ (off17 t ⟨j, hj17⟩ hn.1) _)) $$ H3; iintro H3
      iapply (own_load_eq 𝒱₀ (c : Thread nD τ) _ E (ld_key K _ (off18 t ⟨j, hj17⟩ hn.1) _)) $$ H3; iintro H3
      iapply (own_load_eq 𝒱₀ (c : Thread nD τ) _ E (ld_sum U)) $$ H6; iintro H6
      iapply (own_load_eq 𝒱₀ (c : Thread nD τ) _ E (ld_sum U)) $$ H6; iintro H6
      iapply (two_load1 𝒱₀ (c : Thread nD τ) _ E) $$ H8; iintro H8
      iapply (two_load1 𝒱₀ (c : Thread nD τ) _ E) $$ H8; iintro H8
      iapply (two_store1 𝒱₀ (c : Thread nD τ) _ E run_disjoint') $$ H8; iintro H8
      iapply (two_load1 𝒱₀ (c : Thread nD τ) _ E) $$ H9; iintro H9
      iapply (own_load_eq 𝒱₀ (c : Thread nD τ) _ E (ld_val V _ (off19 t ⟨j, hj17⟩ hn.1) _)) $$ H7; iintro H7
      iapply (two_load1 𝒱₀ (c : Thread nD τ) _ E) $$ H9; iintro H9
      iapply (two_store1 𝒱₀ (c : Thread nD τ) _ E acc_disjoint') $$ H9; iintro H9
      iapply (two_load1 𝒱₀ (c : Thread nD τ) _ E) $$ H8; iintro H8
      iapply (two_load1 𝒱₀ (c : Thread nD τ) _ E) $$ H8; iintro H8
      iapply (two_store1 𝒱₀ (c : Thread nD τ) _ E run_disjoint') $$ H8; iintro H8
      iapply (two_load1 𝒱₀ (c : Thread nD τ) _ E) $$ H9; iintro H9
      iapply (own_load_eq 𝒱₀ (c : Thread nD τ) _ E (ld_val V _ (off20 t ⟨j, hj17⟩ hn.1) _)) $$ H7; iintro H7
      iapply (two_load1 𝒱₀ (c : Thread nD τ) _ E) $$ H9; iintro H9
      iapply (two_store1 𝒱₀ (c : Thread nD τ) _ E acc_disjoint') $$ H9; iintro H9
      iapply (two_load1 𝒱₀ (c : Thread nD τ) _ E) $$ H8; iintro H8
      rw [show Scalar.addi (BitVec.ofNat 32 j) 2#32 = BitVec.ofNat 32 (j + 2) from addi_two ⟨j, hj17⟩]
      iapply (wp_call_spec 𝒱₀ (c : Thread nD τ) (some (f + 1)) E
        (spec3 c arg3 arg6 arg7 arg8 arg9 K U V Q (qOdd t) f (j + 2) (live (pair U Q K V (qOdd t) j s1)) s0 (pair U Q K V (qOdd t) j s1)) f
        (fun u hu => by cases hu; exact Nat.lt_succ_self f)
        (fun Z => ih (j + 2) _ s0 _ Z (by have := (qOdd t).isLt; omega) (by omega)))
      rw [spec3_apply]; unfold held
      isplitl [H3 H6 H7 H8 H9]
      · isplitl [H3]; · iexact H3
        isplitl [H6]; · iexact H6
        isplitl [H7]; · iexact H7
        isplitl [H8]; · iexact H8
        iexact H9
      iintro H
      rw [wp_ret]; imodintro
      iapply Hk; iexact H
    · rw [sweep_stop hn]
      rw [cc0_while3_eq_skeleton]; unfold cc0_while3_skel
      have ht := fun h => hn ((test3 t ⟨j, hj17⟩ b).mp h)
      simp only [Prog.pure_eq_ret]
      rw [if_neg ht]
      iintro ⟨H, Hk⟩
      rw [wp_ret]; imodintro
      iapply Hk; iexact H

end Label

end Cert.KernelIdeal.Sb
-- ==== Proof.SbIdeal.Trip.lean ====
/-
  One trip of the query loop: query blocks `2 (t + 1)` and `2 (t + 1) + 1`, each from zeros through its own block, the
  block before it, the while's pairs and the block left over, to its rows of the result.
-/
module

public import proofs.«01_k».proof.Proof.SbIdeal.While

@[expose] public section

set_option maxRecDepth 65536

noncomputable section

namespace Cert.KernelIdeal.Sb

open Cert.KernelIdeal Cert.KernelIdeal.Gen Cert.Proof.Mem
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR nD τ) ℕ

section Trip
variable (c : Dev nD) (i : grid0.Coords)
  (arg2 : Memref sig .tc .vmem S1x128x4096 .f32) (harg2 : arg2.IsWhole)
  (arg3 : Memref sig .tc .vmem S1x4096x128 .bf16) (harg3 : arg3.IsWhole)
  (arg4 : Memref sig .tc .vmem S1x128x4096 .f32) (harg4 : arg4.IsWhole)
  (arg5 : Memref sig .tc .vmem S1x4096x128 .bf16) (harg5 : arg5.IsWhole)
  (arg6 : Memref sig .tc .vmem S144x256 .bf16) (harg6 : arg6.IsWhole) (arg7 : Memref sig .tc .vmem S128x4096 .bf16) (harg7 : arg7.IsWhole)
  (arg8 : Memref sig .tc .vmem S2x1x512 .f32) (harg8 : arg8.IsWhole) (arg9 : Memref sig .tc .vmem S2x128x512 .f32) (harg9 : arg9.IsWhole)
  (Q : Vec F S1x128x4096 .f32) (K : Vec F S1x4096x128 .bf16) (U : Vec F S144x256 .bf16) (V : Vec F S128x4096 .bf16)

/-- The result rows of every query block. -/
def rowsOf (n : Fin 16) : (rowsRect n).shape.Idx → Elt F .bf16 := outBlk (query U Q K V n)

/-- What holds before trip `k`: the reads as they are, the slots at anything, `2 (k + 1)` result blocks stored. -/
def inv (k : ℕ) : sProp 𝕄 :=
  iprop(owns (c : Thread nD τ) arg2 fullShare Q
    ∗ (∃ s0 s1 : St F, held c arg3 arg6 arg7 arg8 arg9 K U V s0 s1)
    ∗ upto (c : Thread nD τ) arg5 rowsRect (rowsOf Q K U V) (2 * (k + 1)))

theorem query_pos {n : Fin 16} (h : n.val ≠ 0) : query U Q K V n = final U Q K V n := by unfold query; rw [if_neg h]
theorem final_pos {n : Fin 16} (h : (swept U Q K V n).1 = n.val ∧ (swept U Q K V n).2.1 = 1#1) :
    final U Q K V n = full U Q K V n (swept U Q K V n).1 (swept U Q K V n).2.2 := by unfold final; rw [if_pos h]
theorem final_neg {n : Fin 16} (h : ¬((swept U Q K V n).1 = n.val ∧ (swept U Q K V n).2.1 = 1#1)) :
    final U Q K V n = (swept U Q K V n).2.2 := by unfold final; rw [if_neg h]

theorem qEven_pos {t : Fin k0_t1_loop.trips} : (qEven t).val ≠ 0 := by unfold qEven; simp
theorem qOdd_pos {t : Fin k0_t1_loop.trips} : (qOdd t).val ≠ 0 := by unfold qOdd; simp
theorem rows_of {n : Fin 16} (h : n.val ≠ 0) {s : St F} (e : final U Q K V n = s) : outBlk s = rowsOf Q K U V n := by
  unfold rowsOf; rw [query_pos Q K U V h, e]

variable (v279_0 : BitVec 32) (v279_1 : BitVec 1) (hw2 : k0_chk2 v279_0 v279_1)

set_option maxHeartbeats 4000000 in
theorem trip (E : Set ℕ) (t : Fin k0_t1_loop.trips) :
    inv c arg2 arg3 arg5 arg6 arg7 arg8 arg9 Q K U V t.val
      ⊢ wp frame (wpE (defs₀ (F := F)) 𝒱₀ (c : Thread nD τ) none) E
          (k0_t1_body i arg2 harg2 arg3 harg3 arg4 harg4 arg5 harg5 arg6 harg6 arg7 harg7 arg8 harg8 arg9 harg9 v279_0 v279_1 hw2 t ())
          (fun _ => inv c arg2 arg3 arg5 arg6 arg7 arg8 arg9 Q K U V (t.val + 1)) := by
  unfold inv k0_t1_body
  simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part3_eq_skeleton]
  unfold k0_part4_skel k0_part5_skel k0_part6_skel k0_part7_skel k0_part8_skel k0_part9_skel k0_part10_skel k0_part11_skel k0_part12_skel k0_part3_skel
  simp only [k0_part2_eq_skeleton]
  unfold k0_part2_skel
  simp only [Prog.lift, Prog.bind_op, Prog.bind_ret, Prog.pure_eq_ret]
  unfold held
  iintro ⟨H2, ⟨%s0, %s1, H3, H6, H7, H8, H9⟩, H5⟩
  iapply (own_load_eq 𝒱₀ (c : Thread nD τ) _ E (ld_qry Q _ (off7_even t) _)) $$ H2; iintro H2
  iapply (own_load_eq 𝒱₀ (c : Thread nD τ) _ E (ld_qry Q _ (off7_odd t) _)) $$ H2; iintro H2
  -- both slots start from zeros
  iapply (two_load0 𝒱₀ (c : Thread nD τ) _ E) $$ H8; iintro H8
  iapply (two_store0 𝒱₀ (c : Thread nD τ) _ E run_disjoint) $$ H8; iintro H8
  iapply (two_load0 𝒱₀ (c : Thread nD τ) _ E) $$ H9; iintro H9
  iapply (two_store0 𝒱₀ (c : Thread nD τ) _ E acc_disjoint) $$ H9; iintro H9
  iapply (two_load1 𝒱₀ (c : Thread nD τ) _ E) $$ H8; iintro H8
  iapply (two_store1 𝒱₀ (c : Thread nD τ) _ E run_disjoint') $$ H8; iintro H8
  iapply (two_load1 𝒱₀ (c : Thread nD τ) _ E) $$ H9; iintro H9
  iapply (two_store1 𝒱₀ (c : Thread nD τ) _ E acc_disjoint') $$ H9; iintro H9
  -- the four key blocks
  iapply (own_load_eq 𝒱₀ (c : Thread nD τ) _ E (ld_key K _ (off8_even0 t) _)) $$ H3; iintro H3
  iapply (own_load_eq 𝒱₀ (c : Thread nD τ) _ E (ld_key K _ (off8_even1 t) _)) $$ H3; iintro H3
  iapply (own_load_eq 𝒱₀ (c : Thread nD τ) _ E (ld_key K _ (off8_odd0 t) _)) $$ H3; iintro H3
  iapply (own_load_eq 𝒱₀ (c : Thread nD τ) _ E (ld_key K _ (off8_odd1 t) _)) $$ H3; iintro H3
  iapply (own_load_eq 𝒱₀ (c : Thread nD τ) _ E (ld_sum U)) $$ H6; iintro H6
  iapply (own_load_eq 𝒱₀ (c : Thread nD τ) _ E (ld_sum U)) $$ H6; iintro H6
  iapply (own_load_eq 𝒱₀ (c : Thread nD τ) _ E (ld_sum U)) $$ H6; iintro H6
  iapply (own_load_eq 𝒱₀ (c : Thread nD τ) _ E (ld_sum U)) $$ H6; iintro H6
  iapply (two_load0 𝒱₀ (c : Thread nD τ) _ E) $$ H8; iintro H8
  -- the even block's own keys
  iapply (two_load0 𝒱₀ (c : Thread nD τ) _ E) $$ H8; iintro H8
  iapply (two_store0 𝒱₀ (c : Thread nD τ) _ E run_disjoint) $$ H8; iintro H8
  iapply (two_load0 𝒱₀ (c : Thread nD τ) _ E) $$ H9; iintro H9
  iapply (own_load_eq 𝒱₀ (c : Thread nD τ) _ E (ld_val V _ (off9_even0 t) _)) $$ H7; iintro H7
  iapply (two_load0 𝒱₀ (c : Thread nD τ) _ E) $$ H9; iintro H9
  iapply (two_store0 𝒱₀ (c : Thread nD τ) _ E acc_disjoint) $$ H9; iintro H9
  -- and the ones before
  iapply (two_load0 𝒱₀ (c : Thread nD τ) _ E) $$ H8; iintro H8
  iapply (two_load0 𝒱₀ (c : Thread nD τ) _ E) $$ H8; iintro H8
  iapply (two_store0 𝒱₀ (c : Thread nD τ) _ E run_disjoint) $$ H8; iintro H8
  iapply (two_load0 𝒱₀ (c : Thread nD τ) _ E) $$ H9; iintro H9
  iapply (own_load_eq 𝒱₀ (c : Thread nD τ) _ E (ld_val V _ (off9_even1 t) _)) $$ H7; iintro H7
  iapply (two_load0 𝒱₀ (c : Thread nD τ) _ E) $$ H9; iintro H9
  iapply (two_store0 𝒱₀ (c : Thread nD τ) _ E acc_disjoint) $$ H9; iintro H9
  -- the odd block's own keys
  iapply (two_load1 𝒱₀ (c : Thread nD τ) _ E) $$ H8; iintro H8
  iapply (two_load1 𝒱₀ (c : Thread nD τ) _ E) $$ H8; iintro H8
  iapply (two_store1 𝒱₀ (c : Thread nD τ) _ E run_disjoint') $$ H8; iintro H8
  iapply (two_load1 𝒱₀ (c : Thread nD τ) _ E) $$ H9; iintro H9
  iapply (own_load_eq 𝒱₀ (c : Thread nD τ) _ E (ld_val V _ (off9_odd0 t) _)) $$ H7; iintro H7
  iapply (two_load1 𝒱₀ (c : Thread nD τ) _ E) $$ H9; iintro H9
  iapply (two_store1 𝒱₀ (c : Thread nD τ) _ E acc_disjoint') $$ H9; iintro H9
  -- and the ones before
  iapply (two_load1 𝒱₀ (c : Thread nD τ) _ E) $$ H8; iintro H8
  iapply (two_load1 𝒱₀ (c : Thread nD τ) _ E) $$ H8; iintro H8
  iapply (two_store1 𝒱₀ (c : Thread nD τ) _ E run_disjoint') $$ H8; iintro H8
  iapply (two_load1 𝒱₀ (c : Thread nD τ) _ E) $$ H9; iintro H9
  iapply (own_load_eq 𝒱₀ (c : Thread nD τ) _ E (ld_val V _ (off9_odd1 t) _)) $$ H7; iintro H7
  iapply (two_load1 𝒱₀ (c : Thread nD τ) _ E) $$ H9; iintro H9
  iapply (two_store1 𝒱₀ (c : Thread nD τ) _ E acc_disjoint') $$ H9; iintro H9
  iapply (two_load0 𝒱₀ (c : Thread nD τ) _ E) $$ H8; iintro H8
  -- the even block's while
  iapply (wp_call_spec 𝒱₀ (c : Thread nD τ) none E
    (spec2 c arg3 arg6 arg7 arg8 arg9 K U V Q (qEven t) 8 2 (live (first U Q K V (qEven t))) (first U Q K V (qEven t)) (first U Q K V (qOdd t))) 8
    (fun u hu => nomatch hu)
    (fun Z => spec2_le c i arg3 harg3 arg6 harg6 arg7 harg7 arg8 harg8 arg9 harg9 K U V Q v279_0 v279_1 hw2 t E 8 2 _ _ _ Z (by omega) (by have := (qEven t).isLt; omega)))
  rw [spec2_apply, show sweep U Q K V (qEven t) 8 2 (live (first U Q K V (qEven t))) (first U Q K V (qEven t)) = swept U Q K V (qEven t) from rfl]
  unfold held
  isplitl [H3 H6 H7 H8 H9]
  · isplitl [H3]; · iexact H3
    isplitl [H6]; · iexact H6
    isplitl [H7]; · iexact H7
    isplitl [H8]; · iexact H8
    iexact H9
  iintro ⟨H3, H6, H7, H8, H9⟩
  have hj : (swept U Q K V (qEven t)).1 < 17 := Nat.lt_succ_of_le (sweep_le (by omega))
  iapply (wp_assume 𝒱₀ (c : Thread nD τ) none E (chk4 t ⟨_, hj⟩ _))
  -- the block left over, if any
  by_cases hc : (swept U Q K V (qEven t)).1 = (qEven t).val ∧ (swept U Q K V (qEven t)).2.1 = 1#1
  on_goal 1 =>
    have hc' := (cond3 t ⟨_, hj⟩ _).mpr hc
    have e := final_pos Q K U V hc
    rw [dif_pos hc']
    simp only [Prog.lift, Prog.bind_op, Prog.bind_ret, Prog.pure_eq_ret]
    iapply (own_load_eq 𝒱₀ (c : Thread nD τ) _ E (ld_key K _ (off14 t ⟨_, hj⟩ hc.1) _)) $$ H3; iintro H3
    iapply (own_load_eq 𝒱₀ (c : Thread nD τ) _ E (ld_sum U)) $$ H6; iintro H6
    iapply (two_load0 𝒱₀ (c : Thread nD τ) _ E) $$ H8; iintro H8
    iapply (two_load0 𝒱₀ (c : Thread nD τ) _ E) $$ H8; iintro H8
    iapply (two_store0 𝒱₀ (c : Thread nD τ) _ E run_disjoint) $$ H8; iintro H8
    iapply (two_load0 𝒱₀ (c : Thread nD τ) _ E) $$ H9; iintro H9
    iapply (own_load_eq 𝒱₀ (c : Thread nD τ) _ E (ld_val V _ (off15 t ⟨_, hj⟩ hc.1) _)) $$ H7; iintro H7
    iapply (two_load0 𝒱₀ (c : Thread nD τ) _ E) $$ H9; iintro H9
    iapply (two_store0 𝒱₀ (c : Thread nD τ) _ E acc_disjoint) $$ H9; iintro H9
  on_goal 2 =>
    have hc' := fun h => hc ((cond3 t ⟨_, hj⟩ _).mp h)
    have e := final_neg Q K U V hc
    rw [dif_neg hc']
    simp only [Prog.lift, Prog.bind_op, Prog.bind_ret, Prog.pure_eq_ret]
  -- to the result
  all_goals
    iapply (two_load0 𝒱₀ (c : Thread nD τ) _ E) $$ H9; iintro H9
    iapply (upto_load 𝒱₀ (c : Thread nD τ) _ E) $$ H5; iintro %_; iintro H5
    iapply (upto_store 𝒱₀ (c : Thread nD τ) _ E rows_disjoint (qEven t) (by rfl) (rows_eq _ (off16 t) _)
      (heq_of_eq (rows_of Q K U V qEven_pos e))) $$ H5; iintro H5
    iapply (two_load1 𝒱₀ (c : Thread nD τ) _ E) $$ H8; iintro H8
    iapply (wp_call_spec 𝒱₀ (c : Thread nD τ) none E
      (spec3 c arg3 arg6 arg7 arg8 arg9 K U V Q (qOdd t) 8 2 (live (first U Q K V (qOdd t))) (final U Q K V (qEven t)) (first U Q K V (qOdd t))) 8
      (fun u hu => nomatch hu)
      (fun Z => spec3_le c i arg3 harg3 arg6 harg6 arg7 harg7 arg8 harg8 arg9 harg9 K U V Q v279_0 v279_1 hw2 t _ _ _ E 8 2 _ _ _ Z (by omega) (by have := (qOdd t).isLt; omega)))
    rw [spec3_apply, show sweep U Q K V (qOdd t) 8 2 (live (first U Q K V (qOdd t))) (first U Q K V (qOdd t)) = swept U Q K V (qOdd t) from rfl]
    unfold held; rw [e]
    isplitl [H3 H6 H7 H8 H9]
    · isplitl [H3]; · iexact H3
      isplitl [H6]; · iexact H6
      isplitl [H7]; · iexact H7
      isplitl [H8]; · iexact H8
      iexact H9
    iintro ⟨H3, H6, H7, H8, H9⟩
    have hk : (swept U Q K V (qOdd t)).1 < 17 := Nat.lt_succ_of_le (sweep_le (by omega))
    iapply (wp_assume 𝒱₀ (c : Thread nD τ) none E (chk6 t ⟨_, hk⟩ _))
    -- the block left over, if any
    by_cases hd : (swept U Q K V (qOdd t)).1 = (qOdd t).val ∧ (swept U Q K V (qOdd t)).2.1 = 1#1
    on_goal 1 =>
      have hd' := (cond4 t ⟨_, hk⟩ _).mpr hd
      have e2 := final_pos Q K U V hd
      rw [dif_pos hd']
      simp only [Prog.lift, Prog.bind_op, Prog.bind_ret, Prog.pure_eq_ret]
      iapply (own_load_eq 𝒱₀ (c : Thread nD τ) _ E (ld_key K _ (off21 t ⟨_, hk⟩ hd.1) _)) $$ H3; iintro H3
      iapply (own_load_eq 𝒱₀ (c : Thread nD τ) _ E (ld_sum U)) $$ H6; iintro H6
      iapply (two_load1 𝒱₀ (c : Thread nD τ) _ E) $$ H8; iintro H8
      iapply (two_load1 𝒱₀ (c : Thread nD τ) _ E) $$ H8; iintro H8
      iapply (two_store1 𝒱₀ (c : Thread nD τ) _ E run_disjoint') $$ H8; iintro H8
      iapply (two_load1 𝒱₀ (c : Thread nD τ) _ E) $$ H9; iintro H9
      iapply (own_load_eq 𝒱₀ (c : Thread nD τ) _ E (ld_val V _ (off22 t ⟨_, hk⟩ hd.1) _)) $$ H7; iintro H7
      iapply (two_load1 𝒱₀ (c : Thread nD τ) _ E) $$ H9; iintro H9
      iapply (two_store1 𝒱₀ (c : Thread nD τ) _ E acc_disjoint') $$ H9; iintro H9
    on_goal 2 =>
      have hd' := fun h => hd ((cond4 t ⟨_, hk⟩ _).mp h)
      have e2 := final_neg Q K U V hd
      rw [dif_neg hd']
      simp only [Prog.lift, Prog.bind_op, Prog.bind_ret, Prog.pure_eq_ret]
    -- to the result
    all_goals
      iapply (two_load1 𝒱₀ (c : Thread nD τ) _ E) $$ H9; iintro H9
      iapply (upto_load 𝒱₀ (c : Thread nD τ) _ E) $$ H5; iintro %_; iintro H5
      iapply (upto_store 𝒱₀ (c : Thread nD τ) _ E rows_disjoint (qOdd t) (by rfl) (rows_eq _ (off23 t) _)
        (heq_of_eq (rows_of Q K U V qOdd_pos e2))) $$ H5; iintro H5
      rw [wp_ret]; imodintro
      isplitl [H2]; · iexact H2
      isplitl [H3 H6 H7 H8 H9]
      · iexists (final U Q K V (qEven t)), (final U Q K V (qOdd t))
        rw [e, e2]
        isplitl [H3]; · iexact H3
        isplitl [H6]; · iexact H6
        isplitl [H7]; · iexact H7
        isplitl [H8]; · iexact H8
        iexact H9
      iexact H5

end Trip

end Cert.KernelIdeal.Sb
-- ==== Proof.SbIdeal.Body.lean ====
/-
  One grid point. From the three inputs' windows, the summing matrix as the first point left it and anything in the other
  buffers, the body stores every query block's rows.
-/
module

public import proofs.«01_k».proof.Proof.SbIdeal.Trip

@[expose] public section

set_option maxRecDepth 65536

noncomputable section

namespace Cert.KernelIdeal.Sb

open Cert.KernelIdeal Cert.KernelIdeal.Gen Cert.Proof.Mem
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR nD τ) ℕ

section Label
variable (c : Dev nD) (i : grid0.Coords)
  (arg3 : Memref sig .tc .vmem S1x4096x128 .bf16) (harg3 : arg3.IsWhole) (q : FVec F S128x512 .bf16)
  (arg6 : Memref sig .tc .vmem S144x256 .bf16) (harg6 : arg6.IsWhole) (arg7 : Memref sig .tc .vmem S128x4096 .bf16) (harg7 : arg7.IsWhole)
  (arg8 : Memref sig .tc .vmem S2x1x512 .f32) (harg8 : arg8.IsWhole) (arg9 : Memref sig .tc .vmem S2x128x512 .f32) (harg9 : arg9.IsWhole)

/-- The while of query block 1 returns at once: it has no pair of earlier blocks. -/
theorem spec1_le (E : Set ℕ) (b : BitVec 1) (Z : BitVec 32 × BitVec 1 → sProp 𝕄) :
    (pure (2#32, b) : sWPT 𝕄 (BitVec 32 × BitVec 1)) Z
      ⊢ wp frame (wpE (defs₀ (F := F)) 𝒱₀ (c : Thread nD τ) (some 0)) E
          (defs₀ (F := F) .tc 1 ⟨i, arg3, harg3, q, arg6, harg6, arg8, harg8, arg9, harg9, arg7, harg7, 2#32, b⟩) Z := by
  show Z (2#32, b) ⊢ wp frame (wpE (defs₀ (F := F)) 𝒱₀ (c : Thread nD τ) (some 0)) E
    (cc0_while1 i arg3 harg3 q arg6 harg6 arg8 harg8 arg9 harg9 arg7 harg7 2#32 b) Z
  rw [cc0_while1_eq_skeleton]; unfold cc0_while1_skel
  have ht : ¬ Scalar.andi (Scalar.cmpi .sle (Scalar.addi 2#32 1#32) 1#32) b = 1#1 := by rw [test1 b]; decide
  simp only [Prog.pure_eq_ret]
  rw [if_neg ht]
  iintro H
  rw [wp_ret]; imodintro; iexact H

end Label

/-- The summing matrix is stored at the first grid point. -/
abbrev isFirst (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1

/-- The result rows: those of the query block they lie in. -/
abbrev IsRows (Q : Vec F S1x128x4096 .f32) (K : Vec F S1x4096x128 .bf16) (V4 : Vec F S1x128x4096 .f32) (X : Vec F S1x4096x128 .bf16) : Prop :=
  ∀ n : Fin 16, View.ld X (rowsRect n) = rowsOf Q K k0_pay117 (k0_pay118 V4) n

section Body
variable (c : Dev nD) (i : grid0.Coords)
  (arg2 : Memref sig .tc .vmem S1x128x4096 .f32) (harg2 : arg2.IsWhole)
  (arg3 : Memref sig .tc .vmem S1x4096x128 .bf16) (harg3 : arg3.IsWhole)
  (arg4 : Memref sig .tc .vmem S1x128x4096 .f32) (harg4 : arg4.IsWhole)
  (arg5 : Memref sig .tc .vmem S1x4096x128 .bf16) (harg5 : arg5.IsWhole)
  (arg6 : Memref sig .tc .vmem S144x256 .bf16) (harg6 : arg6.IsWhole) (arg7 : Memref sig .tc .vmem S128x4096 .bf16) (harg7 : arg7.IsWhole)
  (arg8 : Memref sig .tc .vmem S2x1x512 .f32) (harg8 : arg8.IsWhole) (arg9 : Memref sig .tc .vmem S2x128x512 .f32) (harg9 : arg9.IsWhole)
  (Q : Vec F S1x128x4096 .f32) (K : Vec F S1x4096x128 .bf16) (V4 : Vec F S1x128x4096 .f32)

/-- The running rows and accumulator the point finds in slot 1. -/
def found (Z8 : Vec F S2x1x512 .f32) (Z9 : Vec F S2x128x512 .f32) : St F := ⟨View.ld Z8 run1, View.ld Z9 acc1⟩

theorem zero2 : (![0, 0] : Fin 2 → ℕ) = fun _ => 0 := by decide
theorem zero3 : (![0, 0, 0] : Fin 3 → ℕ) = fun _ => 0 := by decide

theorem query_zero : query k0_pay117 Q K (k0_pay118 V4) 0
    = stepDiag k0_pay117 (qBlk Q 0) (keyBlk K 0) (valBlk (k0_pay118 V4) 0) start := by unfold query; rw [if_pos (show (0 : Fin 16).val = 0 from rfl)]

theorem final_one (U : Vec F S144x256 .bf16) (V : Vec F S128x4096 .bf16) : final U Q K V 1 = first U Q K V 1 := by
  have h : swept U Q K V 1 = (2, live (first U Q K V 1), first U Q K V 1) := sweep_stop (by rintro ⟨h, -⟩; exact absurd h (by decide))
  rw [final_neg Q K U V (by rw [h]; rintro ⟨h', -⟩; exact absurd (show (2 : ℕ) = 1 from h') (by decide)), h]

set_option maxHeartbeats 4000000 in
theorem body (E : Set ℕ) (Z5 : Vec F S1x4096x128 .bf16) (Z6 : Vec F S144x256 .bf16) (h6 : ¬isFirst i → Z6 = k0_pay117)
    (Z7 : Vec F S128x4096 .bf16) (Z8 : Vec F S2x1x512 .f32) (Z9 : Vec F S2x128x512 .f32) (R : PUnit → sProp 𝕄) :
    iprop(owns (c : Thread nD τ) arg2 fullShare Q ∗ owns (c : Thread nD τ) arg3 fullShare K ∗ owns (c : Thread nD τ) arg4 fullShare V4
      ∗ owns (c : Thread nD τ) arg5 fullShare Z5 ∗ owns (c : Thread nD τ) arg6 fullShare Z6 ∗ owns (c : Thread nD τ) arg7 fullShare Z7
      ∗ owns (c : Thread nD τ) arg8 fullShare Z8 ∗ owns (c : Thread nD τ) arg9 fullShare Z9
      ∗ ((owns (c : Thread nD τ) arg2 fullShare Q ∗ owns (c : Thread nD τ) arg3 fullShare K ∗ owns (c : Thread nD τ) arg4 fullShare V4
          ∗ (∃ X, ⌜IsRows Q K V4 X⌝ ∗ owns (c : Thread nD τ) arg5 fullShare X)
          ∗ owns (c : Thread nD τ) arg6 fullShare k0_pay117 ∗ (∃ f, owns (c : Thread nD τ) arg7 fullShare f)
          ∗ (∃ f, owns (c : Thread nD τ) arg8 fullShare f) ∗ (∃ f, owns (c : Thread nD τ) arg9 fullShare f)) -∗ R ⟨⟩))
      ⊢ wp frame (wpE (defs₀ (F := F)) 𝒱₀ (c : Thread nD τ) none) E
          (cc0_sb_prompt i arg2 harg2 arg3 harg3 arg4 harg4 arg5 harg5 arg6 harg6 arg7 harg7 arg8 harg8 arg9 harg9) R := by
  rw [cc0_sb_prompt_eq_skeleton]; unfold cc0_sb_prompt_skel
  simp only [k0_part13_eq_skeleton, k0_part14_eq_skeleton, k0_part15_eq_skeleton, k0_part16_eq_skeleton, k0_part17_eq_skeleton, k0_part18_eq_skeleton, k0_part19_eq_skeleton]
  unfold k0_part13_skel k0_part14_skel k0_part15_skel k0_part16_skel k0_part17_skel k0_part18_skel k0_part19_skel
  simp only [Prog.lift, Prog.bind_op, Prog.bind_ret, Prog.pure_eq_ret]
  iintro ⟨H2, H3, H4, H5, H6, H7, H8, H9, Hk⟩
  -- the summing matrix
  by_cases hf : isFirst i
  on_goal 1 =>
    rw [dif_pos hf]
    simp only [Prog.lift, Prog.bind_op, Prog.bind_ret, Prog.pure_eq_ret]
    iapply (own_load 𝒱₀ (c : Thread nD τ) _ E) $$ H6; iintro H6
    iapply (own_store_whole 𝒱₀ (c : Thread nD τ) _ E zero2) $$ H6; iintro H6
  on_goal 2 =>
    rw [dif_neg hf]
    simp only [Prog.lift, Prog.bind_op, Prog.bind_ret, Prog.pure_eq_ret]
    rw [h6 hf]
  all_goals
    iapply (own_load_eq 𝒱₀ (c : Thread nD τ) _ E (ld_whole V4 zero3 _)) $$ H4; iintro H4
    iapply (own_load 𝒱₀ (c : Thread nD τ) _ E) $$ H7; iintro H7
    iapply (own_store_whole 𝒱₀ (c : Thread nD τ) _ E zero2) $$ H7; iintro H7
    ihave H8 := (two_intro (c := (c : Thread nD τ)) (m := arg8) (X := Z8) (r0 := run0) (r1 := run1)) $$ H8
    ihave H9 := (two_intro (c := (c : Thread nD τ)) (m := arg9) (X := Z9) (r0 := acc0) (r1 := acc1)) $$ H9
    ihave H5 := (upto_intro (c := (c : Thread nD τ)) (m := arg5) (X := Z5) (r := rowsRect) (G := rowsOf Q K k0_pay117 (k0_pay118 V4))) $$ H5
    -- query block 0
    iapply (own_load_eq 𝒱₀ (c : Thread nD τ) _ E (ld_qry Q 0 (by rfl) _)) $$ H2; iintro H2
    iapply (two_load0 𝒱₀ (c : Thread nD τ) _ E) $$ H8; iintro H8
    iapply (two_store0 𝒱₀ (c : Thread nD τ) _ E run_disjoint) $$ H8; iintro H8
    iapply (two_load0 𝒱₀ (c : Thread nD τ) _ E) $$ H9; iintro H9
    iapply (two_store0 𝒱₀ (c : Thread nD τ) _ E acc_disjoint) $$ H9; iintro H9
    iapply (own_load_eq 𝒱₀ (c : Thread nD τ) _ E (ld_key K 0 (by rfl) _)) $$ H3; iintro H3
    iapply (own_load_eq 𝒱₀ (c : Thread nD τ) _ E (ld_sum _)) $$ H6; iintro H6
    iapply (two_load0 𝒱₀ (c : Thread nD τ) _ E) $$ H8; iintro H8
    iapply (two_load0 𝒱₀ (c : Thread nD τ) _ E) $$ H8; iintro H8
    iapply (two_store0 𝒱₀ (c : Thread nD τ) _ E run_disjoint) $$ H8; iintro H8
    iapply (two_load0 𝒱₀ (c : Thread nD τ) _ E) $$ H9; iintro H9
    iapply (own_load_eq 𝒱₀ (c : Thread nD τ) _ E (ld_val _ 0 (by rfl) _)) $$ H7; iintro H7
    iapply (two_load0 𝒱₀ (c : Thread nD τ) _ E) $$ H9; iintro H9
    iapply (two_store0 𝒱₀ (c : Thread nD τ) _ E acc_disjoint) $$ H9; iintro H9
    iapply (two_load0 𝒱₀ (c : Thread nD τ) _ E) $$ H9; iintro H9
    iapply (upto_load 𝒱₀ (c : Thread nD τ) _ E) $$ H5; iintro %_; iintro H5
    iapply (upto_store 𝒱₀ (c : Thread nD τ) _ E rows_disjoint 0 (by rfl) (rows_eq 0 (by rfl) _)
      (heq_of_eq (congrArg outBlk (query_zero Q K V4)).symm)) $$ H5; iintro H5
    -- query block 1
    iapply (own_load_eq 𝒱₀ (c : Thread nD τ) _ E (ld_qry Q 1 (by rfl) _)) $$ H2; iintro H2
    iapply (two_load0 𝒱₀ (c : Thread nD τ) _ E) $$ H8; iintro H8
    iapply (two_store0 𝒱₀ (c : Thread nD τ) _ E run_disjoint) $$ H8; iintro H8
    iapply (two_load0 𝒱₀ (c : Thread nD τ) _ E) $$ H9; iintro H9
    iapply (two_store0 𝒱₀ (c : Thread nD τ) _ E acc_disjoint) $$ H9; iintro H9
    iapply (own_load_eq 𝒱₀ (c : Thread nD τ) _ E (ld_key K 1 (by rfl) _)) $$ H3; iintro H3
    iapply (own_load_eq 𝒱₀ (c : Thread nD τ) _ E (ld_key K 0 (by rfl) _)) $$ H3; iintro H3
    iapply (own_load_eq 𝒱₀ (c : Thread nD τ) _ E (ld_sum _)) $$ H6; iintro H6
    iapply (own_load_eq 𝒱₀ (c : Thread nD τ) _ E (ld_sum _)) $$ H6; iintro H6
    iapply (two_load0 𝒱₀ (c : Thread nD τ) _ E) $$ H8; iintro H8
    iapply (two_load0 𝒱₀ (c : Thread nD τ) _ E) $$ H8; iintro H8
    iapply (two_store0 𝒱₀ (c : Thread nD τ) _ E run_disjoint) $$ H8; iintro H8
    iapply (two_load0 𝒱₀ (c : Thread nD τ) _ E) $$ H9; iintro H9
    iapply (own_load_eq 𝒱₀ (c : Thread nD τ) _ E (ld_val _ 1 (by rfl) _)) $$ H7; iintro H7
    iapply (two_load0 𝒱₀ (c : Thread nD τ) _ E) $$ H9; iintro H9
    iapply (two_store0 𝒱₀ (c : Thread nD τ) _ E acc_disjoint) $$ H9; iintro H9
    iapply (two_load0 𝒱₀ (c : Thread nD τ) _ E) $$ H8; iintro H8
    iapply (two_load0 𝒱₀ (c : Thread nD τ) _ E) $$ H8; iintro H8
    iapply (two_store0 𝒱₀ (c : Thread nD τ) _ E run_disjoint) $$ H8; iintro H8
    iapply (two_load0 𝒱₀ (c : Thread nD τ) _ E) $$ H9; iintro H9
    iapply (own_load_eq 𝒱₀ (c : Thread nD τ) _ E (ld_val _ 0 (by rfl) _)) $$ H7; iintro H7
    iapply (two_load0 𝒱₀ (c : Thread nD τ) _ E) $$ H9; iintro H9
    iapply (two_store0 𝒱₀ (c : Thread nD τ) _ E acc_disjoint) $$ H9; iintro H9
    iapply (two_load0 𝒱₀ (c : Thread nD τ) _ E) $$ H8; iintro H8
    -- its while and the block left over: nothing
    iapply (wp_call_spec 𝒱₀ (c : Thread nD τ) none E (pure (2#32, live (first k0_pay117 Q K (k0_pay118 V4) 1))) 0
      (fun u hu => nomatch hu)
      (fun Z => spec1_le c i arg3 harg3 _ arg6 harg6 arg7 harg7 arg8 harg8 arg9 harg9 E _ Z))
    iapply (wp_assume 𝒱₀ (c : Thread nD τ) none E (chk2 _))
    rw [dif_neg (show ¬ k0_cond2 2#32 (live (first k0_pay117 Q K (k0_pay118 V4) 1)) = 1#1 from by rw [cond2]; decide)]
    simp only [Prog.lift, Prog.bind_op, Prog.bind_ret, Prog.pure_eq_ret]
    iapply (two_load0 𝒱₀ (c : Thread nD τ) _ E) $$ H9; iintro H9
    iapply (upto_load 𝒱₀ (c : Thread nD τ) _ E) $$ H5; iintro %_; iintro H5
    iapply (upto_store 𝒱₀ (c : Thread nD τ) _ E rows_disjoint 1 (by rfl) (rows_eq 1 (by rfl) _)
      (heq_of_eq (rows_of Q K k0_pay117 (k0_pay118 V4) (by decide) (final_one Q K k0_pay117 (k0_pay118 V4))))) $$ H5; iintro H5
    -- the loop over the other query blocks
    iapply (Scf.wp_for_bind (M := 𝕄) frame (wpE (defs₀ (F := F)) 𝒱₀ (c : Thread nD τ) none) E k0_t1_loop.lb k0_t1_loop.ub k0_t1_loop.st k0_t1_ok ()
      (k0_t1_body (F := F) i arg2 harg2 arg3 harg3 arg4 harg4 arg5 harg5 arg6 harg6 arg7 harg7 arg8 harg8 arg9 harg9 _ _ _)
      (fun k _ => inv c arg2 arg3 arg5 arg6 arg7 arg8 arg9 Q K k0_pay117 (k0_pay118 V4) k)
      (fun t _ => trip c i arg2 harg2 arg3 harg3 arg4 harg4 arg5 harg5 arg6 harg6 arg7 harg7 arg8 harg8 arg9 harg9 Q K k0_pay117 (k0_pay118 V4) _ _ _ E t)) $$ [H2 H3 H5 H6 H7 H8 H9]
    · unfold inv
      isplitl [H2]; · iexact H2
      isplitl [H3 H6 H7 H8 H9]
      · iexists (first k0_pay117 Q K (k0_pay118 V4) 1), (found Z8 Z9)
        unfold held
        isplitl [H3]; · iexact H3
        isplitl [H6]; · iexact H6
        isplitl [H7]; · iexact H7
        isplitl [H8]; · iexact H8
        iexact H9
      iexact H5
    iintro %_ H
    unfold inv held
    icases H with ⟨H2, ⟨%s0, %s1, H3, H6, H7, H8, H9⟩, H5⟩
    rw [wp_ret]; imodintro
    iapply Hk
    isplitl [H2]; · iexact H2
    isplitl [H3]; · iexact H3
    isplitl [H4]; · iexact H4
    isplitl [H5]
    · ihave H5 := (upto_elim (c := (c : Thread nD τ)) (m := arg5)) $$ H5
      icases H5 with ⟨%X, %hX, H5⟩
      iexists X; isplitr
      · ipureintro
        intro n
        refine hX n ?_
        have ht : Scf.trips k0_t1_loop.lb k0_t1_loop.ub k0_t1_loop.st = 7 := trips_eq
        rw [ht]; exact n.isLt
      · iexact H5
    isplitl [H6]; · iexact H6
    isplitl [H7]; · iexists _; iexact H7
    isplitl [H8]; · iapply (two_elim (c := (c : Thread nD τ)) (m := arg8)) $$ H8
    iapply (two_elim (c := (c : Thread nD τ)) (m := arg9)) $$ H9

end Body

end Cert.KernelIdeal.Sb
-- ==== Proof.SbIdeal.Run.lean ====
/-
  The launch. The host's six operations lay the queries, keys and values out; at each of the sixteen grid points (a batch
  and a pair of heads) the body finds its three blocks and leaves the result rows `outOf` of them.
-/
module

public import proofs.«01_k».proof.Proof.SbIdeal.Body
public import proofs.«01_k».proof.Proof.Gen.KernelIdeal.Launch
public import proofs.«01_k».proof.Proof.Gen.KernelIdeal.Points
public import Idealize.ShloMosaic.Lib.Pipeline.FrameBody
public import Idealize.ShloMosaic.PureOps.Ideal

@[expose] public section

set_option maxRecDepth 65536

noncomputable section

namespace Cert.KernelIdeal.Sb

open Cert.KernelIdeal Cert.KernelIdeal.Gen Cert.Proof.Mem
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose ΦA FramePost arrRef)

variable {F : FTy → Type} [FloatOps F] [Named F]

local notation "𝕄" => MT nD τ sig Unit (Elt F) ℕ (UR nD τ) ℕ

/-! ## The result of a point -/

/-- The query block row `s` lies in. -/
def rowBlk (s : Fin 4096) : Fin 16 := ⟨s.val / 256, by have := s.isLt; omega⟩

/-- The result of a point: row `s`, column `d` from the query block row `s` lies in. -/
def outOf (Q : Vec F S1x128x4096 .f32) (K : Vec F S1x4096x128 .bf16) (V4 : Vec F S1x128x4096 .f32) : Vec F S1x4096x128 .bf16 := fun x =>
  rowsOf Q K k0_pay117 (k0_pay118 V4) (rowBlk (x 1))
    (fun a => match a with
      | ⟨0, _⟩ => (0 : Fin 1)
      | ⟨1, _⟩ => (⟨(x 1).val % 256, Nat.mod_lt _ (by decide)⟩ : Fin 256)
      | ⟨2, _⟩ => (⟨(x 2).val, (x 2).isLt⟩ : Fin 128))

theorem eq_outOf {Q : Vec F S1x128x4096 .f32} {K : Vec F S1x4096x128 .bf16} {V4 : Vec F S1x128x4096 .f32} {X : Vec F S1x4096x128 .bf16}
    (h : IsRows Q K V4 X) : X = outOf Q K V4 := by
  funext x
  unfold outOf
  rw [← h (rowBlk (x 1))]
  refine congrArg X (funext fun a => Fin.ext ?_)
  match a with
  | ⟨0, _⟩ => have : (x 0).val < 1 := (x 0).isLt; show (x 0).val = 0 + 1 * 0; omega
  | ⟨1, _⟩ => show (x 1).val = 256 * ((x 1).val / 256) + 1 * ((x 1).val % 256); omega
  | ⟨2, _⟩ => show (x 2).val = 0 + 1 * (x 2).val; omega

/-! ## The proof data -/

variable (m : (ℓ : Loc nD τ sig) → Buf (Elt F) ℓ) (ρ : Dev nD → PrngReg)

/-- The buffers as the host's operations leave them. -/
def laid (c : Dev nD) (b : Ref sig .tc) : Buf (Elt F) ((c : Thread nD τ).loc b) := StableHlo.after hostOps0 (fun b => m (c, b)) b

/-- The blocks of the queries, keys and values at a point. -/
def blkQ (c : Dev nD) (t : Fin (cfg0 (F := F)).N) : Vec F S1x128x4096 .f32 := ((cfg0 (F := F)).win 0 |>.blk t).view.read (Elt F) (laid m c main_v1)
def blkK (c : Dev nD) (t : Fin (cfg0 (F := F)).N) : Vec F S1x4096x128 .bf16 := ((cfg0 (F := F)).win 1 |>.blk t).view.read (Elt F) (laid m c main_v3)
def blkV (c : Dev nD) (t : Fin (cfg0 (F := F)).N) : Vec F S1x128x4096 .f32 := ((cfg0 (F := F)).win 2 |>.blk t).view.read (Elt F) (laid m c main_v5)

/-- Before point `n`: the summing matrix, from the second point on; the other scratch buffers and the generator's register at anything. -/
def carried (c : Dev nD) (n : ℕ) : sProp 𝕄 :=
  iprop((∃ X, ⌜n ≠ 0 → X = k0_pay117⌝ ∗ owns (c : Thread nD τ) (Memref.whole cc0_scratch0) fullShare X)
    ∗ (∃ X, owns (c : Thread nD τ) (Memref.whole cc0_scratch1) fullShare X)
    ∗ (∃ X, owns (c : Thread nD τ) (Memref.whole cc0_scratch2) fullShare X)
    ∗ (∃ X, owns (c : Thread nD τ) (Memref.whole cc0_scratch3) fullShare X)
    ∗ ∃ r, prngReg c r)

def dats (_ : Fin 1) (c : Dev nD) : Dat τ (Elt F) Unit ℕ (UR nD τ) ℕ (cfg0 (F := F)) c where
  A w := laid m c (arrRef spec0 w)
  after w t := match w with
    | ⟨0, _⟩ => blkQ m c t
    | ⟨1, _⟩ => blkK m c t
    | ⟨2, _⟩ => blkV m c t
    | ⟨3, _⟩ => outOf (blkQ m c t) (blkK m c t) (blkV m c t)
  Φ t := carried c t.val
  q _ := fullShare
  owed _ := 0

theorem after_0 (c : Dev nD) (t : Fin (cfg0 (F := F)).N) : (dats m 0 c).after 0 t = blkQ m c t := by dsimp only [dats]; rfl
theorem after_1 (c : Dev nD) (t : Fin (cfg0 (F := F)).N) : (dats m 0 c).after 1 t = blkK m c t := by dsimp only [dats]; rfl
theorem after_2 (c : Dev nD) (t : Fin (cfg0 (F := F)).N) : (dats m 0 c).after 2 t = blkV m c t := by dsimp only [dats]; rfl
theorem after_3 (c : Dev nD) (t : Fin (cfg0 (F := F)).N) :
    (dats m 0 c).after 3 t = outOf (blkQ m c t) (blkK m c t) (blkV m c t) := by dsimp only [dats]; rfl

theorem before_0 (c : Dev nD) (t : Fin (cfg0 (F := F)).N) (d) : (dats m 0 c).before 0 t d = blkQ m c t :=
  ((dats m 0 c).before_fetched 0 t (fetch0_0 t) d).trans (by rfl)
theorem before_1 (c : Dev nD) (t : Fin (cfg0 (F := F)).N) (d) : (dats m 0 c).before 1 t d = blkK m c t :=
  ((dats m 0 c).before_fetched 1 t (fetch0_1 t) d).trans (by rfl)
theorem before_2 (c : Dev nD) (t : Fin (cfg0 (F := F)).N) (d) : (dats m 0 c).before 2 t d = blkV m c t :=
  ((dats m 0 c).before_fetched 2 t (fetch0_2 t) d).trans (by rfl)

theorem isFirst_iff : ∀ t : Fin grid0.N, isFirst (grid0.coords t) ↔ t.val = 0 := by decide +kernel

theorem Φ_castSucc (c : Dev nD) (t : Fin (cfg0 (F := F)).N) : (dats m 0 c).Φ t.castSucc = carried c t.val := by dsimp only [dats]; rfl
theorem Φ_succ (c : Dev nD) (t : Fin (cfg0 (F := F)).N) : (dats m 0 c).Φ t.succ = carried c (t.val + 1) := by dsimp only [dats]; rfl

theorem body_obligation (c : Dev nD) : BodyObligationLoose (dats (F := F) m 0 c) (defs₀ (F := F)) 𝒱₀ () Set.univ := fun t => by
  rw [bigSep_W0, bigSep_W0, Φ_castSucc, Φ_succ]
  show iprop(carried c t.val ∗ (dats (F := F) m 0 c).owesAt () t.castSucc
      ∗ (∃ d, owns (c : Thread nD τ) (st0_0 t) fullShare ((dats (F := F) m 0 c).before 0 t d))
      ∗ (∃ d, owns (c : Thread nD τ) (st0_1 t) fullShare ((dats (F := F) m 0 c).before 1 t d))
      ∗ (∃ d, owns (c : Thread nD τ) (st0_2 t) fullShare ((dats (F := F) m 0 c).before 2 t d))
      ∗ (∃ d, owns (c : Thread nD τ) (st0_3 t) fullShare ((dats (F := F) m 0 c).before 3 t d)))
    ⊢ wp frame (wpE (defs₀ (F := F)) 𝒱₀ (c : Thread nD τ) none) Set.univ (bodyAt0 t) (fun _ =>
        iprop(carried c (t.val + 1) ∗ (dats (F := F) m 0 c).owesAt () t.succ
          ∗ owns (c : Thread nD τ) (st0_0 t) fullShare ((dats (F := F) m 0 c).after 0 t)
          ∗ owns (c : Thread nD τ) (st0_1 t) fullShare ((dats (F := F) m 0 c).after 1 t)
          ∗ owns (c : Thread nD τ) (st0_2 t) fullShare ((dats (F := F) m 0 c).after 2 t)
          ∗ owns (c : Thread nD τ) (st0_3 t) fullShare ((dats (F := F) m 0 c).after 3 t)))
  rw [after_0, after_1, after_2, after_3,
    show (dats (F := F) m 0 c).owesAt () t.succ = (dats (F := F) m 0 c).owesAt () t.castSucc from rfl]
  simp only [before_0, before_1, before_2]
  unfold carried
  iintro ⟨⟨⟨%X6, %h6, H6⟩, ⟨%X7, H7⟩, ⟨%X8, H8⟩, ⟨%X9, H9⟩, Hr⟩, Ho, ⟨%_, H2⟩, ⟨%_, H3⟩, ⟨%_, H4⟩, ⟨%_, H5⟩⟩
  iapply (body c (grid0.coords t) (st0_0 t) _ (st0_1 t) _ (st0_2 t) _ (st0_3 t) _ (Memref.whole cc0_scratch0) _ (Memref.whole cc0_scratch1) _
    (Memref.whole cc0_scratch2) _ (Memref.whole cc0_scratch3) _ (blkQ m c t) (blkK m c t) (blkV m c t) Set.univ _ X6
    (fun h => h6 (fun h0 => h ((isFirst_iff t).mpr h0))) X7 X8 X9 _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H2, H3, H4, ⟨%X, %hX, H5⟩, H6, H7, H8, H9⟩
  isplitl [H6 H7 H8 H9 Hr]
  · isplitl [H6]
    · iexists k0_pay117; isplitr
      · ipureintro; exact fun _ => rfl
      · iexact H6
    isplitl [H7]; · iexact H7
    isplitl [H8]; · iexact H8
    isplitl [H9]; · iexact H9
    iexact Hr
  isplitl [Ho]; · iexact Ho
  isplitl [H2]; · iexact H2
  isplitl [H3]; · iexact H3
  isplitl [H4]; · iexact H4
  rw [← eq_outOf hX]
  iexact H5

/-! ## The run -/

theorem hostOps0_fresh : (hostOps0 : List (HloOp τ sig (Elt F))).Forall fun op => op.fresh = ∅ := ⟨rfl, rfl, rfl, rfl, rfl, rfl⟩

theorem carried_zero (c : Dev nD) : (ΦA spec0 c : sProp 𝕄) ⊢ carried (F := F) c 0 := by
  unfold ΦA carried
  rw [scopedRest0_eq]
  simp only [owns_whole]
  iintro ⟨⟨⟨%f0, H0⟩, H1, H2, H3⟩, Hr⟩
  isplitl [H0]
  · iexists f0; isplitr
    · ipureintro; exact fun h => absurd rfl h
    · iexact H0
  isplitl [H1]; · iexact H1
  isplitl [H2]; · iexact H2
  isplitl [H3]; · iexact H3
  iexact Hr

theorem carried_last (c : Dev nD) (n : ℕ) : carried (F := F) c n ⊢ (ΦA spec0 c : sProp 𝕄) := by
  unfold ΦA carried
  rw [scopedRest0_eq]
  simp only [owns_whole]
  iintro ⟨⟨%f0, -, H0⟩, H1, H2, H3, Hr⟩
  isplitl [H0 H1 H2 H3]
  · isplitl [H0]; · iexists f0; iexact H0
    isplitl [H1]; · iexact H1
    isplitl [H2]; · iexact H2
    iexact H3
  iexact Hr

/-- Every execution ends, with the result array as the sixteen write-backs leave it, every other array as the host's
    operations leave it, and every counter at zero. -/
theorem run_main : θ_run defs (onTc (τ := τ) (main (F := F))) ⟨m, fun _ => 0, ρ⟩
    (fun r => FramePost (cfgs (F := F)) (dats m) 0 (fun c b => laid m c b) r ∧ r.2.sem = fun _ => 0) :=
  Pipeline.θ_run_frame_track cfgs (dats m) 0 launch0 defs₀ 𝒱₀ m ρ main
    (hbody := body_obligation m) (hshare := fun c w => by unfold Dat.share; split <;> rfl) (howed := fun _ _ => rfl)
    (V := fun c b => laid m c b)
    (hmain := Pipeline.hmain_prefix cfgs 0 defs₀ 𝒱₀ m main hostOps0 hostOps0_sub hostOps0_fresh (fun c => main_chain c))
    (hA := fun _ _ => rfl)
    (hin := fun c => carried_zero c)
    (hout := fun c => carried_last c _)
    (Q' := fun r => FramePost (cfgs (F := F)) (dats m) 0 (fun c b => laid m c b) r ∧ r.2.sem = fun _ => 0)
    (hQ' := fun _ h => h)

/-! ## The frame -/

theorem laid_arg0 (c : Dev nD) : laid m c main_arg0 = m ((c : Thread nD τ).loc main_arg0) := by unfold laid; after_results
theorem laid_arg1 (c : Dev nD) : laid m c main_arg1 = m ((c : Thread nD τ).loc main_arg1) := by unfold laid; after_results
theorem laid_arg2 (c : Dev nD) : laid m c main_arg2 = m ((c : Thread nD τ).loc main_arg2) := by unfold laid; after_results

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (show main_arg0 ∈ Pipeline.restRefs sig spec0 from by decide)).trans (laid_arg0 m c), ((h.1 c).2 main_arg1 (show main_arg1 ∈ Pipeline.restRefs sig spec0 from by decide)).trans (laid_arg1 m c),
      ((h.1 c).2 main_arg2 (show main_arg2 ∈ Pipeline.restRefs sig spec0 from by decide)).trans (laid_arg2 m c)⟩, h.2⟩) (run_main m ρ)

end Cert.KernelIdeal.Sb
-- ==== Proof.SbValue.Real.lean ====
/-
  The arithmetic of stick-breaking attention over the real numbers: the softplus in base 2, its place among the extended
  reals, the masked sums over a tail of the keys and how a block of 256 keys adds to them, and the weight written in base 2
  and in base e.
-/
module

public import Idealize.ShloMosaic.Lib.Pointwise

@[expose] public section

noncomputable section

namespace Cert.Proof.Stick

open Idealize.ShloMosaic Finset

/-! ## The softplus -/

/-- `log₂ (1 + 2^z)`. -/
def sp (z : ℝ) : ℝ := Real.log (1 + (2 : ℝ) ^ z) * (Real.log 2)⁻¹

theorem log2_pos : 0 < Real.log 2 := Real.log_pos (by norm_num)

theorem two_pow (z : ℝ) : (2 : ℝ) ^ z = Real.exp (z * Real.log 2) := by
  rw [Real.rpow_def_of_pos (by norm_num), mul_comm]

theorem one_add_pos (z : ℝ) : 0 < 1 + (2 : ℝ) ^ z := add_pos one_pos (Real.rpow_pos_of_pos (by norm_num) z)

theorem le_sp (z : ℝ) : z ≤ sp z := by
  unfold sp
  rw [← div_eq_mul_inv, le_div_iff₀ log2_pos, Real.le_log_iff_exp_le (one_add_pos z), ← two_pow]
  linarith

theorem exp2_coe (z : ℝ) : Ideal.exp2 (z : EReal) = (((2 : ℝ) ^ z : ℝ) : EReal) := rfl

theorem exp_coe (z : ℝ) : Ideal.exp (z : EReal) = ((Real.exp z : ℝ) : EReal) := rfl

theorem log_coe {x : ℝ} (h : 0 < x) : Ideal.log (x : EReal) = ((Real.log x : ℝ) : EReal) := by
  show (if x ≤ 0 then ⊥ else ((Real.log x : ℝ) : EReal)) = _
  rw [if_neg (not_le.mpr h)]

/-- What the kernel computes of a real logit: the clamp at `⊤` and the floor at the logit change nothing. -/
theorem softplus_coe (z : ℝ) :
    max (Ideal.log (1 + Ideal.exp2 (min (z : EReal) ⊤)) * (((Real.log 2)⁻¹ : ℝ) : EReal)) (z : EReal) = ((sp z : ℝ) : EReal) := by
  have h1 : (1 : EReal) + (((2 : ℝ) ^ z : ℝ) : EReal) = ((1 + (2 : ℝ) ^ z : ℝ) : EReal) := by rw [EReal.coe_add, EReal.coe_one]
  rw [min_eq_left le_top, exp2_coe, h1, log_coe (one_add_pos z), ← EReal.coe_mul]
  exact max_eq_left (EReal.coe_le_coe_iff.mpr (le_sp z))

/-! ## Sums of reals among the extended reals -/

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

/-- A sum over the numbers below `n`, over those from `a` on. -/
theorem sum_tail {M : Type} [AddCommMonoid M] (n a : ℕ) (f : ℕ → M) : (∑ j : Fin n, if a ≤ j.val then f j.val else 0) = ∑ i ∈ Ico a n, f i := by
  rw [← Finset.sum_range (fun i => if a ≤ i then f i else 0), ← Finset.sum_filter]
  refine Finset.sum_congr ?_ fun _ _ => rfl
  ext i
  simp only [mem_filter, mem_range, mem_Ico]
  tauto

theorem sum_block {M : Type} [AddCommMonoid M] (b : ℕ) (f : ℕ → M) : ∑ i ∈ Ico (256 * b) (256 * (b + 1)), f i = ∑ j : Fin 256, f (256 * b + j.val) := by
  rw [Finset.sum_Ico_eq_sum_range, show 256 * (b + 1) - 256 * b = 256 from by omega, Finset.sum_range]

/-! ## The masked sums -/

section Column
variable (t : ℕ) (z : ℕ → ℝ)

/-- The softplus of key `s`, counted for the keys before the query alone. -/
def cost (s : ℕ) : ℝ := if s < t then sp (z s) else 0

/-- The cost of the keys from `s` on. -/
def tail (s : ℕ) : ℝ := ∑ i ∈ Ico s 4096, cost t z i

/-- The weight of key `s`. -/
def weight (s : ℕ) : ℝ := if s < t then (2 : ℝ) ^ (z s - tail t z s) else 0

theorem tail_past {s : ℕ} (h : t ≤ s) : tail t z s = 0 :=
  Finset.sum_eq_zero fun i hi => if_neg (by have := (mem_Ico.mp hi).1; omega)

/-- The tail from inside a block: what is left of the block, and the blocks behind it. -/
theorem tail_split {b : ℕ} (hb : b < 16) {j : ℕ} (hj : j ≤ 256) :
    tail t z (256 * b + j) = (∑ i ∈ Ico j 256, cost t z (256 * b + i)) + tail t z (256 * (b + 1)) := by
  unfold tail
  rw [← Finset.sum_Ico_consecutive _ (show 256 * b + j ≤ 256 * (b + 1) by omega) (show 256 * (b + 1) ≤ 4096 by omega)]
  congr 1
  rw [Finset.sum_Ico_add (fun i => cost t z i) j 256 (256 * b), Nat.add_comm (256 * b) j, show 256 * (b + 1) = 256 + 256 * b from by omega]

/-! ## The same weights in base e -/

/-- `log (1 + e^x)`. -/
def soft (x : ℝ) : ℝ := Real.log (1 + Real.exp x)

/-- A logit in base 2. -/
def toTwo (x : ℝ) : ℝ := x * (Real.log 2)⁻¹

theorem toTwo_mul (x : ℝ) : toTwo x * Real.log 2 = x := by
  unfold toTwo; rw [mul_assoc, inv_mul_cancel₀ log2_pos.ne', mul_one]

theorem soft_eq (x : ℝ) : soft x = sp (toTwo x) * Real.log 2 := by
  unfold soft sp
  rw [two_pow, toTwo_mul, mul_assoc, inv_mul_cancel₀ log2_pos.ne', mul_one]

theorem soft_neg (x : ℝ) : -soft (-x) = x - soft x := by
  unfold soft
  have h : 1 + Real.exp x = Real.exp x * (1 + Real.exp (-x)) := by
    rw [mul_add, ← Real.exp_add]; simp [add_comm]
  rw [h, Real.log_mul (Real.exp_pos x).ne' (add_pos one_pos (Real.exp_pos _)).ne', Real.log_exp]; ring

/-- The reference's softplus of a real logit. -/
theorem soft_coe (x : ℝ) :
    max (x : EReal) 0 + Ideal.log1p (Ideal.exp (-(max ((x : EReal) - 0) (-((x : EReal) - 0))))) = ((soft x : ℝ) : EReal) := by
  have h0 : (x : EReal) - 0 = ((x : ℝ) : EReal) := by rw [sub_zero]
  have h1 : max (x : EReal) (-(x : EReal)) = ((|x| : ℝ) : EReal) := by
    rw [← EReal.coe_neg, ← EReal.coe_strictMono.monotone.map_max]; rfl
  have h2 : (1 : EReal) + ((Real.exp (-|x|) : ℝ) : EReal) = ((1 + Real.exp (-|x|) : ℝ) : EReal) := by rw [EReal.coe_add, EReal.coe_one]
  have h3 : max (x : EReal) 0 = ((max x 0 : ℝ) : EReal) := by rw [EReal.coe_strictMono.monotone.map_max, EReal.coe_zero]
  have hp : 0 < 1 + Real.exp (-|x|) := add_pos one_pos (Real.exp_pos _)
  rw [h0, h1, ← EReal.coe_neg, exp_coe, Ideal.log1p, h2, log_coe hp, h3, ← EReal.coe_add]
  congr 1
  unfold soft
  rcases le_total 0 x with h | h
  · rw [abs_of_nonneg h, max_eq_left h]
    have : 1 + Real.exp x = Real.exp x * (1 + Real.exp (-x)) := by rw [mul_add, ← Real.exp_add]; simp [add_comm]
    rw [this, Real.log_mul (Real.exp_pos x).ne' (add_pos one_pos (Real.exp_pos _)).ne', Real.log_exp]
  · rw [abs_of_nonpos h, max_eq_right h, neg_neg, zero_add]

/-- What the reference adds up: minus the softplus of the keys before the query. -/
def keep (x : ℕ → ℝ) (s : ℕ) : ℝ := if s < t then -soft (x s) else 0

/-- The reference's weight of key `s` is the one in base 2. -/
theorem weight_eq (x : ℕ → ℝ) {s : ℕ} (h : s < t) :
    Real.exp (-soft (-x s) + ((∑ i ∈ Ico s 4096, keep t x i) - keep t x s)) = weight t (fun i => toTwo (x i)) s := by
  have hk : ∀ i, keep t x i = -(cost t (fun i => toTwo (x i)) i * Real.log 2) := fun i => by
    unfold keep cost
    split <;> simp [soft_eq]
  unfold weight
  rw [if_pos h, two_pow, soft_neg, keep, if_pos h]
  congr 1
  rw [Finset.sum_congr rfl fun i _ => hk i, Finset.sum_neg_distrib, ← Finset.sum_mul, sub_mul, toTwo_mul]
  unfold tail
  ring

end Column

end Cert.Proof.Stick
-- ==== Proof.SbValue.Matrix.lean ====
/-
  The named constants over the extended reals, and the summing matrix: a row of it against a column of softplus values and
  their zero remainders is minus the sum of the values from the row on (of all of them, for the rows past 127).
-/
module

public import proofs.«01_k».proof.Proof.SbIdeal.Block
public import proofs.«01_k».proof.Proof.SbValue.Real

@[expose] public section

set_option maxRecDepth 65536

noncomputable section

namespace Cert.KernelIdeal.Sb

open Cert.KernelIdeal Cert.KernelIdeal.Gen Cert.Proof.Stick
open Idealize.ShloMosaic Idealize.ShloMosaic.TcCoe Finset

theorem clamp_eq : Named.named (F := Ideal) (φ := .f32) κ "clamp" 0x42C80000#32 = ⊤ := IdealRules.named_const.ideal_named_scalar _ _ _ _ rfl
theorem log2e_eq : Named.named (F := Ideal) (φ := .f32) κ "log2e" 0x3FB8AA3B#32 = (((Real.log 2)⁻¹ : ℝ) : EReal) :=
  IdealRules.named_const.ideal_named_scalar _ _ _ _ rfl
theorem mask_eq : Named.named (F := Ideal) (φ := .f32) κ "mask" 0xF149F2CA#32 = ⊥ := IdealRules.named_const.ideal_named_scalar _ _ _ _ rfl
theorem dead_eq : Named.named (F := Ideal) (φ := .f32) κ "dead" 0xC3200000#32 = ⊥ := IdealRules.named_const.ideal_named_scalar _ _ _ _ rfl
theorem scale_eq : Named.named (F := Ideal) (φ := .f32) κ "qk_scale" 0x3E38AA3B#32 = (((8 * Real.log 2)⁻¹ : ℝ) : EReal) :=
  IdealRules.named_const.ideal_named_scalar _ _ _ _ rfl

/-! ## The summing matrix -/

theorem sum_bits : ∀ (s : Fin 144) (c : Fin 256),
    IntOp.ori (IntOp.cmpi CmpIPredicate.sge (IntOp.andi (BitVec.ofNat 32 c.val) 127#32) (BitVec.ofNat 32 s.val))
      (IntOp.cmpi CmpIPredicate.sge (BitVec.ofNat 32 s.val) 128#32) = if s.val ≤ c.val % 128 ∨ 128 ≤ s.val then 1#1 else 0#1 := by
  decide +kernel

theorem minus_one : Ideal.ofBits FTy.f32 0xBF800000#32 = ((-1 : ℝ) : EReal) := by
  simp [Ideal.ofBits, Ideal.ieee, -EReal.coe_mul, -EReal.coe_neg]; norm_num

theorem sum_apply (s : Fin 144) (c : Fin 256) :
    (k0_pay117 (F := Ideal) : S144x256.Idx → EReal) (ix2 s c) = ((if s.val ≤ c.val % 128 ∨ 128 ≤ s.val then -1 else 0 : ℝ) : EReal) := by
  pointwise [k0_pay117]
  rw [sum_bits, minus_one]
  split
  · rfl
  · exact EReal.coe_zero.symm

/-- A row of the summing matrix against a column of softplus values and their zero remainders. -/
theorem sum_row (s : Fin 144) (g : ℕ → ℝ) (P : Fin 256 → EReal)
    (hP : ∀ x : Fin 256, P x = ((if x.val < 128 then g x.val else 0 : ℝ) : EReal)) :
    ∑ x : Fin 256, (k0_pay117 (F := Ideal) : S144x256.Idx → EReal) (ix2 s x) * P x
      = ((-∑ j ∈ Ico (if 128 ≤ s.val then 0 else s.val) 128, g j : ℝ) : EReal) := by
  have h : ∀ x : Fin 256, (k0_pay117 (F := Ideal) : S144x256.Idx → EReal) (ix2 s x) * P x
      = ((if (if 128 ≤ s.val then 0 else s.val) ≤ x.val then (if x.val < 128 then -g x.val else 0) else 0 : ℝ) : EReal) := fun x => by
    rw [sum_apply, hP, ← EReal.coe_mul]
    congr 1
    have := x.isLt
    by_cases h1 : x.val < 128
    · rw [Nat.mod_eq_of_lt h1, if_pos h1, if_pos h1]
      by_cases h2 : 128 ≤ s.val
      · simp [h2]
      · simp [h2]
    · rw [if_neg h1, if_neg h1, mul_zero, ite_self]
  rw [Finset.sum_congr rfl fun x _ => h x, ← coe_sum]
  congr 1
  rw [sum_tail 256 _ (fun i => if i < 128 then -g i else 0), ← Finset.sum_neg_distrib,
    ← Finset.sum_Ico_consecutive _ (show (if 128 ≤ s.val then 0 else s.val) ≤ 128 by split <;> omega) (show 128 ≤ 256 by decide)]
  rw [Finset.sum_congr rfl fun i hi => if_pos (mem_Ico.mp hi).2, add_eq_left]
  exact Finset.sum_eq_zero fun i hi => if_neg (by have := (mem_Ico.mp hi).1; omega)

end Cert.KernelIdeal.Sb
-- ==== Proof.SbValue.Step.lean ====
/-
  What one block of 256 keys does to a column of the state, read at an index over the extended reals.
-/
module

public import proofs.«01_k».proof.Proof.SbValue.Matrix
public import Idealize.ShloMosaic.Lib.WordCmp

@[expose] public section

set_option maxRecDepth 65536

noncomputable section

namespace Cert.KernelIdeal.Sb

open Cert.KernelIdeal Cert.KernelIdeal.Gen Cert.Proof.Stick
open Idealize.ShloMosaic Idealize.ShloMosaic.TcCoe Finset

/-! ## The exponent and the running row -/

section Exponent
variable (G : ℕ → ℝ) (ρ : ℝ) (Z1 Z2 : Fin 144 → EReal)
  (h1 : ∀ s : Fin 144, Z1 s = ((-∑ j ∈ Ico (if 128 ≤ s.val then 0 else s.val) 128, G j : ℝ) : EReal))
  (h2 : ∀ s : Fin 144, Z2 s = ((-∑ j ∈ Ico (if 128 ≤ s.val then 0 else s.val) 128, G (128 + j) : ℝ) : EReal))
include h1 h2

/-- Both halves of a block take from a logit the running row and the costs from the key on. -/
theorem exponent (R : Fin 256 → EReal) (s : Fin 256) :
    (if h : s.val < 128 then R s + Z1 ⟨s.val, by omega⟩ + ((ρ : EReal) + Z2 128)
      else R ⟨128 + (s.val - 128), by omega⟩ + Z2 ⟨s.val - 128, by omega⟩ + (ρ : EReal))
      = R s + ((ρ - ∑ i ∈ Ico s.val 256, G i : ℝ) : EReal) := by
  have hs := s.isLt
  have hup : ∀ a, a ≤ 128 → ∑ i ∈ Ico (128 + a) 256, G i = ∑ j ∈ Ico a 128, G (128 + j) := fun a ha => by
    rw [Finset.sum_Ico_add G a 128 128, Nat.add_comm 128 a]
  split
  · next h =>
    rw [h1, h2, if_neg (by show ¬ (128 ≤ s.val); omega), if_pos (by decide), add_assoc, ← EReal.coe_add, ← EReal.coe_add]
    congr 2
    rw [← Finset.sum_Ico_consecutive G (show s.val ≤ 128 by omega) (show 128 ≤ 256 by decide), hup 0 (by decide)]
    ring
  · next h =>
    have e : (⟨128 + (s.val - 128), by omega⟩ : Fin 256) = s := Fin.ext (by show 128 + (s.val - 128) = s.val; omega)
    rw [h2, if_neg (by show ¬ (128 ≤ s.val - 128); omega), e, add_assoc, ← EReal.coe_add]
    congr 2
    have := hup (s.val - 128) (by omega)
    rw [show 128 + (s.val - 128) = s.val by omega] at this
    rw [this]; ring

/-- The running row gains the block's costs. -/
theorem running : (ρ : EReal) + (Z1 128 + Z2 128) = ((ρ - ∑ i ∈ Ico 0 256, G i : ℝ) : EReal) := by
  rw [h1, h2, if_pos (by decide), ← EReal.coe_add, ← EReal.coe_add]
  congr 1
  rw [← Finset.sum_Ico_consecutive G (show 0 ≤ 128 by decide) (show 128 ≤ 256 by decide),
    show ∑ i ∈ Ico 128 256, G i = ∑ j ∈ Ico 0 128, G (128 + j) from (Finset.sum_Ico_add G 0 128 128).symm]
  ring

end Exponent

/-! ## One block, from its logits and its costs -/

theorem sub_self_coe (x : ℝ) : (x : EReal) - (x : EReal) = ((0 : ℝ) : EReal) := by rw [← EReal.coe_sub, sub_self]

/-- The first 128 rows of the costs, rounded, over what the rounding left. -/
def half0 (Y : FVec Ideal S256x512 .f32) : FVec Ideal S256x512 .bf16 :=
  concatenate S256x512 0 [⟨S128x512, extractStridedSlice S128x512 ![0, 0] (truncf .bf16 Y bitsLt_bf16_f32) slices_S256x512_o0_0_S128x512⟩,
    ⟨S128x512, extractStridedSlice S128x512 ![0, 0] (truncf .bf16 (subf Y (extf .f32 (truncf .bf16 Y bitsLt_bf16_f32) bitsLt_bf16_f32)) bitsLt_bf16_f32)
      slices_S256x512_o0_0_S128x512⟩] concatenates_S128x512_S128x512_S256x512_d0

/-- The last 128 rows, likewise. -/
def half1 (Y : FVec Ideal S256x512 .f32) : FVec Ideal S256x512 .bf16 :=
  concatenate S256x512 0 [⟨S128x512, extractStridedSlice S128x512 ![128, 0] (truncf .bf16 Y bitsLt_bf16_f32) slices_S256x512_o128_0_S128x512⟩,
    ⟨S128x512, extractStridedSlice S128x512 ![128, 0] (truncf .bf16 (subf Y (extf .f32 (truncf .bf16 Y bitsLt_bf16_f32) bitsLt_bf16_f32)) bitsLt_bf16_f32)
      slices_S256x512_o128_0_S128x512⟩] concatenates_S128x512_S128x512_S256x512_d0

/-- The step both kinds of block are: `R` the logits, `Y` the costs. -/
def stepOf (R Y : FVec Ideal S256x512 .f32) (vb : Vec Ideal S128x256 .bf16) (st : St Ideal) : St Ideal :=
  ⟨k0_pay212 (half0 Y) (half1 Y) (k0_pay117 (F := Ideal)) st.run,
   k0_pay214 (k0_pay211 R (half0 Y) (half1 Y) (k0_pay117 (F := Ideal)) st.run) (k0_pay213 st.acc) vb⟩

theorem stepFull_eq (q : FVec Ideal S128x512 .bf16) (kb : Vec Ideal S1x256x128 .bf16) (vb : Vec Ideal S128x256 .bf16) (st : St Ideal) :
    stepFull (k0_pay117 (F := Ideal)) q kb vb st = stepOf (k0_pay195 q kb) (k0_pay196 q kb) vb st := rfl

theorem stepDiag_eq (q : FVec Ideal S128x512 .bf16) (kb : Vec Ideal S1x256x128 .bf16) (vb : Vec Ideal S128x256 .bf16) (st : St Ideal) :
    stepDiag (k0_pay117 (F := Ideal)) q kb vb st = stepOf (k0_pay126 q kb) (k0_pay125 q kb) vb st := rfl

section Column
variable (R Y : FVec Ideal S256x512 .f32) (vb : Vec Ideal S128x256 .bf16) (st : St Ideal) (c : Fin 512) (G : ℕ → ℝ) (ρ : ℝ)
  (hY : ∀ s : Fin 256, (Y : S256x512.Idx → EReal) (ix2 s c) = ((G s.val : ℝ) : EReal))
  (hr : (st.run : S1x1x512.Idx → EReal) (ix3 0 0 c) = (ρ : EReal))
include hY

theorem half0_apply (x : Fin 256) : (half0 Y : S256x512.Idx → EReal) (ix2 x c) = ((if x.val < 128 then G x.val else 0 : ℝ) : EReal) := by
  pointwise [half0]
  split
  · exact hY x
  · simp only [hY]; exact sub_self_coe _

theorem half1_apply (x : Fin 256) : (half1 Y : S256x512.Idx → EReal) (ix2 x c) = ((if x.val < 128 then G (128 + x.val) else 0 : ℝ) : EReal) := by
  pointwise [half1]
  split
  · next hx => exact hY ⟨128 + x.val, by omega⟩
  · simp only [hY]; exact sub_self_coe _

theorem sums0 (s : Fin 144) : (k0_pay205 (half0 Y) (k0_pay117 (F := Ideal)) : S144x512.Idx → EReal) (ix2 s c)
    = ((-∑ j ∈ Ico (if 128 ≤ s.val then 0 else s.val) 128, G j : ℝ) : EReal) := by
  have h := half0_apply Y c G hY
  unfold k0_pay205
  generalize half0 Y = X at h ⊢
  pointwise []
  exact sum_row s G (fun x => (X : S256x512.Idx → EReal) (ix2 x c)) h

theorem sums1 (s : Fin 144) : (k0_pay206 (half1 Y) (k0_pay117 (F := Ideal)) : S144x512.Idx → EReal) (ix2 s c)
    = ((-∑ j ∈ Ico (if 128 ≤ s.val then 0 else s.val) 128, G (128 + j) : ℝ) : EReal) := by
  have h := half1_apply Y c G hY
  unfold k0_pay206
  generalize half1 Y = X at h ⊢
  pointwise []
  exact sum_row s (fun j => G (128 + j)) (fun x => (X : S256x512.Idx → EReal) (ix2 x c)) h

include hr

theorem weights (s : Fin 256) :
    (k0_pay211 R (half0 Y) (half1 Y) (k0_pay117 (F := Ideal)) st.run : S256x512.Idx → EReal) (ix2 s c)
      = Ideal.exp2 ((R : S256x512.Idx → EReal) (ix2 s c) + ((ρ - ∑ i ∈ Ico s.val 256, G i : ℝ) : EReal)) := by
  have h1 := sums0 Y c G hY
  have h2 := sums1 Y c G hY
  unfold k0_pay211 k0_pay209 k0_pay210
  generalize k0_pay205 (half0 Y) (k0_pay117 (F := Ideal)) = Y1 at h1 ⊢
  generalize k0_pay206 (half1 Y) (k0_pay117 (F := Ideal)) = Y2 at h2 ⊢
  pointwise []
  rw [hr]
  exact congrArg Ideal.exp2 (exponent G ρ (fun s => (Y1 : S144x512.Idx → EReal) (ix2 s c)) (fun s => (Y2 : S144x512.Idx → EReal) (ix2 s c)) h1 h2
    (fun s => (R : S256x512.Idx → EReal) (ix2 s c)) s)

/-- The running row after the block. -/
theorem stepOf_run : ((stepOf R Y vb st).run : S1x1x512.Idx → EReal) (ix3 0 0 c) = ((ρ - ∑ i ∈ Ico 0 256, G i : ℝ) : EReal) := by
  have h1 := sums0 Y c G hY
  have h2 := sums1 Y c G hY
  show (k0_pay212 (half0 Y) (half1 Y) (k0_pay117 (F := Ideal)) st.run : S1x1x512.Idx → EReal) (ix3 0 0 c) = _
  unfold k0_pay212 k0_pay209 k0_pay210
  generalize k0_pay205 (half0 Y) (k0_pay117 (F := Ideal)) = Y1 at h1 ⊢
  generalize k0_pay206 (half1 Y) (k0_pay117 (F := Ideal)) = Y2 at h2 ⊢
  pointwise []
  rw [hr]
  exact running G ρ (fun s => (Y1 : S144x512.Idx → EReal) (ix2 s c)) (fun s => (Y2 : S144x512.Idx → EReal) (ix2 s c)) h1 h2

/-- The accumulator after the block. -/
theorem stepOf_acc (r : Fin 128) : ((stepOf R Y vb st).acc : S1x128x512.Idx → EReal) (ix3 0 r c)
    = (st.acc : S1x128x512.Idx → EReal) (ix3 0 r c)
      + ∑ x : Fin 256, (vb : S128x256.Idx → EReal) (ix2 r x)
        * Ideal.exp2 ((R : S256x512.Idx → EReal) (ix2 x c) + ((ρ - ∑ i ∈ Ico x.val 256, G i : ℝ) : EReal)) := by
  have h := weights R Y st c G ρ hY hr
  show (k0_pay214 (k0_pay211 R (half0 Y) (half1 Y) (k0_pay117 (F := Ideal)) st.run) (k0_pay213 st.acc) vb : S1x128x512.Idx → EReal) (ix3 0 r c) = _
  generalize k0_pay211 R (half0 Y) (half1 Y) (k0_pay117 (F := Ideal)) st.run = X at h ⊢
  pointwise [k0_pay214, k0_pay213]
  exact congrArg _ (Finset.sum_congr rfl fun x _ => congrArg _ (h x))

end Column

/-! ## The logits and costs of the two kinds of block -/

section Logits
variable (q : FVec Ideal S128x512 .bf16) (kb : Vec Ideal S1x256x128 .bf16) (c : Fin 512) (Z : ℕ → ℝ)
  (hz : ∀ s : Fin 256, ∑ x : Fin 128, (kb : S1x256x128.Idx → EReal) (ix3 0 s x) * (q : S128x512.Idx → EReal) (ix2 x c) = ((Z s.val : ℝ) : EReal))
include hz

theorem logit_full (s : Fin 256) : (k0_pay195 q kb : S256x512.Idx → EReal) (ix2 s c) = ((Z s.val : ℝ) : EReal) := by
  pointwise [k0_pay195]
  exact hz s

theorem cost_full (s : Fin 256) : (k0_pay196 q kb : S256x512.Idx → EReal) (ix2 s c) = ((sp (Z s.val) : ℝ) : EReal) := by
  have h := logit_full q kb c Z hz s
  unfold k0_pay196
  generalize k0_pay195 q kb = Y at h ⊢
  pointwise []
  rw [h, clamp_eq, log2e_eq]
  exact softplus_coe _

omit hz in
/-- In the query's own block, the keys before it. -/
theorem before_bit (s : Fin 256) : (k0_pay124 : S256x512.Idx → BitVec 1) (ix2 s c) = if s.val < c.val % 256 then 1#1 else 0#1 := by
  pointwise [k0_pay124]
  have h : ∀ c : Fin 512, IntOp.andi (BitVec.ofNat 32 c.val) 255#32 = BitVec.ofNat 32 (c.val % 256) := by decide
  rw [h, WordCmp.cmpi_slt_ofNat (by have := s.isLt; omega) (by omega)]
  by_cases hc : s.val < c.val % 256 <;> simp [hc]

theorem logit_diag (s : Fin 256) : (k0_pay126 q kb : S256x512.Idx → EReal) (ix2 s c) = if s.val < c.val % 256 then ((Z s.val : ℝ) : EReal) else ⊥ := by
  have h := logit_full q kb c Z hz s
  have hb := before_bit c s
  unfold k0_pay126
  rw [show k0_pay123 q kb = k0_pay195 q kb from rfl]
  generalize k0_pay195 q kb = Y at h ⊢
  generalize k0_pay124 = B at hb ⊢
  pointwise []
  rw [h, hb, mask_eq]
  split <;> rfl

theorem cost_diag (s : Fin 256) : (k0_pay125 q kb : S256x512.Idx → EReal) (ix2 s c) = ((if s.val < c.val % 256 then sp (Z s.val) else 0 : ℝ) : EReal) := by
  have h := cost_full q kb c Z hz s
  have hb := before_bit c s
  rw [show k0_pay125 q kb = select k0_pay124 (k0_pay196 q kb) (broadcast S256x512 (Scalar.ofBits .f32 0x00000000#32)) from rfl]
  generalize k0_pay196 q kb = Y at h ⊢
  generalize k0_pay124 = B at hb ⊢
  pointwise []
  rw [h, hb]
  split
  · rfl
  · exact EReal.coe_zero.symm

end Logits

end Cert.KernelIdeal.Sb
-- ==== Proof.SbValue.Column.lean ====
/-
  One query block, column by column. Column `c` belongs to the query at position `256 n + c % 256`; after the key blocks
  down to `b` its running entry is minus the cost of all keys from `256 b` on, and its accumulator is their values summed
  by weight. The block of the query itself, a full block, and the while over pairs of blocks all keep this.
-/
module

public import proofs.«01_k».proof.Proof.SbValue.Step

@[expose] public section

set_option maxRecDepth 65536

noncomputable section

namespace Cert.KernelIdeal.Sb

open Cert.KernelIdeal Cert.KernelIdeal.Gen Cert.Proof.Stick
open Idealize.ShloMosaic Idealize.ShloMosaic.TcCoe
open Finset (Ico)

/-- Row `r` of the values, past the last key zero. -/
def valAt (V : Vec Ideal S128x4096 .bf16) (r : Fin 128) (i : ℕ) : EReal := if h : i < 4096 then (V : S128x4096.Idx → EReal) (ix2 r ⟨i, h⟩) else 0

/-- The position of column `c`'s query. -/
abbrev posOf (n : Fin 16) (c : Fin 512) : ℕ := 256 * n.val + c.val % 256

section Column
variable (Q : Vec Ideal S1x128x4096 .f32) (K : Vec Ideal S1x4096x128 .bf16) (V : Vec Ideal S128x4096 .bf16) (n : Fin 16) (Z : Fin 512 → ℕ → ℝ)

/-- The state once the key blocks from `b` on are taken in. -/
structure Inv (b : ℕ) (st : St Ideal) : Prop where
  run : ∀ c, (st.run : S1x1x512.Idx → EReal) (ix3 0 0 c) = ((-tail (posOf n c) (Z c) (256 * b) : ℝ) : EReal)
  acc : ∀ r c, (st.acc : S1x128x512.Idx → EReal) (ix3 0 r c)
    = ∑ i ∈ Ico (256 * b) 4096, valAt V r i * ((weight (posOf n c) (Z c) i : ℝ) : EReal)

theorem inv_start : Inv V n Z (n.val + 1) (start : St Ideal) where
  run c := by
    have h : posOf n c ≤ 256 * (n.val + 1) := by have := Nat.mod_lt c.val (show 0 < 256 by norm_num); unfold posOf; omega
    rw [tail_past _ _ h]
    pointwise [start, k0_pay120]
    simp
  acc r c := by
    rw [Finset.sum_eq_zero]
    · pointwise [start, k0_pay122, k0_pay121]
    · intro i hi
      have := Nat.mod_lt c.val (show 0 < 256 by norm_num)
      have h : ¬i < posOf n c := by unfold posOf; rw [Finset.mem_Ico] at hi; omega
      rw [weight, if_neg h]
      simp

variable {n} in
/-- A block's exponent gives its weight. -/
theorem weight_of {t b : ℕ} (hb : b < 16) (z : ℕ → ℝ) (s : Fin 256) (R : EReal) (hR : R = if 256 * b + s.val < t then ((z (256 * b + s.val) : ℝ) : EReal) else ⊥) :
    Ideal.exp2 (R + ((-tail t z (256 * (b + 1)) - ∑ i ∈ Ico s.val 256, cost t z (256 * b + i) : ℝ) : EReal)) = ((weight t z (256 * b + s.val) : ℝ) : EReal) := by
  subst hR
  unfold weight
  split
  · rw [← EReal.coe_add, exp2_coe, tail_split t z hb (le_of_lt s.isLt)]
    congr 2; ring
  · rw [EReal.bot_add]; exact EReal.coe_zero.symm

/-- Any block whose logits and costs are the ones meant. -/
theorem inv_step {b : ℕ} (hb : b < 16) {st : St Ideal} (h : Inv V n Z (b + 1) st) (R Y : FVec Ideal S256x512 .f32)
    (hR : ∀ s c, (R : S256x512.Idx → EReal) (ix2 s c) = if 256 * b + s.val < posOf n c then ((Z c (256 * b + s.val) : ℝ) : EReal) else ⊥)
    (hY : ∀ s c, (Y : S256x512.Idx → EReal) (ix2 s c) = ((cost (posOf n c) (Z c) (256 * b + s.val) : ℝ) : EReal)) :
    Inv V n Z b (stepOf R Y (valBlk V ⟨b, hb⟩) st) where
  run c := by
    rw [stepOf_run R Y _ st c (fun i => cost (posOf n c) (Z c) (256 * b + i)) _ (fun s => hY s c) (h.run c)]
    have := tail_split (posOf n c) (Z c) hb (Nat.zero_le 256)
    rw [Nat.add_zero] at this
    rw [this]
    congr 1; ring
  acc r c := by
    rw [stepOf_acc R Y _ st c (fun i => cost (posOf n c) (Z c) (256 * b + i)) _ (fun s => hY s c) (h.run c) r, h.acc r c,
      ← Finset.sum_Ico_consecutive _ (show 256 * b ≤ 256 * (b + 1) by omega) (show 256 * (b + 1) ≤ 4096 by omega), sum_block, add_comm]
    congr 1
    refine Finset.sum_congr rfl fun x _ => ?_
    rw [weight_of hb (Z c) x _ (hR x c)]
    congr 1
    rw [valAt, dif_pos (show 256 * b + x.val < 4096 by omega)]
    pointwise [valBlk]

/-- Every logit of the query block. -/
def Logits : Prop := ∀ (c : Fin 512) (s : Fin 4096),
  ∑ x : Fin 128, (K : S1x4096x128.Idx → EReal) (ix3 0 s x) * (qBlk Q n : S128x512.Idx → EReal) (ix2 x c) = ((Z c s.val : ℝ) : EReal)

variable {Q K V n Z} (hz : Logits Q K n Z)
include hz

theorem logits_blk {b : ℕ} (hb : b < 16) (c : Fin 512) (s : Fin 256) :
    ∑ x : Fin 128, (keyBlk K ⟨b, hb⟩ : S1x256x128.Idx → EReal) (ix3 0 s x) * (qBlk Q n : S128x512.Idx → EReal) (ix2 x c)
      = ((Z c (256 * b + s.val) : ℝ) : EReal) := by
  rw [← hz c ⟨256 * b + s.val, by omega⟩]
  refine Finset.sum_congr rfl fun x _ => ?_
  congr 1
  pointwise [keyBlk]

theorem inv_full {b : ℕ} (hb : b < n.val) {st : St Ideal} (h : Inv V n Z (b + 1) st) :
    Inv V n Z b (stepFull (k0_pay117 (F := Ideal)) (qBlk Q n) (keyBlk K ⟨b, hb.trans n.isLt⟩) (valBlk V ⟨b, hb.trans n.isLt⟩) st) := by
  have hb' := hb.trans n.isLt
  have hlt : ∀ (s : Fin 256) (c : Fin 512), 256 * b + s.val < posOf n c := fun s c => by unfold posOf; omega
  rw [stepFull_eq]
  refine inv_step V n Z hb' h _ _ (fun s c => ?_) (fun s c => ?_)
  · rw [if_pos (hlt s c)]
    exact logit_full _ _ c (fun i => Z c (256 * b + i)) (logits_blk hz hb' c) s
  · rw [cost, if_pos (hlt s c)]
    exact cost_full _ _ c (fun i => Z c (256 * b + i)) (logits_blk hz hb' c) s

theorem inv_diag {st : St Ideal} (h : Inv V n Z (n.val + 1) st) :
    Inv V n Z n.val (stepDiag (k0_pay117 (F := Ideal)) (qBlk Q n) (keyBlk K n) (valBlk V n) st) := by
  have hlt : ∀ (s : Fin 256) (c : Fin 512), 256 * n.val + s.val < posOf n c ↔ s.val < c.val % 256 := fun s c => by unfold posOf; omega
  rw [stepDiag_eq]
  refine inv_step V n Z n.isLt h _ _ (fun s c => ?_) (fun s c => ?_)
  · simp only [hlt]
    exact logit_diag _ _ c (fun i => Z c (256 * n.val + i)) (logits_blk hz n.isLt c) s
  · simp only [cost, hlt]
    exact cost_diag _ _ c (fun i => Z c (256 * n.val + i)) (logits_blk hz n.isLt c) s

theorem inv_back {j : ℕ} (h1 : 1 ≤ j) (hj : j ≤ n.val) {st : St Ideal} (h : Inv V n Z (n.val - (j - 1)) st) :
    Inv V n Z (n.val - j) (full (k0_pay117 (F := Ideal)) Q K V n j st) := by
  rw [show n.val - (j - 1) = n.val - j + 1 by omega] at h
  exact inv_full hz (by omega) h

omit hz in
/-- A running row with real entries is above the level of a spent one. -/
theorem live_eq {b : ℕ} {st : St Ideal} (h : Inv V n Z b st) : live st = 1#1 := by
  have hr : (⊥ : EReal) < k0_pay12 (F := Ideal) st.run := by
    have h0 : (⊥ : EReal) < (st.run : S1x1x512.Idx → EReal) (ix3 0 0 0) := by rw [h.run 0]; exact EReal.bot_lt_coe _
    pointwise [k0_pay12]
    rw [Finset.lt_fold_max]
    exact Or.inr ⟨(0, 0), Finset.mem_univ _, h0⟩
  unfold live dead
  rw [dead_eq]
  show BitVec.ofBool (decide _) = 1#1
  rw [decide_eq_true hr]
  rfl

/-- The while runs to the last pair. -/
theorem inv_sweep : ∀ (f j : ℕ) (st : St Ideal), 1 ≤ j → j ≤ n.val + 1 → n.val ≤ j + 2 * f → Inv V n Z (n.val - (j - 1)) st →
    ∃ (j' : ℕ) (st' : St Ideal), sweep (k0_pay117 (F := Ideal)) Q K V n f j 1#1 st = (j', 1#1, st')
      ∧ n.val ≤ j' ∧ j' ≤ n.val + 1 ∧ 1 ≤ j' ∧ Inv V n Z (n.val - (j' - 1)) st'
  | f, j, st, h1, hj, hf, h => by
    by_cases hs : j + 1 ≤ n.val
    · obtain ⟨f, rfl⟩ : ∃ f', f = f' + 1 := ⟨f - 1, by omega⟩
      have hp : Inv V n Z (n.val - (j + 2 - 1)) (pair (k0_pay117 (F := Ideal)) Q K V n j st) :=
        inv_back hz (by omega) hs (inv_back hz h1 (by omega) h)
      rw [sweep_step ⟨hs, rfl⟩, live_eq hp]
      exact inv_sweep f (j + 2) _ (by omega) (by omega) (by omega) hp
    · rw [sweep_stop fun hc => hs hc.1]
      exact ⟨j, st, rfl, by omega, hj, h1, h⟩

/-- A query block ends with all keys taken in. -/
theorem inv_query : Inv V n Z 0 (query (k0_pay117 (F := Ideal)) Q K V n) := by
  have hd := inv_diag (V := V) hz (inv_start V n Z)
  unfold query
  split
  · next h0 => rw [h0] at hd; exact hd
  · next h0 =>
    have hfirst : Inv V n Z (n.val - 1) (first (k0_pay117 (F := Ideal)) Q K V n) := inv_back hz le_rfl (by omega) hd
    obtain ⟨j', st', he, hlo, hhi, h1, hi⟩ := inv_sweep hz 8 2 _ (by omega) (by omega) (by omega) hfirst
    have hs : swept (k0_pay117 (F := Ideal)) Q K V n = (j', 1#1, st') := by
      unfold swept
      rw [live_eq hfirst]
      exact he
    unfold final
    rw [hs]
    split
    · next hc =>
      have hj : j' = n.val := hc.1
      have := inv_back hz h1 hj.le hi
      rw [hj, Nat.sub_self] at this
      rw [hj]
      exact this
    · next hc =>
      have hne : j' ≠ n.val := fun h => hc ⟨h, rfl⟩
      rw [show n.val - (j' - 1) = 0 by omega] at hi
      exact hi

end Column

end Cert.KernelIdeal.Sb
-- ==== Proof.SbValue.Point.lean ====
/-
  The result of one grid point from real queries and keys: row `s`, column `d` is the values of row `d` summed by the
  stick-breaking weights of the query at position `s`, of the head `d` lies in.
-/
module

public import proofs.«01_k».proof.Proof.SbValue.Column
public import proofs.«01_k».proof.Proof.SbIdeal.Run

@[expose] public section

set_option maxRecDepth 65536

noncomputable section

namespace Cert.KernelIdeal.Sb

open Cert.KernelIdeal Cert.KernelIdeal.Gen Cert.Proof.Stick
open Idealize.ShloMosaic Idealize.ShloMosaic.TcCoe
open Finset (Ico)

/-- A logit in base two: the head's 64 products, scaled. -/
def logit (qr kr : ℕ → ℕ → ℝ) (g s i : ℕ) : ℝ := (∑ r : Fin 64, kr i (64 * g + r.val) * qr (64 * g + r.val) s) * (8 * Real.log 2)⁻¹

theorem select_bit (p : Prop) [Decidable p] (x : ℝ) :
    Scalar.select (BitVec.ofBool (decide p)) (x : EReal) 0 = ((if p then x else 0 : ℝ) : EReal) := by
  by_cases h : p
  · rw [decide_eq_true h, if_pos h]; rfl
  · rw [decide_eq_false h, if_neg h]; exact EReal.coe_zero.symm

section Point
variable (Q : Vec Ideal S1x128x4096 .f32) (K : Vec Ideal S1x4096x128 .bf16) (V4 : Vec Ideal S1x128x4096 .f32) (qr kr : ℕ → ℕ → ℝ)
  (hQ : ∀ (x : Fin 128) (s : Fin 4096), (Q : S1x128x4096.Idx → EReal) (ix3 0 x s) = ((qr x.val s.val : ℝ) : EReal))
  (hK : ∀ (i : Fin 4096) (x : Fin 128), (K : S1x4096x128.Idx → EReal) (ix3 0 i x) = ((kr i.val x.val : ℝ) : EReal))
include hQ

/-- The scaled queries: a column keeps the rows of its own head. -/
theorem qBlk_apply (n : Fin 16) (x : Fin 128) (c : Fin 512) : (qBlk Q n : S128x512.Idx → EReal) (ix2 x c)
    = ((if x.val / 64 = c.val / 256 then qr x.val (posOf n c) * (8 * Real.log 2)⁻¹ else 0 : ℝ) : EReal) := by
  have hx := x.isLt
  have hc := c.isLt
  have hX : ∀ (x : Fin 128) (s : Fin 256), (View.ld Q (qryRect n) : S1x128x256.Idx → EReal) (ix3 0 x s) = ((qr x.val (256 * n.val + s.val) : ℝ) : EReal) :=
    fun x s => by
      rw [← hQ x ⟨256 * n.val + s.val, by omega⟩]
      pointwise []
  unfold qBlk
  generalize (View.ld Q (qryRect n) : Vec Ideal S1x128x256 .f32) = X at hX ⊢
  pointwise [k0_pay119]
  rw [scale_eq]
  split
  · next h =>
    rw [WordCmp.cmpi_slt_ofNat (by omega) (by omega), hX, ← EReal.coe_mul]
    exact (select_bit (x.val < 64) _).trans (congrArg _ (if_congr (by omega)
      (congrArg (fun i => qr x.val i * (8 * Real.log 2)⁻¹) (show 256 * n.val + c.val = 256 * n.val + c.val % 256 by omega)) rfl))
  · next h =>
    have h' : ¬c.val < 256 := h
    rw [WordCmp.cmpi_sge_ofNat (by omega) (by omega), hX, ← EReal.coe_mul]
    exact (select_bit (64 ≤ x.val) _).trans (congrArg _ (if_congr (by omega)
      (congrArg (fun i => qr x.val i * (8 * Real.log 2)⁻¹) (show 256 * n.val + (c.val - 256) = 256 * n.val + c.val % 256 by omega)) rfl))

omit hQ in
/-- Over 128 rows, those of one head. -/
theorem sum_head (f : ℕ → ℝ) (g : ℕ) (hg : g < 2) : (∑ x : Fin 128, if x.val / 64 = g then f x.val else 0) = ∑ r : Fin 64, f (64 * g + r.val) := by
  rw [Fin.sum_univ_add (a := 64) (b := 64) fun x : Fin 128 => if x.val / 64 = g then f x.val else 0]
  have h0 : ∀ r : Fin 64, r.val / 64 = 0 := fun r => by omega
  have h1 : ∀ r : Fin 64, (64 + r.val) / 64 = 1 := fun r => by omega
  simp only [Fin.val_castAdd, Fin.val_natAdd, h0, h1]
  rcases (show g = 0 ∨ g = 1 by omega) with rfl | rfl <;> simp

include hK

theorem logits (n : Fin 16) : Logits Q K n (fun c i => logit qr kr (c.val / 256) (posOf n c) i) := fun c s => by
  simp only [qBlk_apply Q qr hQ n, hK, ← EReal.coe_mul]
  rw [← coe_sum, logit, ← sum_head (fun x => kr s.val x * qr x (posOf n c)) (c.val / 256) (by omega), Finset.sum_mul]
  congr 1
  refine Finset.sum_congr rfl fun x _ => ?_
  split <;> ring

theorem outOf_apply (s : Fin 4096) (d : Fin 128) : (outOf Q K V4 : S1x4096x128.Idx → EReal) (ix3 0 s d)
    = ∑ i : Fin 4096, (V4 : S1x128x4096.Idx → EReal) (ix3 0 d i) * ((weight s.val (logit qr kr (d.val / 64) s.val) i.val : ℝ) : EReal) := by
  have hd := d.isLt
  have hi := inv_query (V := k0_pay118 V4) (logits Q K qr kr hQ hK (rowBlk s))
  have key : ∀ c : Fin 512, c.val % 256 = s.val % 256 → c.val / 256 = d.val / 64 →
      ((query (k0_pay117 (F := Ideal)) Q K (k0_pay118 V4) (rowBlk s)).acc : S1x128x512.Idx → EReal) (ix3 0 d c)
        = ∑ i : Fin 4096, (V4 : S1x128x4096.Idx → EReal) (ix3 0 d i) * ((weight s.val (logit qr kr (d.val / 64) s.val) i.val : ℝ) : EReal) := fun c h1 h2 => by
    have hp : posOf (rowBlk s) c = s.val := by unfold posOf rowBlk; rw [h1]; show 256 * (s.val / 256) + _ = _; omega
    rw [hi.acc d c, hp, h2, Nat.mul_zero, ← Finset.range_eq_Ico, Finset.sum_range]
    refine Finset.sum_congr rfl fun i _ => ?_
    rw [valAt, dif_pos i.isLt]
    congr 1
    pointwise [k0_pay118]
  have hs : (⟨s.val % 256, Nat.mod_lt _ (by decide)⟩ : Fin 256).val = s.val % 256 := rfl
  show (rowsOf Q K (k0_pay117 (F := Ideal)) (k0_pay118 V4) (rowBlk s) : S1x256x128.Idx → EReal) (ix3 0 ⟨s.val % 256, Nat.mod_lt _ (by decide)⟩ d) = _
  unfold rowsOf outBlk
  generalize (query (k0_pay117 (F := Ideal)) Q K (k0_pay118 V4) (rowBlk s)) = st at key ⊢
  generalize hX : st.acc = X at key ⊢
  pointwise [k0_pay137, k0_pay136]
  rw [WordCmp.cmpi_slt_ofNat (by omega) (by omega)]
  by_cases h' : d.val < 64
  · rw [decide_eq_true h']
    exact key ⟨s.val % 256, by omega⟩ (by show s.val % 256 % 256 = _; omega) (by show s.val % 256 / 256 = _; omega)
  · rw [decide_eq_false h']
    exact key ⟨256 + s.val % 256, by omega⟩ (by show (256 + s.val % 256) % 256 = _; omega) (by show (256 + s.val % 256) / 256 = _; omega)

end Point

end Cert.KernelIdeal.Sb
-- ==== Proof.SbValue.Ref.lean ====
/-
  The reference's result at an index: with real queries and keys, position `t` of head `h` takes the values summed by the
  stick-breaking weights of its logits.
-/
module

public import proofs.«01_k».proof.Proof.Gen.ReferenceIdeal.Read
public import proofs.«01_k».proof.Proof.SbValue.Real
public import Idealize.ShloMosaic.Lib.Pointwise
public import Idealize.ShloMosaic.Lib.WordCmp

@[expose] public section

set_option maxRecDepth 65536

noncomputable section

namespace Cert.ReferenceIdeal.Stick

open Cert.ReferenceIdeal Cert.ReferenceIdeal.Gen Cert.ReferenceIdeal.Read Cert.Proof.Stick
open Idealize.ShloMosaic Idealize.ShloMosaic.TcCoe
open Finset (Ico)

/-! ## The sum from a key on -/

theorem foldl_sum {ι : Type} (g : ι → EReal) : ∀ (l : List ι) (r : EReal), l.foldl (fun r n => r + g n) r = r + (l.map g).sum
  | [], r => by simp
  | a :: l, r => by rw [List.foldl_cons, foldl_sum g l, List.map_cons, List.sum_cons, add_assoc]

/-- The indices of one window. -/
def winEquiv : (⟨4, ![1, 1, 1, 4096]⟩ : Shape).Idx ≃ Fin 4096 where
  toFun w := ⟨(w 3).val, (w 3).isLt⟩
  invFun k := ix4 (0 : Fin 1) (0 : Fin 1) (0 : Fin 1) k
  left_inv w := funext fun a => Fin.ext (match a with
    | ⟨0, _⟩ => by have : (w 0).val < 1 := (w 0).isLt; show 0 = (w 0).val; omega
    | ⟨1, _⟩ => by have : (w 1).val < 1 := (w 1).isLt; show 0 = (w 1).val; omega
    | ⟨2, _⟩ => by have : (w 2).val < 1 := (w 2).isLt; show 0 = (w 2).val; omega
    | ⟨3, _⟩ => rfl)
  right_inv k := rfl

theorem window_sum (x : S4x8x4096x4096.Idx → EReal) (init : S_.Idx → EReal) (h0 : ∀ i, init i = 0)
    (b : Fin 4) (h : Fin 8) (t s : Fin 4096) :
    (Host.reduceWindowAdd (F := Ideal) (φ := .f32) ![1, 1, 1, 4096] ![1, 1, 1, 1] ![0, 0, 0, 0] ![0, 0, 0, 4095] x init
        reduceWindows_S4x8x4096x4096_S4x8x4096x4096_w1s1p0_0_w1s1p0_0_w1s1p0_0_w4096s1p0_4095 h_S_ : S4x8x4096x4096.Idx → EReal) (ix4 b h t s)
      = ∑ k : Fin 4096, if hk : s.val + k.val < 4096 then x (ix4 b h t ⟨s.val + k.val, hk⟩) else 0 := by
  rw [Host.reduceWindowAdd, Ideal.hostReduceWindowAdd_def]
  unfold Ideal.hostReduceWindowAdd Host.reduceWindow
  dsimp only
  rw [foldl_sum, h0, zero_add, ← Fin.sum_univ_def]
  rw [← Equiv.sum_comp (winEquiv.symm.trans (⟨4, ![1, 1, 1, 4096]⟩ : Shape).rowMajor)]
  refine Finset.sum_congr rfl fun k _ => ?_
  simp only [Equiv.trans_apply, Equiv.symm_apply_apply]
  by_cases hk : s.val + k.val < 4096
  · rw [dif_pos hk, dif_pos]
    · refine congrArg x (funext fun a => Fin.ext ?_)
      match a with
      | ⟨0, _⟩ => show b.val * 1 + 0 - 0 = b.val; omega
      | ⟨1, _⟩ => show h.val * 1 + 0 - 0 = h.val; omega
      | ⟨2, _⟩ => show t.val * 1 + 0 - 0 = t.val; omega
      | ⟨3, _⟩ => show s.val * 1 + k.val - 0 = s.val + k.val; omega
    · intro a
      match a with
      | ⟨0, _⟩ => exact ⟨Nat.zero_le _, by show b.val * 1 + 0 - 0 < 4; omega⟩
      | ⟨1, _⟩ => exact ⟨Nat.zero_le _, by show h.val * 1 + 0 - 0 < 8; omega⟩
      | ⟨2, _⟩ => exact ⟨Nat.zero_le _, by show t.val * 1 + 0 - 0 < 4096; omega⟩
      | ⟨3, _⟩ => exact ⟨Nat.zero_le _, by show s.val * 1 + k.val - 0 < 4096; omega⟩
  · rw [dif_neg hk, dif_neg]
    intro hin
    have : s.val * 1 + k.val - 0 < 4096 := (hin 3).2
    omega

theorem window_real (x : S4x8x4096x4096.Idx → EReal) (init : S_.Idx → EReal) (h0 : ∀ i, init i = 0)
    (b : Fin 4) (h : Fin 8) (t s : Fin 4096) (f : ℕ → ℝ) (hx : ∀ i : Fin 4096, x (ix4 b h t i) = ((f i.val : ℝ) : EReal)) :
    (Host.reduceWindowAdd (F := Ideal) (φ := .f32) ![1, 1, 1, 4096] ![1, 1, 1, 1] ![0, 0, 0, 0] ![0, 0, 0, 4095] x init
        reduceWindows_S4x8x4096x4096_S4x8x4096x4096_w1s1p0_0_w1s1p0_0_w1s1p0_0_w4096s1p0_4095 h_S_ : S4x8x4096x4096.Idx → EReal) (ix4 b h t s)
      = ((∑ i ∈ Ico s.val 4096, f i : ℝ) : EReal) := by
  rw [window_sum x init h0, Finset.sum_Ico_eq_sum_range, Finset.sum_congr (g := fun k : Fin 4096 => (((if k.val < 4096 - s.val then f (s.val + k.val) else 0 : ℝ)) : EReal)) rfl
    (fun k _ => ?_), ← coe_sum]
  · congr 1
    rw [← Finset.sum_range (fun k => if k < 4096 - s.val then f (s.val + k) else 0), ← Finset.sum_filter]
    congr 1
    ext k; simp only [Finset.mem_filter, Finset.mem_range]; omega
  · have hs := s.isLt
    by_cases hk : s.val + k.val < 4096
    · rw [dif_pos hk, if_pos (by omega), hx]
    · rw [dif_neg hk, if_neg (by omega)]; exact EReal.coe_zero.symm

/-! ## The logits -/

section Value
variable (x0 x1 x2 : (⟨S4x4096x8x64, .f32⟩ : BufTy).Contents (Elt Ideal)) (q k : S4x4096x8x64.Idx → ℝ)
  (hq : ∀ i, (x0 : S4x4096x8x64.Idx → EReal) i = ((q i : ℝ) : EReal)) (hk : ∀ i, (x1 : S4x4096x8x64.Idx → EReal) i = ((k i : ℝ) : EReal))

/-- Key `i`, row `r` of a head, past the last key zero. -/
def keyAt (b : Fin 4) (h : Fin 8) (i : ℕ) (r : Fin 64) : ℝ := if hi : i < 4096 then k (ix4 b ⟨i, hi⟩ h r) else 0

/-- The logits of one query. -/
def xr (b : Fin 4) (h : Fin 8) (t : Fin 4096) (i : ℕ) : ℝ := (∑ r : Fin 64, q (ix4 b t h r) * keyAt k b h i r) * (1 / 8)

theorem eighth : Ideal.ofBits .f32 0x3E000000#32 = ((1 / 8 : ℝ) : EReal) := by
  simp [Ideal.ofBits, Ideal.ieee, -EReal.coe_mul]; norm_num

include hq hk

theorem v3_apply (b : Fin 4) (h : Fin 8) (t s : Fin 4096) :
    (val_main_v3 (F := Ideal) x0 x1 : S4x8x4096x4096.Idx → EReal) (ix4 b h t s) = ((xr q k b h t s.val : ℝ) : EReal) := by
  rw [val_main_v3_apply, val_main_v1_apply, val_main_v2_apply, val_main_cst_apply]
  show (∑ r : Fin 64, _) * Ideal.ofBits .f32 0x3E000000#32 = _
  rw [eighth, xr, EReal.coe_mul, coe_sum]
  congr 1
  refine Finset.sum_congr rfl fun r _ => ?_
  rw [hq, hk, ← EReal.coe_mul, keyAt, dif_pos s.isLt]
  congr 2
  · exact congrArg q (funext fun a => match a with | ⟨0, _⟩ => rfl | ⟨1, _⟩ => rfl | ⟨2, _⟩ => rfl | ⟨3, _⟩ => rfl)
  · exact congrArg k (funext fun a => match a with | ⟨0, _⟩ => rfl | ⟨1, _⟩ => rfl | ⟨2, _⟩ => rfl | ⟨3, _⟩ => rfl)

omit hq hk in
/-- The reference's softplus, as it is written. -/
theorem soft_form (x : ℝ) (z : EReal) (hz : z = 0) :
    Scalar.select (FloatOps.cmpf (F := Ideal) (φ := .f32) .une ((x : EReal) - z) ((x : EReal) - z)) ((x : EReal) + z)
      (max (x : EReal) z + Ideal.log1p (Ideal.exp (-(max ((x : EReal) - z) (-((x : EReal) - z)))))) = ((soft x : ℝ) : EReal) := by
  subst hz
  rw [soft_coe]
  show Scalar.select (BitVec.ofBool (decide _)) _ _ = _
  rw [decide_eq_false fun h => h rfl]
  rfl

theorem v10_apply (b : Fin 4) (h : Fin 8) (t s : Fin 4096) :
    (val_main_v10 (F := Ideal) x0 x1 : S4x8x4096x4096.Idx → EReal) (ix4 b h t s) = ((soft (xr q k b h t s.val) : ℝ) : EReal) := by
  have h3 := v3_apply x0 x1 q k hq hk b h t s
  refine Eq.trans ?_ (soft_form (xr q k b h t s.val) (Ideal.ofBits .f32 0x00000000#32) Ideal.ofBits_zero_f32)
  rw [← h3]
  rfl

theorem v15_apply (b : Fin 4) (h : Fin 8) (t s : Fin 4096) :
    (val_main_v15 (F := Ideal) x0 x1 : S4x8x4096x4096.Idx → EReal) (ix4 b h t s) = ((-soft (-xr q k b h t s.val) : ℝ) : EReal) := by
  have h3 := v3_apply x0 x1 q k hq hk b h t s
  rw [EReal.coe_neg, ← soft_form (-xr q k b h t s.val) (Ideal.ofBits .f32 0x00000000#32) Ideal.ofBits_zero_f32, EReal.coe_neg, ← h3]
  rfl

omit hq hk in
/-- The strict mask: key `s` before query `t`. -/
theorem v9_apply (t s : Fin 4096) : (val_main_v9 (F := Ideal) : S4096x4096.Idx → BitVec 1) (ix2 t s) = BitVec.ofBool (decide (s.val < t.val)) := by
  rw [val_main_v9_apply, val_main_v7_apply, val_main_v5_apply, val_main_v4_apply, val_main_v8_apply, val_main_v6_apply, val_main_v0_apply]
  exact WordCmp.cmpi_slt_ofNat (a := s.val) (b := t.val) (by omega) (by omega)

theorem v12_apply (b : Fin 4) (h : Fin 8) (t s : Fin 4096) :
    (val_main_v12 (F := Ideal) x0 x1 : S4x8x4096x4096.Idx → EReal) (ix4 b h t s) = ((keep t.val (xr q k b h t) s.val : ℝ) : EReal) := by
  rw [val_main_v12_apply, val_main_call1_v1_apply, val_main_v11_apply, v10_apply x0 x1 q k hq hk b h t s,
    show idx_main_call1_v1 (ix4 b h t s) = ix2 t s from funext fun a => match a with | ⟨0, _⟩ => rfl | ⟨1, _⟩ => rfl, v9_apply]
  unfold keep
  by_cases hs : s.val < t.val
  · rw [if_pos hs, decide_eq_true hs]; exact (EReal.coe_neg _).symm
  · rw [if_neg hs, decide_eq_false hs]; exact Ideal.ofBits_zero_f32.trans EReal.coe_zero.symm

theorem v13_apply (b : Fin 4) (h : Fin 8) (t s : Fin 4096) :
    (val_main_v13 (F := Ideal) x0 x1 : S4x8x4096x4096.Idx → EReal) (ix4 b h t s)
      = ((∑ i ∈ Ico s.val 4096, keep t.val (xr q k b h t) i : ℝ) : EReal) :=
  window_real _ _ (fun i => Ideal.ofBits_zero_f32) b h t s _ (v12_apply x0 x1 q k hq hk b h t)

theorem v18_apply (b : Fin 4) (h : Fin 8) (t s : Fin 4096) :
    (val_main_v18 (F := Ideal) x0 x1 : S4x8x4096x4096.Idx → EReal) (ix4 b h t s)
      = ((weight t.val (fun i => toTwo (xr q k b h t i)) s.val : ℝ) : EReal) := by
  rw [val_main_v18_apply, val_main_call4_v1_apply, val_main_v17_apply, val_main_v16_apply, val_main_v14_apply, v15_apply x0 x1 q k hq hk b h t s,
    v13_apply x0 x1 q k hq hk b h t s, v12_apply x0 x1 q k hq hk b h t s,
    show idx_main_call4_v1 (ix4 b h t s) = ix2 t s from funext fun a => match a with | ⟨0, _⟩ => rfl | ⟨1, _⟩ => rfl, v9_apply]
  by_cases hs : s.val < t.val
  · rw [decide_eq_true hs, ← weight_eq t.val (xr q k b h t) hs]
    refine Eq.trans (b := Ideal.exp (((-soft (-xr q k b h t s.val) : ℝ) : EReal)
      + (((∑ i ∈ Ico s.val 4096, keep t.val (xr q k b h t) i : ℝ) : EReal) - ((keep t.val (xr q k b h t) s.val : ℝ) : EReal)))) rfl ?_
    rw [← EReal.coe_sub, ← EReal.coe_add, exp_coe]
  · rw [decide_eq_false hs, weight, if_neg hs]; exact Ideal.ofBits_zero_f32.trans EReal.coe_zero.symm

/-- The result: batch `b`, position `t`, column `e` (head `e / 64`). -/
theorem result_apply (b : Fin 4) (t : Fin 4096) (e : Fin 512) :
    (val_main_v22 (F := Ideal) x0 x1 x2 : S4x4096x512.Idx → EReal) (ix3 b t e)
      = ∑ i : Fin 4096, (x2 : S4x4096x8x64.Idx → EReal) (ix4 b i (⟨e.val / 64, by omega⟩ : Fin 8) (⟨e.val % 64, by omega⟩ : Fin 64))
        * ((weight t.val (fun j => toTwo (xr q k b ⟨e.val / 64, by omega⟩ t j)) i.val : ℝ) : EReal) := by
  have hb := b.isLt
  have ht := t.isLt
  have he := e.isLt
  rw [val_main_v22_apply, val_main_v21_apply, val_main_v20_apply, val_main_v19_apply]
  show (∑ i : Fin 4096, _) = _
  have hi : idx_main_v20 (idx_main_v21 (ix3 b t e)) = ix4 b (⟨e.val / 64, by omega⟩ : Fin 8) (⟨e.val % 64, by omega⟩ : Fin 64) t := funext fun a => Fin.ext (by
    match a with
    | ⟨0, _⟩ => show ((b.val * 4096 + t.val) * 512 + e.val) / 2097152 = b.val; omega
    | ⟨1, _⟩ => show ((b.val * 4096 + t.val) * 512 + e.val) / 64 % 8 = e.val / 64; omega
    | ⟨2, _⟩ => show ((b.val * 4096 + t.val) * 512 + e.val) % 64 = e.val % 64; omega
    | ⟨3, _⟩ => show ((b.val * 4096 + t.val) * 512 + e.val) / 512 % 4096 = t.val; omega)
  rw [hi]
  refine Finset.sum_congr rfl fun i _ => ?_
  rw [← v18_apply x0 x1 q k hq hk b ⟨e.val / 64, by omega⟩ t i]
  congr 1
  · exact congrArg x2 (funext fun a => match a with | ⟨0, _⟩ => rfl | ⟨1, _⟩ => rfl | ⟨2, _⟩ => rfl | ⟨3, _⟩ => rfl)
  · exact congrArg _ (funext fun a => match a with | ⟨0, _⟩ => rfl | ⟨1, _⟩ => rfl | ⟨2, _⟩ => rfl | ⟨3, _⟩ => rfl)

end Value

end Cert.ReferenceIdeal.Stick
-- ==== Proof.SbValue.Result.lean ====
/-
  The kernel's result array over the extended reals, for finite queries and keys: the reference's result, index by index.
-/
module

public import proofs.«01_k».proof.Proof.SbValue.Point
public import proofs.«01_k».proof.Proof.SbValue.Ref
public import Idealize.ShloMosaic.Lib.StableHlo.ReadAt

@[expose] public section

set_option maxRecDepth 65536

noncomputable section

namespace Cert.KernelIdeal.Sb

open Cert.KernelIdeal Cert.KernelIdeal.Gen Cert.Proof.Stick Cert.ReferenceIdeal.Stick
open Idealize.ShloMosaic Idealize.ShloMosaic.TcCoe Idealize.ShloMosaic.StableHlo
open Idealize.ShloMosaic.Pipeline (Dat)

variable (m : (ℓ : Loc nD τ sig) → Buf (Elt Ideal) ℓ) (c : Dev nD)

abbrev argQ : S4x4096x8x64.Idx → EReal := m ((c : Thread nD τ).loc main_arg0)
abbrev argK : S4x4096x8x64.Idx → EReal := m ((c : Thread nD τ).loc main_arg1)
abbrev argV : S4x4096x8x64.Idx → EReal := m ((c : Thread nD τ).loc main_arg2)

/-! ## The arrays the host lays out -/

theorem laidQ (b : Fin 4) (e : Fin 512) (s : Fin 4096) :
    (laid m c main_v1 : S4x512x4096.Idx → EReal) (ix3 b e s) = argQ m c (ix4 b s (⟨e.val / 64, by omega⟩ : Fin 8) (⟨e.val % 64, by omega⟩ : Fin 64)) := by
  unfold laid
  after_reads_at

theorem laidK (b : Fin 4) (s : Fin 4096) (e : Fin 512) :
    (laid m c main_v3 : S4x4096x512.Idx → EReal) (ix3 b s e) = argK m c (ix4 b s (⟨e.val / 64, by omega⟩ : Fin 8) (⟨e.val % 64, by omega⟩ : Fin 64)) := by
  unfold laid
  after_reads_at

theorem laidV (b : Fin 4) (e : Fin 512) (s : Fin 4096) :
    (laid m c main_v5 : S4x512x4096.Idx → EReal) (ix3 b e s) = argV m c (ix4 b s (⟨e.val / 64, by omega⟩ : Fin 8) (⟨e.val % 64, by omega⟩ : Fin 64)) := by
  unfold laid
  after_reads_at

/-! ## The blocks of a point -/

/-- Point `t` is batch `t / 4` and pair of heads `t % 4`. -/
theorem index_rows : ∀ t : Fin grid0.N, win0_0.index t 0 = t.val / 4 ∧ win0_0.index t 1 = t.val % 4 ∧ win0_0.index t 2 = 0
    ∧ win0_2.index t 0 = t.val / 4 ∧ win0_2.index t 1 = t.val % 4 ∧ win0_2.index t 2 = 0 := by decide +kernel
theorem index_cols : ∀ t : Fin grid0.N, win0_1.index t 0 = t.val / 4 ∧ win0_1.index t 1 = 0 ∧ win0_1.index t 2 = t.val % 4
    ∧ win0_3.index t 0 = t.val / 4 ∧ win0_3.index t 1 = 0 ∧ win0_3.index t 2 = t.val % 4 := by decide +kernel

theorem points (t : Fin grid0.N) : t.val < 16 := lt_of_lt_of_eq t.isLt (by decide)

theorem blkQ_apply (t : Fin grid0.N) (x : Fin 128) (s : Fin 4096) : (blkQ m c t : S1x128x4096.Idx → EReal) (ix3 0 x s)
    = argQ m c (ix4 (⟨t.val / 4, by have := points t; omega⟩ : Fin 4) s (⟨2 * (t.val % 4) + x.val / 64, by omega⟩ : Fin 8) (⟨x.val % 64, by omega⟩ : Fin 64)) := by
  have ht := points t
  obtain ⟨h0, h1, h2, -⟩ := index_rows t
  refine Eq.trans (congrArg (laid m c main_v1) (a₂ := ix3 (⟨t.val / 4, by omega⟩ : Fin 4) (⟨128 * (t.val % 4) + x.val, by omega⟩ : Fin 512) s) ?_) ?_
  · refine funext fun a => Fin.ext ?_
    match a with
    | ⟨0, _⟩ => show win0_0.index t 0 * 1 + 1 * 0 = t.val / 4; omega
    | ⟨1, _⟩ => show win0_0.index t 1 * 128 + 1 * x.val = 128 * (t.val % 4) + x.val; omega
    | ⟨2, _⟩ => show win0_0.index t 2 * 4096 + 1 * s.val = s.val; omega
  · refine (laidQ m c _ _ _).trans (congrArg (argQ m c) ?_)
    congr 1 <;> exact Fin.ext (by dsimp only; omega)

theorem blkV_apply (t : Fin grid0.N) (x : Fin 128) (s : Fin 4096) : (blkV m c t : S1x128x4096.Idx → EReal) (ix3 0 x s)
    = argV m c (ix4 (⟨t.val / 4, by have := points t; omega⟩ : Fin 4) s (⟨2 * (t.val % 4) + x.val / 64, by omega⟩ : Fin 8) (⟨x.val % 64, by omega⟩ : Fin 64)) := by
  have ht := points t
  obtain ⟨-, -, -, h0, h1, h2⟩ := index_rows t
  refine Eq.trans (congrArg (laid m c main_v5) (a₂ := ix3 (⟨t.val / 4, by omega⟩ : Fin 4) (⟨128 * (t.val % 4) + x.val, by omega⟩ : Fin 512) s) ?_) ?_
  · refine funext fun a => Fin.ext ?_
    match a with
    | ⟨0, _⟩ => show win0_2.index t 0 * 1 + 1 * 0 = t.val / 4; omega
    | ⟨1, _⟩ => show win0_2.index t 1 * 128 + 1 * x.val = 128 * (t.val % 4) + x.val; omega
    | ⟨2, _⟩ => show win0_2.index t 2 * 4096 + 1 * s.val = s.val; omega
  · refine (laidV m c _ _ _).trans (congrArg (argV m c) ?_)
    congr 1 <;> exact Fin.ext (by dsimp only; omega)

theorem blkK_apply (t : Fin grid0.N) (s : Fin 4096) (x : Fin 128) : (blkK m c t : S1x4096x128.Idx → EReal) (ix3 0 s x)
    = argK m c (ix4 (⟨t.val / 4, by have := points t; omega⟩ : Fin 4) s (⟨2 * (t.val % 4) + x.val / 64, by omega⟩ : Fin 8) (⟨x.val % 64, by omega⟩ : Fin 64)) := by
  have ht := points t
  obtain ⟨h0, h1, h2, -⟩ := index_cols t
  refine Eq.trans (congrArg (laid m c main_v3) (a₂ := ix3 (⟨t.val / 4, by omega⟩ : Fin 4) s (⟨128 * (t.val % 4) + x.val, by omega⟩ : Fin 512)) ?_) ?_
  · refine funext fun a => Fin.ext ?_
    match a with
    | ⟨0, _⟩ => show win0_1.index t 0 * 1 + 1 * 0 = t.val / 4; omega
    | ⟨1, _⟩ => show win0_1.index t 1 * 4096 + 1 * s.val = s.val; omega
    | ⟨2, _⟩ => show win0_1.index t 2 * 128 + 1 * x.val = 128 * (t.val % 4) + x.val; omega
  · refine (laidK m c _ _ _).trans (congrArg (argK m c) ?_)
    congr 1 <;> exact Fin.ext (by dsimp only; omega)

/-! ## The result array -/

section Finite
variable (q k : S4x4096x8x64.Idx → ℝ) (hq : ∀ i, argQ m c i = ((q i : ℝ) : EReal)) (hk : ∀ i, argK m c i = ((k i : ℝ) : EReal))

/-- Row `x`, position `s` of a point's queries or keys, outside them zero. -/
def rowOf (q : S4x4096x8x64.Idx → ℝ) (b : Fin 4) (p : Fin 4) (x s : ℕ) : ℝ :=
  if h : x < 128 ∧ s < 4096 then q (ix4 b ⟨s, h.2⟩ (⟨2 * p.val + x / 64, by omega⟩ : Fin 8) (⟨x % 64, by omega⟩ : Fin 64)) else 0

/-- The kernel's logits are the reference's, in base two. -/
theorem logit_eq (b : Fin 4) (p : Fin 4) (g : Fin 2) (t : Fin 4096) (i : ℕ) :
    logit (rowOf q b p) (fun i x => rowOf k b p x i) g.val t.val i = toTwo (xr q k b ⟨2 * p.val + g.val, by omega⟩ t i) := by
  have hg := g.isLt
  have hr : ∀ r : Fin 64, rowOf k b p (64 * g.val + r.val) i * rowOf q b p (64 * g.val + r.val) t.val
      = q (ix4 b t ⟨2 * p.val + g.val, by omega⟩ r) * keyAt k b ⟨2 * p.val + g.val, by omega⟩ i r := fun r => by
    have h1 : (64 * g.val + r.val) / 64 = g.val := by omega
    have h2 : (64 * g.val + r.val) % 64 = r.val := by omega
    unfold rowOf keyAt
    rw [dif_pos (show 64 * g.val + r.val < 128 ∧ t.val < 4096 from ⟨by omega, t.isLt⟩)]
    by_cases hi : i < 4096
    · rw [dif_pos (show 64 * g.val + r.val < 128 ∧ i < 4096 from ⟨by omega, hi⟩), dif_pos hi, mul_comm]
      simp only [h1, h2]
    · rw [dif_neg (fun h => hi h.2), dif_neg hi, zero_mul, mul_zero]
  unfold logit toTwo xr
  rw [Finset.sum_congr rfl fun r _ => hr r, mul_assoc, mul_inv]
  norm_num

/-- What the kernel's result array holds. -/
abbrev stick : Buf (Elt Ideal) ((c : Thread nD τ).loc main_v6) :=
  Cert.ReferenceIdeal.Read.val_main_v22 (F := Ideal) (m ((c : Thread nD τ).loc main_arg0)) (m ((c : Thread nD τ).loc main_arg1)) (m ((c : Thread nD τ).loc main_arg2))

include hq hk

theorem out_apply (t : Fin grid0.N) (s : Fin 4096) (d : Fin 128) :
    (outOf (blkQ m c t) (blkK m c t) (blkV m c t) : S1x4096x128.Idx → EReal) (ix3 0 s d)
      = (stick m c : S4x4096x512.Idx → EReal) (ix3 (⟨t.val / 4, by have := points t; omega⟩ : Fin 4) s (⟨128 * (t.val % 4) + d.val, by omega⟩ : Fin 512)) := by
  have ht := points t
  have hd := d.isLt
  rw [outOf_apply (blkQ m c t) (blkK m c t) (blkV m c t) (rowOf q ⟨t.val / 4, by omega⟩ ⟨t.val % 4, by omega⟩)
    (fun i x => rowOf k ⟨t.val / 4, by omega⟩ ⟨t.val % 4, by omega⟩ x i) (fun x s => ?_) (fun s x => ?_)]
  · refine Eq.trans ?_ (result_apply _ _ _ q k hq hk _ _ _).symm
    refine Finset.sum_congr rfl fun i _ => ?_
    have h1 : (⟨2 * (t.val % 4) + d.val / 64, by omega⟩ : Fin 8) = ⟨(128 * (t.val % 4) + d.val) / 64, by omega⟩ := Fin.ext (by dsimp only; omega)
    have h2 : (⟨d.val % 64, by omega⟩ : Fin 64) = ⟨(128 * (t.val % 4) + d.val) % 64, by omega⟩ := Fin.ext (by dsimp only; omega)
    rw [blkV_apply, h1, h2]
    have hl := logit_eq q k ⟨t.val / 4, by omega⟩ ⟨t.val % 4, by omega⟩ ⟨d.val / 64, by omega⟩ s
    rw [h1] at hl
    rw [show logit _ _ (d.val / 64) s.val = _ from funext hl]
  · rw [blkQ_apply, hq, rowOf, dif_pos ⟨x.isLt, s.isLt⟩]
  · rw [blkK_apply, hk, rowOf, dif_pos ⟨x.isLt, s.isLt⟩]

theorem flushed_eq (t : Fin grid0.N) : (dats m 0 c).flushed 3 t = (win0_3.blk t).view.read (Elt Ideal) (stick m c) := by
  have ht := points t
  obtain ⟨-, -, -, h0, h1, h2⟩ := index_cols t
  show (win0_3).cut (grid0.coords t) ((dats m 0 c).after 3 t) = _
  rw [after_3]
  funext y
  have hy : y = ix3 (0 : Fin 1) (⟨(y 1).val, (y 1).isLt⟩ : Fin 4096) (⟨(y 2).val, (y 2).isLt⟩ : Fin 128) := funext fun a => Fin.ext (by
    match a with
    | ⟨0, _⟩ => have : (y 0).val < 1 := (y 0).isLt; show (y 0).val = 0; omega
    | ⟨1, _⟩ => rfl
    | ⟨2, _⟩ => rfl)
  refine Eq.trans (b := (outOf (blkQ m c t) (blkK m c t) (blkV m c t) : S1x4096x128.Idx → EReal) (ix3 (0 : Fin 1) (⟨(y 1).val, (y 1).isLt⟩ : Fin 4096) (⟨(y 2).val, (y 2).isLt⟩ : Fin 128))) ?_ ?_
  · exact congrArg (outOf (blkQ m c t) (blkK m c t) (blkV m c t)) hy
  · rw [out_apply m c q k hq hk]
    refine congrArg (stick m c) (funext fun a => Fin.ext ?_)
    have hy0 : (y 0).val < 1 := (y 0).isLt
    match a with
    | ⟨0, _⟩ => show t.val / 4 = win0_3.index t 0 * 1 + 1 * (y 0).val; omega
    | ⟨1, _⟩ => show (y 1).val = win0_3.index t 1 * 4096 + 1 * (y 1).val; omega
    | ⟨2, _⟩ => show 128 * (t.val % 4) + (y 2).val = win0_3.index t 2 * 128 + 1 * (y 2).val; omega

omit hq hk in
theorem cover (i : S4x4096x512.Idx) : ∃ t : Fin (cfg0 (F := Ideal)).N, ((cfg0 (F := Ideal)).win 3).flush t = true ∧ i ∈ (((cfg0 (F := Ideal)).win 3).blk t).view.set := by
  have h0 : (i 0).val < 4 := (i 0).isLt
  have h1 : (i 1).val < 4096 := (i 1).isLt
  have h2 : (i 2).val < 512 := (i 2).isLt
  have hN : grid0.N = 16 := by decide
  let t : Fin grid0.N := ⟨4 * (i 0).val + (i 2).val / 128, by omega⟩
  have e0 : t.val / 4 = (i 0).val := by show (4 * (i 0).val + (i 2).val / 128) / 4 = _; omega
  have e1 : t.val % 4 = (i 2).val / 128 := by show (4 * (i 0).val + (i 2).val / 128) % 4 = _; omega
  obtain ⟨-, -, -, j0, j1, j2⟩ := index_cols t
  refine ⟨t, flush0_3 t, ?_⟩
  show i ∈ ((View.whole main_v6).slice (win0_3.rect t)).set
  rw [View.set_slice_whole, Rect.mem_set_unit]
  intro a
  match a with
  | ⟨0, _⟩ => show win0_3.index t 0 * 1 ≤ (i 0).val ∧ (i 0).val < win0_3.index t 0 * 1 + 1; omega
  | ⟨1, _⟩ => show win0_3.index t 1 * 4096 ≤ (i 1).val ∧ (i 1).val < win0_3.index t 1 * 4096 + 4096; omega
  | ⟨2, _⟩ => show win0_3.index t 2 * 128 ≤ (i 2).val ∧ (i 2).val < win0_3.index t 2 * 128 + 128; omega

theorem final_eq : (dats m 0 c).arrAt 3 (cfg0 (F := Ideal)).N = stick m c :=
  (dats m 0 c).arrAt_eq_of_cover 3 (stick m c) (fun t _ => flushed_eq m c q k hq hk t) cover

end Finite

end Cert.KernelIdeal.Sb
-- ==== Proof.SbValue.Claim.lean ====
/-
  The value claim: for finite queries and keys the idealized kernel and the reference end with the same array.
-/
module

public import proofs.«01_k».proof.Defs
public import proofs.«01_k».proof.Proof.SbValue.Result
public import Idealize.ShloMosaic.Lib.ReduceAll
public import Idealize.ShloMosaic.Lib.Quiescent

@[expose] public section

set_option maxRecDepth 65536

noncomputable section

namespace Cert.Proof

open Idealize.ShloMosaic Idealize.ShloMosaic.TcCoe Idealize.SL.Sem

/-- The side conditions the precondition states. -/
theorem finite_facts : Cert.Pre_finite.Facts where
  bcast_S_S4x4096x8x64 := by decide
  reducesTo_S4x4096x8x64_S_d0_1_2_3 := by decide
  h_S_ := by decide

/-- An extended real below `⊤` in absolute value is real. -/
theorem real_of_lt (x : EReal) (h : FloatOps.cmpf (F := Ideal) (φ := .f32) .olt (max x (-x)) (Ideal.ofBits .f32 0x7F800000#32) = 1#1) :
    x = ((x.toReal : ℝ) : EReal) := by
  have hT : Ideal.ofBits .f32 0x7F800000#32 = (⊤ : EReal) := by simp [Ideal.ofBits, Ideal.ieee]
  rw [hT] at h
  have hlt : max x (-x) < ⊤ := by
    by_contra hn
    have : FloatOps.cmpf (F := Ideal) (φ := .f32) .olt (max x (-x)) (⊤ : EReal) = 0#1 := by
      show BitVec.ofBool (decide _) = _
      rw [decide_eq_false hn]; rfl
    rw [this] at h
    exact absurd h (by decide)
  have h1 : x ≠ ⊤ := fun e => by rw [e] at hlt; simp at hlt
  have h2 : x ≠ ⊥ := fun e => by rw [e] at hlt; simp at hlt
  exact (EReal.coe_toReal h1 h2).symm

theorem and_one (a b : BitVec 1) (h : IntOp.andi a b = 1#1) : a = 1#1 ∧ b = 1#1 := by
  revert a b; decide

/-- What the precondition says: every query and every key is real. -/
theorem finite_iff (m : (ℓ : Loc Cert.KernelIdeal.nD Cert.KernelIdeal.τ Cert.KernelIdeal.sig) → Buf (Elt Ideal) ℓ)
    (h : Cert.Pre_KernelIdeal_finite (hPre_finite := finite_facts) m) (c : Dev Cert.KernelIdeal.nD) :
    (∀ i, Cert.KernelIdeal.Sb.argQ m c i = (((Cert.KernelIdeal.Sb.argQ m c i).toReal : ℝ) : EReal))
    ∧ (∀ i, Cert.KernelIdeal.Sb.argK m c i = (((Cert.KernelIdeal.Sb.argK m c i).toReal : ℝ) : EReal)) := by
  have h0 := and_one _ _ (congrFun (h c) ix0)
  exact ⟨fun i => real_of_lt _ (Host.reduce_andi_all _ _ _ _ _ h0.1 i), fun i => real_of_lt _ (Host.reduce_andi_all _ _ _ _ _ h0.2 i)⟩

/-- Every execution of the idealized kernel ends with the reference's array and its arguments unchanged. -/
theorem kernel_run (m : (ℓ : Loc Cert.KernelIdeal.nD Cert.KernelIdeal.τ Cert.KernelIdeal.sig) → Buf (Elt Ideal) ℓ)
    (g : Dev Cert.KernelIdeal.nD → PrngReg) (h : Cert.Pre_KernelIdeal_finite (hPre_finite := finite_facts) m) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v6) = Cert.KernelIdeal.Sb.stick m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun r hr c =>
    ⟨((hr.1 c).1 3).trans (Cert.KernelIdeal.Sb.final_eq m c _ _ (finite_iff m h c).1 (finite_iff m h c).2),
      ((hr.1 c).2 Cert.KernelIdeal.main_arg0 (show Cert.KernelIdeal.main_arg0 ∈ Pipeline.restRefs Cert.KernelIdeal.sig Cert.KernelIdeal.spec0 from by decide)).trans (Cert.KernelIdeal.Sb.laid_arg0 m c),
      ((hr.1 c).2 Cert.KernelIdeal.main_arg1 (show Cert.KernelIdeal.main_arg1 ∈ Pipeline.restRefs Cert.KernelIdeal.sig Cert.KernelIdeal.spec0 from by decide)).trans (Cert.KernelIdeal.Sb.laid_arg1 m c),
      ((hr.1 c).2 Cert.KernelIdeal.main_arg2 (show Cert.KernelIdeal.main_arg2 ∈ Pipeline.restRefs Cert.KernelIdeal.sig Cert.KernelIdeal.spec0 from by decide)).trans (Cert.KernelIdeal.Sb.laid_arg2 m c)⟩)
    (Cert.KernelIdeal.Sb.run_main m g)

theorem value : Cert.algebraic_KernelIdeal_ReferenceIdeal_pre_finite (hKernelIdeal := Cert.KernelIdeal.Gen.facts)
    (hReferenceIdeal := Cert.ReferenceIdeal.Gen.facts) (hPre_finite := finite_facts) := by
  intro m g m' g' h hm
  refine ⟨fun c => Cert.KernelIdeal.Sb.stick m c, kernel_run m g h, ?_⟩
  refine (θ_run Cert.ReferenceIdeal.defs _ _).mono (fun r hr c => ⟨?_, (hr c).2⟩) (Cert.ReferenceIdeal.Value.run (F := Ideal) m' g')
  rw [(hr c).1, Cert.ReferenceIdeal.Read.val_main_v22_eq, (hm c).1, (hm c).2.1, (hm c).2.2]

end Cert.Proof
-- ==== Proof.Proj.Body.lean ====
/-
  What one grid point of the prompt's projections leaves in each of its eleven blocks, index by index: sums of products of the
  point's rows with columns of the weights.
-/
module

public import proofs.«01_k».proof.Proof.Gen.Kernel2Ideal.Frame
public import proofs.«01_k».proof.Proof.SbValue.Real
public import Idealize.ShloMosaic.Lib.Pipeline.Value
public import Idealize.ShloMosaic.Lib.Pointwise

@[expose] public section

set_option maxRecDepth 65536

noncomputable section

namespace Cert.Kernel2Ideal.Proj

open Cert.Kernel2Ideal Cert.Kernel2Ideal.Gen Cert.Proof.Stick
open Idealize.ShloMosaic Idealize.ShloMosaic.TcCoe

/-! ## The stores' payloads -/

section Payloads
variable (X : Vec Ideal S512x1024 .f32) (H : FVec Ideal S512x1024 .bf16) (W : Vec Ideal S1024x512 .bf16) (U L : Vec Ideal S512x1024 .bf16)

theorem pay4_apply (r d : Fin 512) : (k0_pay4 X W : S512x512.Idx → EReal) (ix2 r d)
    = ∑ k : Fin 1024, (X : S512x1024.Idx → EReal) (ix2 r k) * (W : S1024x512.Idx → EReal) (ix2 k d) := by
  pointwise [k0_pay4, k0_pay3, k0_pay2]

theorem pay5_apply (r d : Fin 512) : (k0_pay5 X W : S512x512.Idx → EReal) (ix2 r d)
    = ∑ k : Fin 1024, (X : S512x1024.Idx → EReal) (ix2 r k) * (W : S1024x512.Idx → EReal) (ix2 k d) := by
  pointwise [k0_pay5, k0_pay3, k0_pay2]

theorem pay6_apply (d r : Fin 512) : (k0_pay6 X U : S1x512x512.Idx → EReal) (ix3 0 d r)
    = ∑ k : Fin 1024, (U : S512x1024.Idx → EReal) (ix2 d k) * (X : S512x1024.Idx → EReal) (ix2 r k) := by
  pointwise [k0_pay6, k0_pay3, k0_pay2]

theorem pay3_apply (r : Fin 512) (k : Fin 1024) : (k0_pay3 X : S512x1024.Idx → EReal) (ix2 r k) = (X : S512x1024.Idx → EReal) (ix2 r k) := by
  pointwise [k0_pay3, k0_pay2]

theorem pay10_apply (d r : Fin 512) : (k0_pay10 H U : S1x512x512.Idx → EReal) (ix3 0 d r)
    = ∑ k : Fin 1024, (U : S512x1024.Idx → EReal) (ix2 d k) * (H : S512x1024.Idx → EReal) (ix2 r k) := by
  pointwise [k0_pay10, k0_pay9]

theorem pay11_apply (r d : Fin 512) : (k0_pay11 H U : S512x512.Idx → EReal) (ix2 r d)
    = ∑ k : Fin 1024, (U : S512x1024.Idx → EReal) (ix2 d k) * (H : S512x1024.Idx → EReal) (ix2 r k) := by
  pointwise [k0_pay11, k0_pay9]

theorem pay12_apply (d r : Fin 512) : (k0_pay12 H U : S1x512x512.Idx → EReal) (ix3 0 d r)
    = ∑ k : Fin 1024, (U : S512x1024.Idx → EReal) (ix2 d k) * (H : S512x1024.Idx → EReal) (ix2 r k) := by
  pointwise [k0_pay12]

theorem pay14_apply (d r : Fin 512) : (k0_pay14 H U : S1x512x512.Idx → EReal) (ix3 0 d r)
    = ∑ k : Fin 1024, (U : S512x1024.Idx → EReal) (ix2 d k) * (H : S512x1024.Idx → EReal) (ix2 r k) := by
  pointwise [k0_pay14, k0_pay13]

theorem pay15_apply (r d : Fin 512) : (k0_pay15 H U : S512x512.Idx → EReal) (ix2 r d)
    = ∑ k : Fin 1024, (U : S512x1024.Idx → EReal) (ix2 d k) * (H : S512x1024.Idx → EReal) (ix2 r k) := by
  pointwise [k0_pay15, k0_pay13]

theorem pay16_apply (d r : Fin 512) : (k0_pay16 H U : S1x512x512.Idx → EReal) (ix3 0 d r)
    = ∑ k : Fin 1024, (U : S512x1024.Idx → EReal) (ix2 d k) * (H : S512x1024.Idx → EReal) (ix2 r k) := by
  pointwise [k0_pay16]

/-- The product in three passes, of real rows: the passes over the remainders add nothing. -/
theorem pay8_apply (hX : ∀ (r : Fin 512) (k : Fin 1024), ∃ a : ℝ, (X : S512x1024.Idx → EReal) (ix2 r k) = ((a : ℝ) : EReal))
    (hL : ∀ (d : Fin 512) (k : Fin 1024), (L : S512x1024.Idx → EReal) (ix2 d k) = 0) (d r : Fin 512) :
    (k0_pay8 (k0_pay7 X U L) : S1x512x512.Idx → EReal) (ix3 0 d r)
    = ∑ k : Fin 1024, (U : S512x1024.Idx → EReal) (ix2 d k) * (X : S512x1024.Idx → EReal) (ix2 r k) := by
  have h0 : ∀ (r : Fin 512) (k : Fin 1024), (X : S512x1024.Idx → EReal) (ix2 r k) - (X : S512x1024.Idx → EReal) (ix2 r k) = 0 := fun r k => by
    obtain ⟨a, ha⟩ := hX r k
    rw [ha, ← EReal.coe_sub, sub_self, EReal.coe_zero]
  pointwise [k0_pay8, k0_pay7, k0_pay3, k0_pay2]
  simp only [hL, h0]
  simp

/-- The mean of block `g` of 256 rows, times a column of real weights. -/
theorem pay17_apply (v : Fin 512 → Fin 1024 → ℝ) (w : Fin 1024 → Fin 512 → ℝ) (Z : Vec Ideal S1024x512 .bf16)
    (hX : ∀ (r : Fin 512) (k : Fin 1024), (X : S512x1024.Idx → EReal) (ix2 r k) = ((v r k : ℝ) : EReal))
    (hW : ∀ (k : Fin 1024) (d : Fin 512), (W : S1024x512.Idx → EReal) (ix2 k d) = ((w k d : ℝ) : EReal))
    (hZ : ∀ (k : Fin 1024) (d : Fin 512), (Z : S1024x512.Idx → EReal) (ix2 k d) = 0) (g : Fin 2) (d : Fin 512) :
    (k0_pay1 (k0_pay17 (k0_pay2 X) W Z) : S1x2x512.Idx → EReal) (ix3 0 g d)
    = ((∑ k : Fin 1024, (∑ x : Fin 256, v ⟨256 * g.val + x.val, by omega⟩ k) * (1 / 256) * w k d : ℝ) : EReal) := by
  have hc : Ideal.ofBits .f32 998244352#32 = (((1 / 256 : ℝ)) : EReal) := by
    simp [Ideal.ofBits, Ideal.ieee, -EReal.coe_mul]; norm_num
  have hm : ∀ k : Fin 1024, Scalar.select (IntOp.cmpi CmpIPredicate.eq (BitVec.ofNat 32 g.val) 1#32)
      ((∑ x : Fin 256, (X : S512x1024.Idx → EReal) (ix2 ⟨256 + x.val, by omega⟩ k)) * Ideal.ofBits .f32 998244352#32)
      (Scalar.select (IntOp.cmpi CmpIPredicate.eq (BitVec.ofNat 32 g.val) 0#32)
        ((∑ x : Fin 256, (X : S512x1024.Idx → EReal) (ix2 ⟨x.val, by omega⟩ k)) * Ideal.ofBits .f32 998244352#32) 0)
      = (((∑ x : Fin 256, v ⟨256 * g.val + x.val, by omega⟩ k) * (1 / 256) : ℝ) : EReal) := fun k => by
    have e0 : ∀ A B : EReal, Scalar.select (IntOp.cmpi CmpIPredicate.eq (BitVec.ofNat 32 (0 : Fin 2).val) 1#32) A
        (Scalar.select (IntOp.cmpi CmpIPredicate.eq (BitVec.ofNat 32 (0 : Fin 2).val) 0#32) B 0) = B := fun _ _ => rfl
    have e1 : ∀ A B : EReal, Scalar.select (IntOp.cmpi CmpIPredicate.eq (BitVec.ofNat 32 (1 : Fin 2).val) 1#32) A
        (Scalar.select (IntOp.cmpi CmpIPredicate.eq (BitVec.ofNat 32 (1 : Fin 2).val) 0#32) B 0) = A := fun _ _ => rfl
    have hg := g.isLt
    rcases (show g = 0 ∨ g = 1 by omega) with rfl | rfl
    · rw [e0, hc]
      simp only [hX, ← coe_sum, ← EReal.coe_mul]
      exact congrArg _ (congrArg (· * (1 / 256 : ℝ)) (Finset.sum_congr rfl fun x _ => congrArg (v · k) (Fin.ext (show x.val = 256 * 0 + x.val by omega))))
    · rw [e1, hc]
      simp only [hX, ← coe_sum, ← EReal.coe_mul]
      exact congrArg _ (congrArg (· * (1 / 256 : ℝ)) (Finset.sum_congr rfl fun x _ => congrArg (v · k) (Fin.ext (show 256 + x.val = 256 * 1 + x.val by omega))))
  pointwise [k0_pay1, k0_pay17, k0_pay2]
  simp only [hm, hW, hZ, ← EReal.coe_sub, sub_self, ← EReal.coe_mul, EReal.coe_zero, mul_zero, zero_mul, Finset.sum_const_zero, add_zero, ← coe_sum]

end Payloads

/-! ## The blocks -/

section Blocks
variable (x0 : Vec Ideal S512x1024 .f32) (x1 : Vec Ideal S1024x2048 .bf16) (x2 : Vec Ideal S1024x512 .bf16) (x3 : Vec Ideal S3072x1024 .bf16) (x4 : Vec Ideal S512x1024 .bf16)

theorem zero2 : (![0, 0] : Fin 2 → ℕ) = fun _ => 0 := funext fun a => match a with | ⟨0, _⟩ => rfl | ⟨1, _⟩ => rfl
theorem zero3 : (![0, 0, 0] : Fin 3 → ℕ) = fun _ => 0 := funext fun a => match a with | ⟨0, _⟩ => rfl | ⟨1, _⟩ => rfl | ⟨2, _⟩ => rfl

theorem ld_rows : View.ld x0 r0_0 = x0 := View.ld_unit_zero (Val := Elt Ideal) zero2 _ x0

theorem out5_apply (r d : Fin 512) : (out0_5 x0 x1 x2 x3 x4 : S512x512.Idx → EReal) (ix2 r d)
    = ∑ k : Fin 1024, (x0 : S512x1024.Idx → EReal) (ix2 r k) * (x1 : S1024x2048.Idx → EReal) (ix2 k ⟨0 + d.val, by omega⟩) := by
  unfold out0_5
  rw [View.canon_unit_zero zero2, pay4_apply, ld_rows]
  refine Finset.sum_congr rfl fun k _ => congrArg _ ?_
  pointwise []

theorem out6_apply (r d : Fin 512) : (out0_6 x0 x1 x2 x3 x4 : S512x512.Idx → EReal) (ix2 r d)
    = ∑ k : Fin 1024, (x0 : S512x1024.Idx → EReal) (ix2 r k) * (x1 : S1024x2048.Idx → EReal) (ix2 k ⟨512 + d.val, by omega⟩) := by
  unfold out0_6
  rw [View.canon_unit_zero zero2, pay5_apply, ld_rows]
  refine Finset.sum_congr rfl fun k _ => congrArg _ ?_
  pointwise []

theorem out7_apply (r d : Fin 512) : (out0_7 x0 x1 x2 x3 x4 : S512x512.Idx → EReal) (ix2 r d)
    = ∑ k : Fin 1024, (x3 : S3072x1024.Idx → EReal) (ix2 ⟨1024 + d.val, by omega⟩ k) * (x0 : S512x1024.Idx → EReal) (ix2 r k) := by
  unfold out0_7 k0_pay18
  rw [View.canon_unit_zero zero2, pay11_apply, ld_rows]
  refine Finset.sum_congr rfl fun k _ => congr (congrArg _ ?_) (pay3_apply x0 r k)
  pointwise []

theorem out8_apply (r d : Fin 512) : (out0_8 x0 x1 x2 x3 x4 : S512x512.Idx → EReal) (ix2 r d)
    = ∑ k : Fin 1024, (x3 : S3072x1024.Idx → EReal) (ix2 ⟨2048 + d.val, by omega⟩ k) * (x0 : S512x1024.Idx → EReal) (ix2 r k) := by
  unfold out0_8 k0_pay18
  rw [View.canon_unit_zero zero2, pay15_apply, ld_rows]
  refine Finset.sum_congr rfl fun k _ => congr (congrArg _ ?_) (pay3_apply x0 r k)
  pointwise []

theorem out10_apply (d r : Fin 512) : (out0_10 x0 x1 x2 x3 x4 : S1x512x512.Idx → EReal) (ix3 0 d r)
    = ∑ k : Fin 1024, (x3 : S3072x1024.Idx → EReal) (ix2 ⟨0 + d.val, by omega⟩ k) * (x0 : S512x1024.Idx → EReal) (ix2 r k) := by
  unfold out0_10
  rw [View.canon_unit_zero zero3, pay6_apply, ld_rows]
  refine Finset.sum_congr rfl fun k _ => congr (congrArg _ ?_) rfl
  pointwise []

theorem out12_apply (d r : Fin 512) : (out0_12 x0 x1 x2 x3 x4 : S1x512x512.Idx → EReal) (ix3 0 d r)
    = ∑ k : Fin 1024, (x3 : S3072x1024.Idx → EReal) (ix2 ⟨1024 + d.val, by omega⟩ k) * (x0 : S512x1024.Idx → EReal) (ix2 r k) := by
  unfold out0_12 k0_pay18
  rw [View.canon_unit_zero zero3, pay10_apply, ld_rows]
  refine Finset.sum_congr rfl fun k _ => congr (congrArg _ ?_) (pay3_apply x0 r k)
  pointwise []

theorem out13_apply (d r : Fin 512) : (out0_13 x0 x1 x2 x3 x4 : S1x512x512.Idx → EReal) (ix3 0 d r)
    = ∑ k : Fin 1024, (x3 : S3072x1024.Idx → EReal) (ix2 ⟨1536 + d.val, by omega⟩ k) * (x0 : S512x1024.Idx → EReal) (ix2 r k) := by
  unfold out0_13 k0_pay18
  rw [View.canon_unit_zero zero3, pay12_apply, ld_rows]
  refine Finset.sum_congr rfl fun k _ => congr (congrArg _ ?_) (pay3_apply x0 r k)
  pointwise []

theorem out14_apply (d r : Fin 512) : (out0_14 x0 x1 x2 x3 x4 : S1x512x512.Idx → EReal) (ix3 0 d r)
    = ∑ k : Fin 1024, (x3 : S3072x1024.Idx → EReal) (ix2 ⟨2048 + d.val, by omega⟩ k) * (x0 : S512x1024.Idx → EReal) (ix2 r k) := by
  unfold out0_14 k0_pay18
  rw [View.canon_unit_zero zero3, pay14_apply, ld_rows]
  refine Finset.sum_congr rfl fun k _ => congr (congrArg _ ?_) (pay3_apply x0 r k)
  pointwise []

theorem out15_apply (d r : Fin 512) : (out0_15 x0 x1 x2 x3 x4 : S1x512x512.Idx → EReal) (ix3 0 d r)
    = ∑ k : Fin 1024, (x3 : S3072x1024.Idx → EReal) (ix2 ⟨2560 + d.val, by omega⟩ k) * (x0 : S512x1024.Idx → EReal) (ix2 r k) := by
  unfold out0_15 k0_pay18
  rw [View.canon_unit_zero zero3, pay16_apply, ld_rows]
  refine Finset.sum_congr rfl fun k _ => congr (congrArg _ ?_) (pay3_apply x0 r k)
  pointwise []

theorem out11_apply (hX : ∀ (r : Fin 512) (k : Fin 1024), ∃ a : ℝ, (x0 : S512x1024.Idx → EReal) (ix2 r k) = ((a : ℝ) : EReal))
    (hL : ∀ (d : Fin 512) (k : Fin 1024), (x4 : S512x1024.Idx → EReal) (ix2 d k) = 0) (d r : Fin 512) :
    (out0_11 x0 x1 x2 x3 x4 : S1x512x512.Idx → EReal) (ix3 0 d r)
    = ∑ k : Fin 1024, (x3 : S3072x1024.Idx → EReal) (ix2 ⟨512 + d.val, by omega⟩ k) * (x0 : S512x1024.Idx → EReal) (ix2 r k) := by
  unfold out0_11
  rw [View.canon_unit_zero zero3, ld_rows, ld_rows x4, pay8_apply x0 _ x4 hX hL]
  refine Finset.sum_congr rfl fun k _ => congr (congrArg _ ?_) rfl
  pointwise []

theorem out9_apply (v : Fin 512 → Fin 1024 → ℝ) (w : Fin 1024 → Fin 512 → ℝ)
    (hX : ∀ (r : Fin 512) (k : Fin 1024), (x0 : S512x1024.Idx → EReal) (ix2 r k) = ((v r k : ℝ) : EReal))
    (hW : ∀ (k : Fin 1024) (d : Fin 512), (x1 : S1024x2048.Idx → EReal) (ix2 k ⟨1536 + d.val, by omega⟩) = ((w k d : ℝ) : EReal))
    (hZ : ∀ (k : Fin 1024) (d : Fin 512), (x2 : S1024x512.Idx → EReal) (ix2 k d) = 0) (g : Fin 2) (d : Fin 512) :
    (out0_9 x0 x1 x2 x3 x4 : S1x2x512.Idx → EReal) (ix3 0 g d)
    = ((∑ k : Fin 1024, (∑ x : Fin 256, v ⟨256 * g.val + x.val, by omega⟩ k) * (1 / 256) * w k d : ℝ) : EReal) := by
  unfold out0_9
  rw [View.canon_unit_zero zero3, ld_rows, show View.ld x2 r0_12 = x2 from View.ld_unit_zero (Val := Elt Ideal) zero2 _ x2]
  refine pay17_apply x0 _ v w x2 hX (fun k d => ?_) hZ g d
  rw [← hW]
  pointwise []

end Blocks

end Cert.Kernel2Ideal.Proj
-- ==== Proof.Proj.Laid.lean ====
/-
  The arrays the host prepares for the prompt's projections, index by index, and each window's block at a grid point.
-/
module

public import proofs.«01_k».proof.Proof.Gen.Kernel2Ideal.Value
public import Idealize.ShloMosaic.Lib.Pointwise
public import Idealize.ShloMosaic.Lib.StableHlo.ReadAt

@[expose] public section

set_option maxRecDepth 65536

noncomputable section

namespace Cert.Kernel2Ideal.Proj

open Cert.Kernel2Ideal Cert.Kernel2Ideal.Gen
open Idealize.ShloMosaic Idealize.ShloMosaic.TcCoe Idealize.ShloMosaic.StableHlo

variable (m : (ℓ : Loc nD τ sig) → Buf (Elt Ideal) ℓ) (c : Dev nD)

abbrev argX : S4x4096x1024.Idx → EReal := m ((c : Thread nD τ).loc main_arg0)
abbrev argW : S1x1024x4096.Idx → EReal := m ((c : Thread nD τ).loc main_arg1)

theorem laidX (n : Fin 16384) (k : Fin 1024) :
    (V m c main_v23 : S16384x1024.Idx → EReal) (ix2 n k) = argX m c (ix3 (⟨n.val / 4096, by omega⟩ : Fin 4) (⟨n.val % 4096, by omega⟩ : Fin 4096) k) := by
  after_reads_at

theorem laidRow0 (k : Fin 1024) (d : Fin 512) :
    (V m c main_v11 : S1024x2048.Idx → EReal) (ix2 k ⟨0 + d.val, by omega⟩) = argW m c (ix3 0 k (⟨1536 + d.val, by omega⟩ : Fin 4096)) := by
  after_reads_at
  repeat first | rw [dif_pos (by omega)] | rw [dif_neg (by omega)]
  after_reads_at

theorem laidRow512 (k : Fin 1024) (d : Fin 512) :
    (V m c main_v11 : S1024x2048.Idx → EReal) (ix2 k ⟨512 + d.val, by omega⟩) = argW m c (ix3 0 k (⟨3584 + d.val, by omega⟩ : Fin 4096)) := by
  after_reads_at
  repeat first | rw [dif_pos (by omega)] | rw [dif_neg (by omega)]
  after_reads_at

theorem laidRow1024 (k : Fin 1024) (d : Fin 512) :
    (V m c main_v11 : S1024x2048.Idx → EReal) (ix2 k ⟨1024 + d.val, by omega⟩) = argW m c (ix3 0 k (⟨512 + d.val, by omega⟩ : Fin 4096)) := by
  after_reads_at
  repeat first | rw [dif_pos (by omega)] | rw [dif_neg (by omega)]
  after_reads_at
  first | rfl | exact congrArg (argW m c) (congrArg (ix3 0 k) (Fin.ext (by dsimp only; omega)))

theorem laidRow1536 (k : Fin 1024) (d : Fin 512) :
    (V m c main_v11 : S1024x2048.Idx → EReal) (ix2 k ⟨1536 + d.val, by omega⟩) = argW m c (ix3 0 k (⟨2560 + d.val, by omega⟩ : Fin 4096)) := by
  after_reads_at
  repeat first | rw [dif_pos (by omega)] | rw [dif_neg (by omega)]
  after_reads_at
  first | rfl | exact congrArg (argW m c) (congrArg (ix3 0 k) (Fin.ext (by dsimp only; omega)))

theorem laidFeat0 (d : Fin 512) (k : Fin 1024) :
    (V m c main_v20 : S3072x1024.Idx → EReal) (ix2 ⟨0 + d.val, by omega⟩ k) = argW m c (ix3 0 k (⟨0 + d.val, by omega⟩ : Fin 4096)) := by
  after_reads_at
  repeat first | rw [dif_pos (by omega)] | rw [dif_neg (by omega)]
  after_reads_at

theorem laidFeat512 (d : Fin 512) (k : Fin 1024) :
    (V m c main_v20 : S3072x1024.Idx → EReal) (ix2 ⟨512 + d.val, by omega⟩ k) = argW m c (ix3 0 k (⟨2048 + d.val, by omega⟩ : Fin 4096)) := by
  after_reads_at
  repeat first | rw [dif_pos (by omega)] | rw [dif_neg (by omega)]
  after_reads_at

theorem laidFeat1024 (d : Fin 512) (k : Fin 1024) :
    (V m c main_v20 : S3072x1024.Idx → EReal) (ix2 ⟨1024 + d.val, by omega⟩ k) = argW m c (ix3 0 k (⟨512 + d.val, by omega⟩ : Fin 4096)) := by
  after_reads_at
  repeat first | rw [dif_pos (by omega)] | rw [dif_neg (by omega)]
  after_reads_at
  first | rfl | exact congrArg (argW m c) (congrArg (ix3 0 k) (Fin.ext (by dsimp only; omega)))

theorem laidFeat1536 (d : Fin 512) (k : Fin 1024) :
    (V m c main_v20 : S3072x1024.Idx → EReal) (ix2 ⟨1536 + d.val, by omega⟩ k) = argW m c (ix3 0 k (⟨1024 + d.val, by omega⟩ : Fin 4096)) := by
  after_reads_at
  repeat first | rw [dif_pos (by omega)] | rw [dif_neg (by omega)]
  after_reads_at
  first | rfl | exact congrArg (argW m c) (congrArg (ix3 0 k) (Fin.ext (by dsimp only; omega)))

theorem laidFeat2048 (d : Fin 512) (k : Fin 1024) :
    (V m c main_v20 : S3072x1024.Idx → EReal) (ix2 ⟨2048 + d.val, by omega⟩ k) = argW m c (ix3 0 k (⟨2560 + d.val, by omega⟩ : Fin 4096)) := by
  after_reads_at
  repeat first | rw [dif_pos (by omega)] | rw [dif_neg (by omega)]
  after_reads_at
  first | rfl | exact congrArg (argW m c) (congrArg (ix3 0 k) (Fin.ext (by dsimp only; omega)))

theorem laidFeat2560 (d : Fin 512) (k : Fin 1024) :
    (V m c main_v20 : S3072x1024.Idx → EReal) (ix2 ⟨2560 + d.val, by omega⟩ k) = argW m c (ix3 0 k (⟨3072 + d.val, by omega⟩ : Fin 4096)) := by
  after_reads_at
  repeat first | rw [dif_pos (by omega)] | rw [dif_neg (by omega)]
  after_reads_at
  first | rfl | exact congrArg (argW m c) (congrArg (ix3 0 k) (Fin.ext (by dsimp only; omega)))

theorem laidLow (k : Fin 1024) (d : Fin 512) :
    (V m c main_v12 : S1024x512.Idx → EReal) (ix2 k d) = argW m c (ix3 0 k (⟨2048 + (512 + d.val), by omega⟩ : Fin 4096)) - argW m c (ix3 0 k (⟨2048 + (512 + d.val), by omega⟩ : Fin 4096)) := by
  after_reads_at

theorem laidLowT (d : Fin 512) (k : Fin 1024) :
    (V m c main_v22 : S512x1024.Idx → EReal) (ix2 d k) = argW m c (ix3 0 k (⟨2048 + d.val, by omega⟩ : Fin 4096)) - argW m c (ix3 0 k (⟨2048 + d.val, by omega⟩ : Fin 4096)) := by
  after_reads_at

/-! ## The blocks of a point -/

theorem points (t : Fin grid0.N) : t.val < 32 := lt_of_lt_of_eq t.isLt (by decide)

/-- Point `t` takes rows `512 t …` of the prompt; the weights it takes whole. -/
theorem index_in : ∀ t : Fin grid0.N, win0_0.index t 0 = t.val ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0 ∧ win0_4.index t 0 = 0 ∧ win0_4.index t 1 = 0 := by decide +kernel

abbrev blkX (t : Fin grid0.N) : S512x1024.Idx → EReal := iblk m c 0 t
abbrev blkRow (t : Fin grid0.N) : S1024x2048.Idx → EReal := iblk m c 1 t
abbrev blkLow (t : Fin grid0.N) : S1024x512.Idx → EReal := iblk m c 2 t
abbrev blkFeat (t : Fin grid0.N) : S3072x1024.Idx → EReal := iblk m c 3 t
abbrev blkLowT (t : Fin grid0.N) : S512x1024.Idx → EReal := iblk m c 4 t

theorem blkX_apply (t : Fin grid0.N) (r : Fin 512) (k : Fin 1024) : blkX m c t (ix2 r k)
    = argX m c (ix3 (⟨t.val / 8, by have := points t; omega⟩ : Fin 4) (⟨512 * (t.val % 8) + r.val, by omega⟩ : Fin 4096) k) := by
  have ht := points t
  obtain ⟨h0, h1, -⟩ := index_in t
  refine Eq.trans (congrArg (V m c main_v23) (a₂ := ix2 (⟨512 * t.val + r.val, by omega⟩ : Fin 16384) k) ?_) ?_
  · refine funext fun a => Fin.ext ?_
    match a with
    | ⟨0, _⟩ => show win0_0.index t 0 * 512 + 1 * r.val = 512 * t.val + r.val; omega
    | ⟨1, _⟩ => show win0_0.index t 1 * 1024 + 1 * k.val = k.val; omega
  · refine (laidX m c _ _).trans (congrArg (argX m c) ?_)
    congr 1 <;> exact Fin.ext (by dsimp only; omega)

theorem blkRow_apply (t : Fin grid0.N) (k : Fin 1024) (e : Fin 2048) : blkRow m c t (ix2 k e)
    = (V m c main_v11 : S1024x2048.Idx → EReal) (ix2 k e) := by
  obtain ⟨-, -, h0, h1, -⟩ := index_in t
  refine congrArg (V m c main_v11) (funext fun a => Fin.ext ?_)
  match a with
  | ⟨0, _⟩ => show win0_1.index t 0 * 1024 + 1 * k.val = k.val; omega
  | ⟨1, _⟩ => show win0_1.index t 1 * 2048 + 1 * e.val = e.val; omega

theorem blkLow_apply (t : Fin grid0.N) (k : Fin 1024) (e : Fin 512) : blkLow m c t (ix2 k e)
    = (V m c main_v12 : S1024x512.Idx → EReal) (ix2 k e) := by
  obtain ⟨-, -, -, -, h0, h1, -⟩ := index_in t
  refine congrArg (V m c main_v12) (funext fun a => Fin.ext ?_)
  match a with
  | ⟨0, _⟩ => show win0_2.index t 0 * 1024 + 1 * k.val = k.val; omega
  | ⟨1, _⟩ => show win0_2.index t 1 * 512 + 1 * e.val = e.val; omega

theorem blkFeat_apply (t : Fin grid0.N) (e : Fin 3072) (k : Fin 1024) : blkFeat m c t (ix2 e k)
    = (V m c main_v20 : S3072x1024.Idx → EReal) (ix2 e k) := by
  obtain ⟨-, -, -, -, -, -, h0, h1, -⟩ := index_in t
  refine congrArg (V m c main_v20) (funext fun a => Fin.ext ?_)
  match a with
  | ⟨0, _⟩ => show win0_3.index t 0 * 3072 + 1 * e.val = e.val; omega
  | ⟨1, _⟩ => show win0_3.index t 1 * 1024 + 1 * k.val = k.val; omega

theorem blkLowT_apply (t : Fin grid0.N) (e : Fin 512) (k : Fin 1024) : blkLowT m c t (ix2 e k)
    = (V m c main_v22 : S512x1024.Idx → EReal) (ix2 e k) := by
  obtain ⟨-, -, -, -, -, -, -, -, h0, h1⟩ := index_in t
  refine congrArg (V m c main_v22) (funext fun a => Fin.ext ?_)
  match a with
  | ⟨0, _⟩ => show win0_4.index t 0 * 512 + 1 * e.val = e.val; omega
  | ⟨1, _⟩ => show win0_4.index t 1 * 1024 + 1 * k.val = k.val; omega

end Cert.Kernel2Ideal.Proj
-- ==== Proof.Proj.Ref.lean ====
/-
  The reference's projections of the prompt, index by index: entry `e` of the projection of position `s` of batch `b` is the sum
  of the position's products with column `e` of the weights.
-/
module

public import proofs.«01_k».proof.Proof.Gen.Reference2Ideal.Read
public import proofs.«01_k».proof.Proof.SbValue.Real
public import Idealize.ShloMosaic.Lib.Pointwise

@[expose] public section

set_option maxRecDepth 65536

noncomputable section

namespace Cert.Reference2Ideal.Proj

open Cert.Reference2Ideal Cert.Reference2Ideal.Read Cert.Proof.Stick
open Idealize.ShloMosaic Idealize.ShloMosaic.TcCoe

variable (x : S4x4096x1024.Idx → EReal) (w : S1x1024x4096.Idx → EReal)

/-- Entry `e` of the projection of position `s` of batch `b`. -/
def proj (b : Fin 4) (s : Fin 4096) (e : Fin 4096) : EReal := ∑ k : Fin 1024, x (ix3 b s k) * w (ix3 0 k e)

theorem v1_apply (b : Fin 4) (s e : Fin 4096) : (val_main_v1 (F := Ideal) x w : S4x4096x4096.Idx → EReal) (ix3 b s e) = proj x w b s e := by
  rw [val_main_v1_apply]
  refine Finset.sum_congr rfl fun k _ => ?_
  rw [val_main_v0_apply]
  refine congr (congrArg _ (congrArg x ?_)) (congrArg w ?_)
  all_goals
    funext a
    apply Fin.ext
    match a with
    | ⟨0, _⟩ => first | rfl | (dsimp; omega)
    | ⟨1, _⟩ => first | rfl | (dsimp; omega)
    | ⟨2, _⟩ => first | rfl | (dsimp; omega)

/-- An entry of the projection at an index of the whole array. -/
theorem v1_at (i : S4x4096x4096.Idx) : val_main_v1 (F := Ideal) x w i = proj x w ⟨(i 0).val, (i 0).isLt⟩ ⟨(i 1).val, (i 1).isLt⟩ ⟨(i 2).val, (i 2).isLt⟩ := by
  rw [← v1_apply]
  refine congrArg (val_main_v1 (F := Ideal) x w) (funext fun a => Fin.ext ?_)
  match a with
  | ⟨0, _⟩ => rfl
  | ⟨1, _⟩ => rfl
  | ⟨2, _⟩ => rfl

/-! ## The results -/

theorem v15_apply (n : Fin 16384) (d : Fin 512) : (val_main_v15 (F := Ideal) x w : S16384x512.Idx → EReal) (ix2 n d)
    = proj x w ⟨n.val / 4096, by omega⟩ ⟨n.val % 4096, by omega⟩ ⟨1536 + d.val, by omega⟩ := by
  show val_main_v14 (F := Ideal) x w (ix2 n d) = _
  rw [val_main_v14_apply, val_main_v5_apply, v1_at]
  congr 1 <;> exact Fin.ext (by have := n.isLt; have := d.isLt; dsimp; omega)

theorem v17_apply (n : Fin 16384) (d : Fin 512) : (val_main_v17 (F := Ideal) x w : S16384x512.Idx → EReal) (ix2 n d)
    = proj x w ⟨n.val / 4096, by omega⟩ ⟨n.val % 4096, by omega⟩ ⟨3584 + d.val, by omega⟩ := by
  show val_main_v16 (F := Ideal) x w (ix2 n d) = _
  rw [val_main_v16_apply, val_main_v9_apply, v1_at]
  congr 1 <;> exact Fin.ext (by have := n.isLt; have := d.isLt; dsimp; omega)

theorem v19_apply (n : Fin 16384) (d : Fin 512) : (val_main_v19 (F := Ideal) x w : S16384x512.Idx → EReal) (ix2 n d)
    = proj x w ⟨n.val / 4096, by omega⟩ ⟨n.val % 4096, by omega⟩ ⟨512 + d.val, by omega⟩ := by
  show val_main_v18 (F := Ideal) x w (ix2 n d) = _
  rw [val_main_v18_apply, val_main_v3_apply, v1_at]
  congr 1 <;> exact Fin.ext (by have := n.isLt; have := d.isLt; dsimp; omega)

theorem v21_apply (n : Fin 16384) (d : Fin 512) : (val_main_v21 (F := Ideal) x w : S16384x512.Idx → EReal) (ix2 n d)
    = proj x w ⟨n.val / 4096, by omega⟩ ⟨n.val % 4096, by omega⟩ ⟨2560 + d.val, by omega⟩ := by
  show val_main_v20 (F := Ideal) x w (ix2 n d) = _
  rw [val_main_v20_apply, val_main_v7_apply, v1_at]
  congr 1 <;> exact Fin.ext (by have := n.isLt; have := d.isLt; dsimp; omega)

theorem v23_apply (b : Fin 4) (d : Fin 512) (s : Fin 4096) : (val_main_v23 (F := Ideal) x w : S4x512x4096.Idx → EReal) (ix3 b d s)
    = proj x w b s ⟨0 + d.val, by omega⟩ := by
  rw [val_main_v23_apply, val_main_v2_apply, v1_at]
  congr 1 <;> exact Fin.ext (by have := d.isLt; dsimp; try omega)

theorem v24_apply (b : Fin 4) (d : Fin 512) (s : Fin 4096) : (val_main_v24 (F := Ideal) x w : S4x512x4096.Idx → EReal) (ix3 b d s)
    = proj x w b s ⟨2048 + d.val, by omega⟩ := by
  rw [val_main_v24_apply, val_main_v6_apply, v1_at]
  congr 1 <;> exact Fin.ext (by have := d.isLt; dsimp; try omega)

theorem v25_apply (b : Fin 4) (d : Fin 512) (s : Fin 4096) : (val_main_v25 (F := Ideal) x w : S4x512x4096.Idx → EReal) (ix3 b d s)
    = proj x w b s ⟨512 + d.val, by omega⟩ := by
  rw [val_main_v25_apply, val_main_v3_apply, v1_at]
  congr 1 <;> exact Fin.ext (by have := d.isLt; dsimp; try omega)

theorem v26_apply (b : Fin 4) (d : Fin 512) (s : Fin 4096) : (val_main_v26 (F := Ideal) x w : S4x512x4096.Idx → EReal) (ix3 b d s)
    = proj x w b s ⟨1024 + d.val, by omega⟩ := by
  rw [val_main_v26_apply, val_main_v4_apply, v1_at]
  congr 1 <;> exact Fin.ext (by have := d.isLt; dsimp; try omega)

theorem v27_apply (b : Fin 4) (d : Fin 512) (s : Fin 4096) : (val_main_v27 (F := Ideal) x w : S4x512x4096.Idx → EReal) (ix3 b d s)
    = proj x w b s ⟨2560 + d.val, by omega⟩ := by
  rw [val_main_v27_apply, val_main_v7_apply, v1_at]
  congr 1 <;> exact Fin.ext (by have := d.isLt; dsimp; try omega)

theorem v28_apply (b : Fin 4) (d : Fin 512) (s : Fin 4096) : (val_main_v28 (F := Ideal) x w : S4x512x4096.Idx → EReal) (ix3 b d s)
    = proj x w b s ⟨3072 + d.val, by omega⟩ := by
  rw [val_main_v28_apply, val_main_v8_apply, v1_at]
  congr 1 <;> exact Fin.ext (by have := d.isLt; dsimp; try omega)

/-- The means of the blocks of 256 keys, for a real prompt and real weights. -/
theorem v22_apply (xr : S4x4096x1024.Idx → ℝ) (wr : S1x1024x4096.Idx → ℝ) (hx : ∀ i, x i = ((xr i : ℝ) : EReal)) (hw : ∀ i, w i = ((wr i : ℝ) : EReal))
    (n : Fin 32) (g : Fin 2) (d : Fin 512) : (val_main_v22 (F := Ideal) x w : S32x2x512.Idx → EReal) (ix3 n g d)
    = (((∑ y : Fin 256, ∑ k : Fin 1024, xr (ix3 (⟨n.val / 8, by omega⟩ : Fin 4) (⟨512 * (n.val % 8) + 256 * g.val + y.val, by omega⟩ : Fin 4096) k)
        * wr (ix3 0 k (⟨2560 + d.val, by omega⟩ : Fin 4096))) * (1 / 256) : ℝ) : EReal) := by
  have hp : ∀ b s e, proj x w b s e = ((∑ k : Fin 1024, xr (ix3 b s k) * wr (ix3 0 k e) : ℝ) : EReal) := fun b s e => by
    unfold proj
    simp only [hx, hw, ← EReal.coe_mul, ← coe_sum]
  have hc : Ideal.ofBits .f32 0x43800000#32 = ((256 : ℝ) : EReal) := by
    simp [Ideal.ofBits, Ideal.ieee, -EReal.coe_mul]; norm_num
  have h0 : Ideal.ofBits .f32 0x00000000#32 = 0 := by simp [Ideal.ofBits, Ideal.ieee]
  rw [val_main_v22_apply, val_main_v13_apply, val_main_v11_apply, val_main_v12_apply, val_main_cst_0_apply, val_main_cst_apply]
  simp only [val_main_v10_apply, val_main_v7_apply, v1_at, hp, ← coe_sum]
  show Ideal.div (Ideal.ofBits .f32 0x00000000#32 + _) (Ideal.ofBits .f32 0x43800000#32) = _
  rw [hc, h0, zero_add, Ideal.div, if_neg (by norm_num), ← EReal.coe_inv, ← EReal.coe_mul, inv_eq_one_div]
  refine congrArg _ ?_
  refine congrArg (· * (1 / 256 : ℝ)) (Finset.sum_congr rfl fun y _ => Finset.sum_congr rfl fun k _ => congr (congrArg _ (congrArg xr ?_)) (congrArg wr ?_))
  all_goals
    have := n.isLt
    have := g.isLt
    have := d.isLt
    have := y.isLt
    congr 1 <;> exact Fin.ext (by dsimp; omega)

end Cert.Reference2Ideal.Proj
-- ==== Proof.Proj.Result.lean ====
/-
  The eleven result arrays of the prompt's projections, over the extended reals, for a finite prompt and finite weights: the
  reference's, index by index.
-/
module

public import proofs.«01_k».proof.Proof.Proj.Body
public import proofs.«01_k».proof.Proof.Proj.Laid
public import proofs.«01_k».proof.Proof.Proj.Ref

@[expose] public section

set_option maxRecDepth 65536

noncomputable section

namespace Cert.Kernel2Ideal.Proj

open Cert.Kernel2Ideal Cert.Kernel2Ideal.Gen Cert.Reference2Ideal.Proj Cert.Proof.Stick
open Cert.Reference2Ideal.Read (val_main_v15 val_main_v17 val_main_v19 val_main_v21 val_main_v22 val_main_v23 val_main_v24 val_main_v25 val_main_v26 val_main_v27 val_main_v28)
open Idealize.ShloMosaic Idealize.ShloMosaic.TcCoe

/-! ## A block and its place in the array -/

/-- Rows: block `t` holds rows `512 t …`. -/
theorem rows_block (o : S512x512.Idx → EReal) (G : S16384x512.Idx → EReal) (t : Fin grid0.N)
    (h : ∀ r d : Fin 512, o (ix2 r d) = G (ix2 (⟨512 * t.val + r.val, by have := points t; omega⟩ : Fin 16384) d)) (y : S512x512.Idx) :
    o y = G (ix2 (⟨512 * t.val + (y 0).val, by have := points t; have : (y 0).val < 512 := (y 0).isLt; omega⟩ : Fin 16384) (⟨(y 1).val, (y 1).isLt⟩ : Fin 512)) := by
  rw [← h ⟨(y 0).val, (y 0).isLt⟩]
  exact congrArg o (funext fun a => Fin.ext (match a with | ⟨0, _⟩ => rfl | ⟨1, _⟩ => rfl))

/-- Features: block `t` holds positions `512 (t % 8) …` of batch `t / 8`. -/
theorem feat_block (o : S1x512x512.Idx → EReal) (G : S4x512x4096.Idx → EReal) (t : Fin grid0.N)
    (h : ∀ d r : Fin 512, o (ix3 0 d r) = G (ix3 (⟨t.val / 8, by have := points t; omega⟩ : Fin 4) d (⟨512 * (t.val % 8) + r.val, by omega⟩ : Fin 4096)))
    (y : S1x512x512.Idx) : o y = G (ix3 (⟨t.val / 8, by have := points t; omega⟩ : Fin 4) (⟨(y 1).val, (y 1).isLt⟩ : Fin 512)
      (⟨512 * (t.val % 8) + (y 2).val, by have : (y 2).val < 512 := (y 2).isLt; omega⟩ : Fin 4096)) := by
  have hy : (y 0).val < 1 := (y 0).isLt
  rw [← h _ ⟨(y 2).val, (y 2).isLt⟩]
  exact congrArg o (funext fun a => Fin.ext (match a with | ⟨0, _⟩ => (show (y 0).val = 0 by omega) | ⟨1, _⟩ => rfl | ⟨2, _⟩ => rfl))

/-- Means: block `t` holds the two means of its own rows. -/
theorem mean_block (o : S1x2x512.Idx → EReal) (G : S32x2x512.Idx → EReal) (t : Fin grid0.N)
    (h : ∀ (g : Fin 2) (d : Fin 512), o (ix3 0 g d) = G (ix3 (⟨t.val, points t⟩ : Fin 32) g d))
    (y : S1x2x512.Idx) : o y = G (ix3 (⟨t.val, points t⟩ : Fin 32) (⟨(y 1).val, (y 1).isLt⟩ : Fin 2) (⟨(y 2).val, (y 2).isLt⟩ : Fin 512)) := by
  have hy : (y 0).val < 1 := (y 0).isLt
  rw [← h]
  exact congrArg o (funext fun a => Fin.ext (match a with | ⟨0, _⟩ => (show (y 0).val = 0 by omega) | ⟨1, _⟩ => rfl | ⟨2, _⟩ => rfl))

/-! ## Every index lies in a block -/

theorem rows_cover (i : S16384x512.Idx) : ∃ t : Fin grid0.N, ∀ p : Fin 2 → ℕ, p 0 = t.val → p 1 = 0 →
    ∀ a : Fin 2, p a * S512x512.size a ≤ (i a).val ∧ (i a).val < p a * S512x512.size a + S512x512.size a := by
  have h0 : (i 0).val < 16384 := (i 0).isLt
  have h1 : (i 1).val < 512 := (i 1).isLt
  refine ⟨⟨(i 0).val / 512, lt_of_lt_of_eq (show (i 0).val / 512 < 32 by omega) (by decide)⟩, fun p e0 e1 a => ?_⟩
  have e0' : p 0 = (i 0).val / 512 := e0
  match a with
  | ⟨0, _⟩ => show p 0 * 512 ≤ (i 0).val ∧ (i 0).val < p 0 * 512 + 512; omega
  | ⟨1, _⟩ => show p 1 * 512 ≤ (i 1).val ∧ (i 1).val < p 1 * 512 + 512; omega

theorem feat_cover (i : S4x512x4096.Idx) : ∃ t : Fin grid0.N, ∀ p : Fin 3 → ℕ, p 0 = t.val / 8 → p 1 = 0 → p 2 = t.val % 8 →
    ∀ a : Fin 3, p a * S1x512x512.size a ≤ (i a).val ∧ (i a).val < p a * S1x512x512.size a + S1x512x512.size a := by
  have h0 : (i 0).val < 4 := (i 0).isLt
  have h1 : (i 1).val < 512 := (i 1).isLt
  have h2 : (i 2).val < 4096 := (i 2).isLt
  refine ⟨⟨8 * (i 0).val + (i 2).val / 512, lt_of_lt_of_eq (show 8 * (i 0).val + (i 2).val / 512 < 32 by omega) (by decide)⟩, fun p e0 e1 e2 a => ?_⟩
  have e0' : p 0 = (8 * (i 0).val + (i 2).val / 512) / 8 := e0
  have e2' : p 2 = (8 * (i 0).val + (i 2).val / 512) % 8 := e2
  match a with
  | ⟨0, _⟩ => show p 0 * 1 ≤ (i 0).val ∧ (i 0).val < p 0 * 1 + 1; omega
  | ⟨1, _⟩ => show p 1 * 512 ≤ (i 1).val ∧ (i 1).val < p 1 * 512 + 512; omega
  | ⟨2, _⟩ => show p 2 * 512 ≤ (i 2).val ∧ (i 2).val < p 2 * 512 + 512; omega

theorem mean_cover (i : S32x2x512.Idx) : ∃ t : Fin grid0.N, ∀ p : Fin 3 → ℕ, p 0 = t.val → p 1 = 0 → p 2 = 0 →
    ∀ a : Fin 3, p a * S1x2x512.size a ≤ (i a).val ∧ (i a).val < p a * S1x2x512.size a + S1x2x512.size a := by
  have h0 : (i 0).val < 32 := (i 0).isLt
  have h1 : (i 1).val < 2 := (i 1).isLt
  have h2 : (i 2).val < 512 := (i 2).isLt
  refine ⟨⟨(i 0).val, lt_of_lt_of_eq h0 (by decide)⟩, fun p e0 e1 e2 a => ?_⟩
  have e0' : p 0 = (i 0).val := e0
  match a with
  | ⟨0, _⟩ => show p 0 * 1 ≤ (i 0).val ∧ (i 0).val < p 0 * 1 + 1; omega
  | ⟨1, _⟩ => show p 1 * 2 ≤ (i 1).val ∧ (i 1).val < p 1 * 2 + 2; omega
  | ⟨2, _⟩ => show p 2 * 512 ≤ (i 2).val ∧ (i 2).val < p 2 * 512 + 512; omega

/-- Where each result window's block stands at point `t`. -/
theorem index_rows : ∀ t : Fin grid0.N, win0_5.index t 0 = t.val ∧ win0_5.index t 1 = 0 ∧ win0_6.index t 0 = t.val ∧ win0_6.index t 1 = 0
    ∧ win0_7.index t 0 = t.val ∧ win0_7.index t 1 = 0 ∧ win0_8.index t 0 = t.val ∧ win0_8.index t 1 = 0 := by decide +kernel
theorem index_mean : ∀ t : Fin grid0.N, win0_9.index t 0 = t.val ∧ win0_9.index t 1 = 0 ∧ win0_9.index t 2 = 0 := by decide +kernel
theorem index_featQ : ∀ t : Fin grid0.N, win0_10.index t 0 = t.val / 8 ∧ win0_10.index t 1 = 0 ∧ win0_10.index t 2 = t.val % 8
    ∧ win0_11.index t 0 = t.val / 8 ∧ win0_11.index t 1 = 0 ∧ win0_11.index t 2 = t.val % 8 := by decide +kernel
theorem index_featA : ∀ t : Fin grid0.N, win0_12.index t 0 = t.val / 8 ∧ win0_12.index t 1 = 0 ∧ win0_12.index t 2 = t.val % 8
    ∧ win0_13.index t 0 = t.val / 8 ∧ win0_13.index t 1 = 0 ∧ win0_13.index t 2 = t.val % 8 := by decide +kernel
theorem index_featB : ∀ t : Fin grid0.N, win0_14.index t 0 = t.val / 8 ∧ win0_14.index t 1 = 0 ∧ win0_14.index t 2 = t.val % 8
    ∧ win0_15.index t 0 = t.val / 8 ∧ win0_15.index t 1 = 0 ∧ win0_15.index t 2 = t.val % 8 := by decide +kernel

variable (m : (ℓ : Loc nD τ sig) → Buf (Elt Ideal) ℓ) (c : Dev nD)

/-! ## A block's sums are the reference's -/

/-- Columns of the weights laid out for rows. -/
theorem rows_sum (t : Fin grid0.N) (o e : ℕ) (ho : o + 512 ≤ 2048) (he : e + 512 ≤ 4096)
    (hl : ∀ (k : Fin 1024) (d : Fin 512), (V m c main_v11 : S1024x2048.Idx → EReal) (ix2 k ⟨o + d.val, by omega⟩) = argW m c (ix3 0 k (⟨e + d.val, by omega⟩ : Fin 4096)))
    (r d : Fin 512) (b : Fin 4) (s f : Fin 4096) (hb : b.val = t.val / 8) (hs : s.val = 512 * (t.val % 8) + r.val) (hf : f.val = e + d.val) :
    ∑ k : Fin 1024, blkX m c t (ix2 r k) * blkRow m c t (ix2 k ⟨o + d.val, by omega⟩)
    = proj (argX m c) (argW m c) b s f := by
  have ht := points t
  have hb' : (⟨t.val / 8, by omega⟩ : Fin 4) = b := Fin.ext hb.symm
  have hs' : (⟨512 * (t.val % 8) + r.val, by omega⟩ : Fin 4096) = s := Fin.ext hs.symm
  have hf' : (⟨e + d.val, by omega⟩ : Fin 4096) = f := Fin.ext hf.symm
  exact Finset.sum_congr rfl fun k _ => by rw [blkX_apply, blkRow_apply, hl, hb', hs', hf']

/-- Rows of the transposed weights. -/
theorem feat_sum (t : Fin grid0.N) (o e : ℕ) (ho : o + 512 ≤ 3072) (he : e + 512 ≤ 4096)
    (hl : ∀ (d : Fin 512) (k : Fin 1024), (V m c main_v20 : S3072x1024.Idx → EReal) (ix2 ⟨o + d.val, by omega⟩ k) = argW m c (ix3 0 k (⟨e + d.val, by omega⟩ : Fin 4096)))
    (r d : Fin 512) (b : Fin 4) (s f : Fin 4096) (hb : b.val = t.val / 8) (hs : s.val = 512 * (t.val % 8) + r.val) (hf : f.val = e + d.val) :
    ∑ k : Fin 1024, blkFeat m c t (ix2 ⟨o + d.val, by omega⟩ k) * blkX m c t (ix2 r k)
    = proj (argX m c) (argW m c) b s f := by
  have ht := points t
  have hb' : (⟨t.val / 8, by omega⟩ : Fin 4) = b := Fin.ext hb.symm
  have hs' : (⟨512 * (t.val % 8) + r.val, by omega⟩ : Fin 4096) = s := Fin.ext hs.symm
  have hf' : (⟨e + d.val, by omega⟩ : Fin 4096) = f := Fin.ext hf.symm
  exact Finset.sum_congr rfl fun k _ => by rw [blkX_apply, blkFeat_apply, hl, hb', hs', hf', mul_comm]

/-! ## What each result array holds -/

abbrev res0 : Buf (Elt Ideal) ((c : Thread nD τ).loc main_v24_0) := val_main_v15 (F := Ideal) (argX m c) (argW m c)
abbrev res1 : Buf (Elt Ideal) ((c : Thread nD τ).loc main_v24_1) := val_main_v17 (F := Ideal) (argX m c) (argW m c)
abbrev res2 : Buf (Elt Ideal) ((c : Thread nD τ).loc main_v24_2) := val_main_v19 (F := Ideal) (argX m c) (argW m c)
abbrev res3 : Buf (Elt Ideal) ((c : Thread nD τ).loc main_v24_3) := val_main_v21 (F := Ideal) (argX m c) (argW m c)
abbrev res4 : Buf (Elt Ideal) ((c : Thread nD τ).loc main_v24_4) := val_main_v22 (F := Ideal) (argX m c) (argW m c)
abbrev res5 : Buf (Elt Ideal) ((c : Thread nD τ).loc main_v24_5) := val_main_v23 (F := Ideal) (argX m c) (argW m c)
abbrev res6 : Buf (Elt Ideal) ((c : Thread nD τ).loc main_v24_6) := val_main_v24 (F := Ideal) (argX m c) (argW m c)
abbrev res7 : Buf (Elt Ideal) ((c : Thread nD τ).loc main_v24_7) := val_main_v25 (F := Ideal) (argX m c) (argW m c)
abbrev res8 : Buf (Elt Ideal) ((c : Thread nD τ).loc main_v24_8) := val_main_v26 (F := Ideal) (argX m c) (argW m c)
abbrev res9 : Buf (Elt Ideal) ((c : Thread nD τ).loc main_v24_9) := val_main_v27 (F := Ideal) (argX m c) (argW m c)
abbrev res10 : Buf (Elt Ideal) ((c : Thread nD τ).loc main_v24_10) := val_main_v28 (F := Ideal) (argX m c) (argW m c)

theorem final5 : (dats m 0 c).arrAt 5 cfg0.N = res0 m c := by
  refine (dats m 0 c).arrAt_eq_of_cover 5 (res0 m c) (fun t _ => ?_) (fun i => ?_)
  · obtain ⟨h0, h1, -⟩ := index_rows t
    rw [Value.flushed5]
    show (win0_5).cut (grid0.coords t) (out0_5 (F := Ideal) (blkX m c t) (blkRow m c t) (blkLow m c t) (blkFeat m c t) (blkLowT m c t)) = (win0_5.blk t).view.read (Elt Ideal) (res0 m c)
    funext y
    refine Eq.trans (b := (out0_5 (F := Ideal) (blkX m c t) (blkRow m c t) (blkLow m c t) (blkFeat m c t) (blkLowT m c t) : S512x512.Idx → EReal) y) ?_ ?_
    · rfl
    refine (rows_block (out0_5 (F := Ideal) (blkX m c t) (blkRow m c t) (blkLow m c t) (blkFeat m c t) (blkLowT m c t)) (res0 m c) t (fun r d => ?_) y).trans ?_
    · rw [out5_apply]
      unfold res0
      rw [v15_apply]
      exact rows_sum m c t 0 1536 (by omega) (by omega) (laidRow0 m c) r d _ _ _ (by dsimp only; omega) (by dsimp only; omega) rfl
    · refine congrArg (res0 m c) (funext fun a => Fin.ext ?_)
      match a with
      | ⟨0, _⟩ => show 512 * t.val + (y 0).val = win0_5.index t 0 * 512 + 1 * (y 0).val; omega
      | ⟨1, _⟩ => show (y 1).val = win0_5.index t 1 * 512 + 1 * (y 1).val; omega
  · obtain ⟨t, h⟩ := rows_cover i
    obtain ⟨h0, h1, -⟩ := index_rows t
    refine ⟨t, flush0_5 t, ?_⟩
    show i ∈ ((View.whole main_v24_0).slice (win0_5.rect t)).set
    rw [View.set_slice_whole, Rect.mem_set_unit]
    exact h (win0_5.index t) h0 h1

theorem final6 : (dats m 0 c).arrAt 6 cfg0.N = res1 m c := by
  refine (dats m 0 c).arrAt_eq_of_cover 6 (res1 m c) (fun t _ => ?_) (fun i => ?_)
  · obtain ⟨-, -, h0, h1, -⟩ := index_rows t
    rw [Value.flushed6]
    show (win0_6).cut (grid0.coords t) (out0_6 (F := Ideal) (blkX m c t) (blkRow m c t) (blkLow m c t) (blkFeat m c t) (blkLowT m c t)) = (win0_6.blk t).view.read (Elt Ideal) (res1 m c)
    funext y
    refine Eq.trans (b := (out0_6 (F := Ideal) (blkX m c t) (blkRow m c t) (blkLow m c t) (blkFeat m c t) (blkLowT m c t) : S512x512.Idx → EReal) y) ?_ ?_
    · rfl
    refine (rows_block (out0_6 (F := Ideal) (blkX m c t) (blkRow m c t) (blkLow m c t) (blkFeat m c t) (blkLowT m c t)) (res1 m c) t (fun r d => ?_) y).trans ?_
    · rw [out6_apply]
      unfold res1
      rw [v17_apply]
      exact rows_sum m c t 512 3584 (by omega) (by omega) (laidRow512 m c) r d _ _ _ (by dsimp only; omega) (by dsimp only; omega) rfl
    · refine congrArg (res1 m c) (funext fun a => Fin.ext ?_)
      match a with
      | ⟨0, _⟩ => show 512 * t.val + (y 0).val = win0_6.index t 0 * 512 + 1 * (y 0).val; omega
      | ⟨1, _⟩ => show (y 1).val = win0_6.index t 1 * 512 + 1 * (y 1).val; omega
  · obtain ⟨t, h⟩ := rows_cover i
    obtain ⟨-, -, h0, h1, -⟩ := index_rows t
    refine ⟨t, flush0_6 t, ?_⟩
    show i ∈ ((View.whole main_v24_1).slice (win0_6.rect t)).set
    rw [View.set_slice_whole, Rect.mem_set_unit]
    exact h (win0_6.index t) h0 h1

theorem final7 : (dats m 0 c).arrAt 7 cfg0.N = res2 m c := by
  refine (dats m 0 c).arrAt_eq_of_cover 7 (res2 m c) (fun t _ => ?_) (fun i => ?_)
  · obtain ⟨-, -, -, -, h0, h1, -⟩ := index_rows t
    rw [Value.flushed7]
    show (win0_7).cut (grid0.coords t) (out0_7 (F := Ideal) (blkX m c t) (blkRow m c t) (blkLow m c t) (blkFeat m c t) (blkLowT m c t)) = (win0_7.blk t).view.read (Elt Ideal) (res2 m c)
    funext y
    refine Eq.trans (b := (out0_7 (F := Ideal) (blkX m c t) (blkRow m c t) (blkLow m c t) (blkFeat m c t) (blkLowT m c t) : S512x512.Idx → EReal) y) ?_ ?_
    · rfl
    refine (rows_block (out0_7 (F := Ideal) (blkX m c t) (blkRow m c t) (blkLow m c t) (blkFeat m c t) (blkLowT m c t)) (res2 m c) t (fun r d => ?_) y).trans ?_
    · rw [out7_apply]
      unfold res2
      rw [v19_apply]
      exact feat_sum m c t 1024 512 (by omega) (by omega) (laidFeat1024 m c) r d _ _ _ (by dsimp only; omega) (by dsimp only; omega) rfl
    · refine congrArg (res2 m c) (funext fun a => Fin.ext ?_)
      match a with
      | ⟨0, _⟩ => show 512 * t.val + (y 0).val = win0_7.index t 0 * 512 + 1 * (y 0).val; omega
      | ⟨1, _⟩ => show (y 1).val = win0_7.index t 1 * 512 + 1 * (y 1).val; omega
  · obtain ⟨t, h⟩ := rows_cover i
    obtain ⟨-, -, -, -, h0, h1, -⟩ := index_rows t
    refine ⟨t, flush0_7 t, ?_⟩
    show i ∈ ((View.whole main_v24_2).slice (win0_7.rect t)).set
    rw [View.set_slice_whole, Rect.mem_set_unit]
    exact h (win0_7.index t) h0 h1

theorem final8 : (dats m 0 c).arrAt 8 cfg0.N = res3 m c := by
  refine (dats m 0 c).arrAt_eq_of_cover 8 (res3 m c) (fun t _ => ?_) (fun i => ?_)
  · obtain ⟨-, -, -, -, -, -, h0, h1⟩ := index_rows t
    rw [Value.flushed8]
    show (win0_8).cut (grid0.coords t) (out0_8 (F := Ideal) (blkX m c t) (blkRow m c t) (blkLow m c t) (blkFeat m c t) (blkLowT m c t)) = (win0_8.blk t).view.read (Elt Ideal) (res3 m c)
    funext y
    refine Eq.trans (b := (out0_8 (F := Ideal) (blkX m c t) (blkRow m c t) (blkLow m c t) (blkFeat m c t) (blkLowT m c t) : S512x512.Idx → EReal) y) ?_ ?_
    · rfl
    refine (rows_block (out0_8 (F := Ideal) (blkX m c t) (blkRow m c t) (blkLow m c t) (blkFeat m c t) (blkLowT m c t)) (res3 m c) t (fun r d => ?_) y).trans ?_
    · rw [out8_apply]
      unfold res3
      rw [v21_apply]
      exact feat_sum m c t 2048 2560 (by omega) (by omega) (laidFeat2048 m c) r d _ _ _ (by dsimp only; omega) (by dsimp only; omega) rfl
    · refine congrArg (res3 m c) (funext fun a => Fin.ext ?_)
      match a with
      | ⟨0, _⟩ => show 512 * t.val + (y 0).val = win0_8.index t 0 * 512 + 1 * (y 0).val; omega
      | ⟨1, _⟩ => show (y 1).val = win0_8.index t 1 * 512 + 1 * (y 1).val; omega
  · obtain ⟨t, h⟩ := rows_cover i
    obtain ⟨-, -, -, -, -, -, h0, h1⟩ := index_rows t
    refine ⟨t, flush0_8 t, ?_⟩
    show i ∈ ((View.whole main_v24_3).slice (win0_8.rect t)).set
    rw [View.set_slice_whole, Rect.mem_set_unit]
    exact h (win0_8.index t) h0 h1

theorem final10 : (dats m 0 c).arrAt 10 cfg0.N = res5 m c := by
  refine (dats m 0 c).arrAt_eq_of_cover 10 (res5 m c) (fun t _ => ?_) (fun i => ?_)
  · obtain ⟨h0, h1, h2, -⟩ := index_featQ t
    rw [Value.flushed10]
    show (win0_10).cut (grid0.coords t) (out0_10 (F := Ideal) (blkX m c t) (blkRow m c t) (blkLow m c t) (blkFeat m c t) (blkLowT m c t)) = (win0_10.blk t).view.read (Elt Ideal) (res5 m c)
    funext y
    refine Eq.trans (b := (out0_10 (F := Ideal) (blkX m c t) (blkRow m c t) (blkLow m c t) (blkFeat m c t) (blkLowT m c t) : S1x512x512.Idx → EReal) y) ?_ ?_
    · rfl
    refine (feat_block (out0_10 (F := Ideal) (blkX m c t) (blkRow m c t) (blkLow m c t) (blkFeat m c t) (blkLowT m c t)) (res5 m c) t (fun d r => ?_) y).trans ?_
    · rw [out10_apply]
      unfold res5
      rw [v23_apply]
      exact feat_sum m c t 0 0 (by omega) (by omega) (laidFeat0 m c) r d _ _ _ rfl rfl rfl
    · have hy : (y 0).val < 1 := (y 0).isLt
      refine congrArg (res5 m c) (funext fun a => Fin.ext ?_)
      match a with
      | ⟨0, _⟩ => show t.val / 8 = win0_10.index t 0 * 1 + 1 * (y 0).val; omega
      | ⟨1, _⟩ => show (y 1).val = win0_10.index t 1 * 512 + 1 * (y 1).val; omega
      | ⟨2, _⟩ => show 512 * (t.val % 8) + (y 2).val = win0_10.index t 2 * 512 + 1 * (y 2).val; omega
  · obtain ⟨t, h⟩ := feat_cover i
    obtain ⟨h0, h1, h2, -⟩ := index_featQ t
    refine ⟨t, flush0_10 t, ?_⟩
    show i ∈ ((View.whole main_v24_5).slice (win0_10.rect t)).set
    rw [View.set_slice_whole, Rect.mem_set_unit]
    exact h (win0_10.index t) h0 h1 h2

theorem final12 : (dats m 0 c).arrAt 12 cfg0.N = res7 m c := by
  refine (dats m 0 c).arrAt_eq_of_cover 12 (res7 m c) (fun t _ => ?_) (fun i => ?_)
  · obtain ⟨h0, h1, h2, -⟩ := index_featA t
    rw [Value.flushed12]
    show (win0_12).cut (grid0.coords t) (out0_12 (F := Ideal) (blkX m c t) (blkRow m c t) (blkLow m c t) (blkFeat m c t) (blkLowT m c t)) = (win0_12.blk t).view.read (Elt Ideal) (res7 m c)
    funext y
    refine Eq.trans (b := (out0_12 (F := Ideal) (blkX m c t) (blkRow m c t) (blkLow m c t) (blkFeat m c t) (blkLowT m c t) : S1x512x512.Idx → EReal) y) ?_ ?_
    · rfl
    refine (feat_block (out0_12 (F := Ideal) (blkX m c t) (blkRow m c t) (blkLow m c t) (blkFeat m c t) (blkLowT m c t)) (res7 m c) t (fun d r => ?_) y).trans ?_
    · rw [out12_apply]
      unfold res7
      rw [v25_apply]
      exact feat_sum m c t 1024 512 (by omega) (by omega) (laidFeat1024 m c) r d _ _ _ rfl rfl rfl
    · have hy : (y 0).val < 1 := (y 0).isLt
      refine congrArg (res7 m c) (funext fun a => Fin.ext ?_)
      match a with
      | ⟨0, _⟩ => show t.val / 8 = win0_12.index t 0 * 1 + 1 * (y 0).val; omega
      | ⟨1, _⟩ => show (y 1).val = win0_12.index t 1 * 512 + 1 * (y 1).val; omega
      | ⟨2, _⟩ => show 512 * (t.val % 8) + (y 2).val = win0_12.index t 2 * 512 + 1 * (y 2).val; omega
  · obtain ⟨t, h⟩ := feat_cover i
    obtain ⟨h0, h1, h2, -⟩ := index_featA t
    refine ⟨t, flush0_12 t, ?_⟩
    show i ∈ ((View.whole main_v24_7).slice (win0_12.rect t)).set
    rw [View.set_slice_whole, Rect.mem_set_unit]
    exact h (win0_12.index t) h0 h1 h2

theorem final13 : (dats m 0 c).arrAt 13 cfg0.N = res8 m c := by
  refine (dats m 0 c).arrAt_eq_of_cover 13 (res8 m c) (fun t _ => ?_) (fun i => ?_)
  · obtain ⟨-, -, -, h0, h1, h2⟩ := index_featA t
    rw [Value.flushed13]
    show (win0_13).cut (grid0.coords t) (out0_13 (F := Ideal) (blkX m c t) (blkRow m c t) (blkLow m c t) (blkFeat m c t) (blkLowT m c t)) = (win0_13.blk t).view.read (Elt Ideal) (res8 m c)
    funext y
    refine Eq.trans (b := (out0_13 (F := Ideal) (blkX m c t) (blkRow m c t) (blkLow m c t) (blkFeat m c t) (blkLowT m c t) : S1x512x512.Idx → EReal) y) ?_ ?_
    · rfl
    refine (feat_block (out0_13 (F := Ideal) (blkX m c t) (blkRow m c t) (blkLow m c t) (blkFeat m c t) (blkLowT m c t)) (res8 m c) t (fun d r => ?_) y).trans ?_
    · rw [out13_apply]
      unfold res8
      rw [v26_apply]
      exact feat_sum m c t 1536 1024 (by omega) (by omega) (laidFeat1536 m c) r d _ _ _ rfl rfl rfl
    · have hy : (y 0).val < 1 := (y 0).isLt
      refine congrArg (res8 m c) (funext fun a => Fin.ext ?_)
      match a with
      | ⟨0, _⟩ => show t.val / 8 = win0_13.index t 0 * 1 + 1 * (y 0).val; omega
      | ⟨1, _⟩ => show (y 1).val = win0_13.index t 1 * 512 + 1 * (y 1).val; omega
      | ⟨2, _⟩ => show 512 * (t.val % 8) + (y 2).val = win0_13.index t 2 * 512 + 1 * (y 2).val; omega
  · obtain ⟨t, h⟩ := feat_cover i
    obtain ⟨-, -, -, h0, h1, h2⟩ := index_featA t
    refine ⟨t, flush0_13 t, ?_⟩
    show i ∈ ((View.whole main_v24_8).slice (win0_13.rect t)).set
    rw [View.set_slice_whole, Rect.mem_set_unit]
    exact h (win0_13.index t) h0 h1 h2

theorem final14 : (dats m 0 c).arrAt 14 cfg0.N = res9 m c := by
  refine (dats m 0 c).arrAt_eq_of_cover 14 (res9 m c) (fun t _ => ?_) (fun i => ?_)
  · obtain ⟨h0, h1, h2, -⟩ := index_featB t
    rw [Value.flushed14]
    show (win0_14).cut (grid0.coords t) (out0_14 (F := Ideal) (blkX m c t) (blkRow m c t) (blkLow m c t) (blkFeat m c t) (blkLowT m c t)) = (win0_14.blk t).view.read (Elt Ideal) (res9 m c)
    funext y
    refine Eq.trans (b := (out0_14 (F := Ideal) (blkX m c t) (blkRow m c t) (blkLow m c t) (blkFeat m c t) (blkLowT m c t) : S1x512x512.Idx → EReal) y) ?_ ?_
    · rfl
    refine (feat_block (out0_14 (F := Ideal) (blkX m c t) (blkRow m c t) (blkLow m c t) (blkFeat m c t) (blkLowT m c t)) (res9 m c) t (fun d r => ?_) y).trans ?_
    · rw [out14_apply]
      unfold res9
      rw [v27_apply]
      exact feat_sum m c t 2048 2560 (by omega) (by omega) (laidFeat2048 m c) r d _ _ _ rfl rfl rfl
    · have hy : (y 0).val < 1 := (y 0).isLt
      refine congrArg (res9 m c) (funext fun a => Fin.ext ?_)
      match a with
      | ⟨0, _⟩ => show t.val / 8 = win0_14.index t 0 * 1 + 1 * (y 0).val; omega
      | ⟨1, _⟩ => show (y 1).val = win0_14.index t 1 * 512 + 1 * (y 1).val; omega
      | ⟨2, _⟩ => show 512 * (t.val % 8) + (y 2).val = win0_14.index t 2 * 512 + 1 * (y 2).val; omega
  · obtain ⟨t, h⟩ := feat_cover i
    obtain ⟨h0, h1, h2, -⟩ := index_featB t
    refine ⟨t, flush0_14 t, ?_⟩
    show i ∈ ((View.whole main_v24_9).slice (win0_14.rect t)).set
    rw [View.set_slice_whole, Rect.mem_set_unit]
    exact h (win0_14.index t) h0 h1 h2

theorem final15 : (dats m 0 c).arrAt 15 cfg0.N = res10 m c := by
  refine (dats m 0 c).arrAt_eq_of_cover 15 (res10 m c) (fun t _ => ?_) (fun i => ?_)
  · obtain ⟨-, -, -, h0, h1, h2⟩ := index_featB t
    rw [Value.flushed15]
    show (win0_15).cut (grid0.coords t) (out0_15 (F := Ideal) (blkX m c t) (blkRow m c t) (blkLow m c t) (blkFeat m c t) (blkLowT m c t)) = (win0_15.blk t).view.read (Elt Ideal) (res10 m c)
    funext y
    refine Eq.trans (b := (out0_15 (F := Ideal) (blkX m c t) (blkRow m c t) (blkLow m c t) (blkFeat m c t) (blkLowT m c t) : S1x512x512.Idx → EReal) y) ?_ ?_
    · rfl
    refine (feat_block (out0_15 (F := Ideal) (blkX m c t) (blkRow m c t) (blkLow m c t) (blkFeat m c t) (blkLowT m c t)) (res10 m c) t (fun d r => ?_) y).trans ?_
    · rw [out15_apply]
      unfold res10
      rw [v28_apply]
      exact feat_sum m c t 2560 3072 (by omega) (by omega) (laidFeat2560 m c) r d _ _ _ rfl rfl rfl
    · have hy : (y 0).val < 1 := (y 0).isLt
      refine congrArg (res10 m c) (funext fun a => Fin.ext ?_)
      match a with
      | ⟨0, _⟩ => show t.val / 8 = win0_15.index t 0 * 1 + 1 * (y 0).val; omega
      | ⟨1, _⟩ => show (y 1).val = win0_15.index t 1 * 512 + 1 * (y 1).val; omega
      | ⟨2, _⟩ => show 512 * (t.val % 8) + (y 2).val = win0_15.index t 2 * 512 + 1 * (y 2).val; omega
  · obtain ⟨t, h⟩ := feat_cover i
    obtain ⟨-, -, -, h0, h1, h2⟩ := index_featB t
    refine ⟨t, flush0_15 t, ?_⟩
    show i ∈ ((View.whole main_v24_10).slice (win0_15.rect t)).set
    rw [View.set_slice_whole, Rect.mem_set_unit]
    exact h (win0_15.index t) h0 h1 h2

/-! ## The results that need a finite prompt and finite weights -/

/-- A real number less itself. -/
theorem sub_real (x : EReal) (a : ℝ) (h : x = ((a : ℝ) : EReal)) : x - x = 0 := by
  rw [h, ← EReal.coe_sub, sub_self, EReal.coe_zero]

section Finite
variable (xr : S4x4096x1024.Idx → ℝ) (wr : S1x1024x4096.Idx → ℝ) (hx : ∀ i, argX m c i = ((xr i : ℝ) : EReal)) (hw : ∀ i, argW m c i = ((wr i : ℝ) : EReal))
include hx hw

theorem final11 : (dats m 0 c).arrAt 11 cfg0.N = res6 m c := by
  refine (dats m 0 c).arrAt_eq_of_cover 11 (res6 m c) (fun t _ => ?_) (fun i => ?_)
  · obtain ⟨-, -, -, h0, h1, h2⟩ := index_featQ t
    rw [Value.flushed11]
    show (win0_11).cut (grid0.coords t) (out0_11 (F := Ideal) (blkX m c t) (blkRow m c t) (blkLow m c t) (blkFeat m c t) (blkLowT m c t)) = (win0_11.blk t).view.read (Elt Ideal) (res6 m c)
    funext y
    refine Eq.trans (b := (out0_11 (F := Ideal) (blkX m c t) (blkRow m c t) (blkLow m c t) (blkFeat m c t) (blkLowT m c t) : S1x512x512.Idx → EReal) y) ?_ ?_
    · rfl
    refine (feat_block (out0_11 (F := Ideal) (blkX m c t) (blkRow m c t) (blkLow m c t) (blkFeat m c t) (blkLowT m c t)) (res6 m c) t (fun d r => ?_) y).trans ?_
    · rw [out11_apply _ _ _ _ _ (fun r k => ⟨_, (blkX_apply m c t r k).trans (hx _)⟩) (fun d k => (blkLowT_apply m c t d k).trans ((laidLowT m c d k).trans (sub_real _ _ (hw _))))]
      unfold res6
      rw [v24_apply]
      exact feat_sum m c t 512 2048 (by omega) (by omega) (laidFeat512 m c) r d _ _ _ rfl rfl rfl
    · have hy : (y 0).val < 1 := (y 0).isLt
      refine congrArg (res6 m c) (funext fun a => Fin.ext ?_)
      match a with
      | ⟨0, _⟩ => show t.val / 8 = win0_11.index t 0 * 1 + 1 * (y 0).val; omega
      | ⟨1, _⟩ => show (y 1).val = win0_11.index t 1 * 512 + 1 * (y 1).val; omega
      | ⟨2, _⟩ => show 512 * (t.val % 8) + (y 2).val = win0_11.index t 2 * 512 + 1 * (y 2).val; omega
  · obtain ⟨t, h⟩ := feat_cover i
    obtain ⟨-, -, -, h0, h1, h2⟩ := index_featQ t
    refine ⟨t, flush0_11 t, ?_⟩
    show i ∈ ((View.whole main_v24_6).slice (win0_11.rect t)).set
    rw [View.set_slice_whole, Rect.mem_set_unit]
    exact h (win0_11.index t) h0 h1 h2

theorem final9 : (dats m 0 c).arrAt 9 cfg0.N = res4 m c := by
  refine (dats m 0 c).arrAt_eq_of_cover 9 (res4 m c) (fun t _ => ?_) (fun i => ?_)
  · obtain ⟨h0, h1, h2⟩ := index_mean t
    rw [Value.flushed9]
    show (win0_9).cut (grid0.coords t) (out0_9 (F := Ideal) (blkX m c t) (blkRow m c t) (blkLow m c t) (blkFeat m c t) (blkLowT m c t)) = (win0_9.blk t).view.read (Elt Ideal) (res4 m c)
    funext y
    refine Eq.trans (b := (out0_9 (F := Ideal) (blkX m c t) (blkRow m c t) (blkLow m c t) (blkFeat m c t) (blkLowT m c t) : S1x2x512.Idx → EReal) y) ?_ ?_
    · rfl
    refine (mean_block (out0_9 (F := Ideal) (blkX m c t) (blkRow m c t) (blkLow m c t) (blkFeat m c t) (blkLowT m c t)) (res4 m c) t (fun g d => ?_) y).trans ?_
    · have ht := points t
      rw [out9_apply (blkX m c t) (blkRow m c t) (blkLow m c t) (blkFeat m c t) (blkLowT m c t) (fun r k => xr (ix3 (⟨t.val / 8, by omega⟩ : Fin 4) (⟨512 * (t.val % 8) + r.val, by omega⟩ : Fin 4096) k))
        (fun k d => wr (ix3 0 k (⟨2560 + d.val, by omega⟩ : Fin 4096))) (fun r k => (blkX_apply m c t r k).trans (hx _))
        (fun k d => (blkRow_apply m c t k _).trans ((laidRow1536 m c k d).trans (hw _)))
        (fun k d => (blkLow_apply m c t k d).trans ((laidLow m c k d).trans (sub_real _ _ (hw _))))]
      unfold res4
      rw [v22_apply _ _ xr wr hx hw]
      refine congrArg _ ?_
      rw [Finset.sum_comm, Finset.sum_mul]
      refine Finset.sum_congr rfl fun k _ => ?_
      rw [Finset.sum_mul, Finset.sum_mul, Finset.sum_mul]
      refine Finset.sum_congr rfl fun z _ => ?_
      rw [mul_right_comm]
      simp only [Nat.add_assoc]
    · have hy : (y 0).val < 1 := (y 0).isLt
      refine congrArg (res4 m c) (funext fun a => Fin.ext ?_)
      match a with
      | ⟨0, _⟩ => show t.val = win0_9.index t 0 * 1 + 1 * (y 0).val; omega
      | ⟨1, _⟩ => show (y 1).val = win0_9.index t 1 * 2 + 1 * (y 1).val; omega
      | ⟨2, _⟩ => show (y 2).val = win0_9.index t 2 * 512 + 1 * (y 2).val; omega
  · obtain ⟨t, h⟩ := mean_cover i
    obtain ⟨h0, h1, h2⟩ := index_mean t
    refine ⟨t, flush0_9 t, ?_⟩
    show i ∈ ((View.whole main_v24_4).slice (win0_9.rect t)).set
    rw [View.set_slice_whole, Rect.mem_set_unit]
    exact h (win0_9.index t) h0 h1 h2

end Finite

end Cert.Kernel2Ideal.Proj
-- ==== Proof.Proj.Claim.lean ====
/-
  The value claim of the prompt's projection: for a finite prompt and finite weights the idealized kernel and the reference end
  with the same eleven arrays.
-/
module

public import proofs.«01_k».proof.Defs
public import proofs.«01_k».proof.Proof.Proj.Result
public import proofs.«01_k».proof.Proof.Gen.Reference2Ideal
public import proofs.«01_k».proof.Proof.Gen.Reference2Ideal.Run
public import proofs.«01_k».proof.Proof.SbValue.Claim
public import proofs.«01_k».proof.Proof.Gen.Pre_finite2
public import Idealize.ShloMosaic.Lib.ReduceAll

@[expose] public section

set_option maxRecDepth 65536

noncomputable section

namespace Cert.Proof

open Idealize.ShloMosaic Idealize.ShloMosaic.TcCoe Idealize.SL.Sem

section Prompt

open Cert.Kernel2Ideal Cert.Kernel2Ideal.Gen Cert.Kernel2Ideal.Proj

/-- What the precondition says: every entry of the prompt and every weight is real. -/
theorem finite2_iff (m : (ℓ : Loc nD τ sig) → Buf (Elt Ideal) ℓ) (h : Cert.Pre_Kernel2Ideal_finite2 (hPre_finite2 := Cert.Pre_finite2.Gen.facts) m) (c : Dev nD) :
    (∀ i, argX m c i = (((argX m c i).toReal : ℝ) : EReal)) ∧ (∀ i, argW m c i = (((argW m c i).toReal : ℝ) : EReal)) := by
  have h0 := and_one _ _ (congrFun (h c) ix0)
  exact ⟨fun i => real_of_lt _ (Host.reduce_andi_all _ _ _ _ _ h0.1 i), fun i => real_of_lt _ (Host.reduce_andi_all _ _ _ _ _ h0.2 i)⟩

theorem value2 : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' h hm
  refine ⟨fun c => res0 m c, fun c => res1 m c, fun c => res2 m c, fun c => res3 m c, fun c => res4 m c, fun c => res5 m c,
    fun c => res6 m c, fun c => res7 m c, fun c => res8 m c, fun c => res9 m c, fun c => res10 m c, ?_, ?_⟩
  · refine (θ_run Cert.Kernel2Ideal.defs _ _).mono (fun r hr c => ?_) (Cert.Kernel2Ideal.Value.run_blocks (F := Ideal) m g)
    obtain ⟨h5, h6, h7, h8, h9, h10, h11, h12, h13, h14, h15, hk⟩ := hr c
    have hf := finite2_iff m h c
    exact ⟨h5.trans (final5 m c), h6.trans (final6 m c), h7.trans (final7 m c), h8.trans (final8 m c), h9.trans (final9 m c _ _ hf.1 hf.2),
      h10.trans (final10 m c), h11.trans (final11 m c _ _ hf.1 hf.2), h12.trans (final12 m c), h13.trans (final13 m c), h14.trans (final14 m c),
      h15.trans (final15 m c), hk⟩
  · refine (θ_run Cert.Reference2Ideal.defs _ _).mono (fun r hr c => ?_) (Cert.Reference2Ideal.Value.run (F := Ideal) m' g')
    have hr := hr c
    rw [(hm c).1, (hm c).2] at hr
    rw [(hm c).1, (hm c).2]
    exact hr

end Prompt

end Cert.Proof
-- ==== Proof.Mix.Row.lean ====
/-
  One row of the mixer's output: the gated halves times the output weights, added to the scaled input and normalised.
-/
module

public import Idealize.ShloMosaic.PureOps
public import Idealize.ShloMosaic.Lib.Pointwise

@[expose] public section

noncomputable section

namespace Cert.Proof.Mix

open Idealize.ShloMosaic

/-- An attention output times the silu of its gate. -/
abbrev gate (o g : EReal) : EReal := o * (g * Ideal.logistic g)

/-- Entry `d` of the scaled input plus the product of the gated halves with the output weights. -/
abbrev blend (x : Fin 1024 → EReal) (a ga b gb : Fin 512 → EReal) (w : Fin 1024 → Fin 1024 → EReal) (d : Fin 1024) : EReal :=
  Ideal.ofBits .f32 1066940400#32 * x d
  + ((∑ k : Fin 512, gate (a k) (ga k) * w ⟨k.val, by omega⟩ d) + ∑ k : Fin 512, gate (b k) (gb k) * w ⟨512 + k.val, by omega⟩ d)

/-- The mean of a row. -/
abbrev mean (y : Fin 1024 → EReal) : EReal := Ideal.div (∑ k : Fin 1024, y k) (Ideal.ofBits .f32 1149239296#32)

/-- Entry `d` of the row's layer norm. -/
abbrev norm (y p q : Fin 1024 → EReal) (d : Fin 1024) : EReal :=
  (y d - mean y) * Ideal.rsqrt (mean (fun k => (y k - mean y) * (y k - mean y)) + Ideal.ofBits .f32 925353388#32) * p d + q d

end Cert.Proof.Mix
-- ==== Proof.Mix.Body.lean ====
/-
  What one grid point of the mixer leaves in its block, index by index.
-/
module

public import proofs.«01_k».proof.Proof.Gen.Kernel3Ideal.Frame
public import proofs.«01_k».proof.Proof.Mix.Row
public import Idealize.ShloMosaic.Lib.Pipeline.Value
public import Idealize.ShloMosaic.Lib.Pointwise

@[expose] public section

set_option maxRecDepth 65536

noncomputable section

namespace Cert.Kernel3Ideal.Mix

open Cert.Kernel3Ideal Cert.Kernel3Ideal.Gen Cert.Proof.Mix
open Idealize.ShloMosaic Idealize.ShloMosaic.TcCoe

section Payloads
variable (A GA B GB : Vec Ideal S512x512 .bf16) (W : Vec Ideal S1024x1024 .bf16) (X : Vec Ideal S512x1024 .f32) (p q : Vec Ideal S1x1024 .f32)

/-- The block's row `r` before its normalisation. -/
abbrev row (r : Fin 512) : Fin 1024 → EReal :=
  blend (fun d => (X : S512x1024.Idx → EReal) (ix2 r d)) (fun k => (A : S512x512.Idx → EReal) (ix2 r k)) (fun k => (GA : S512x512.Idx → EReal) (ix2 r k))
    (fun k => (B : S512x512.Idx → EReal) (ix2 r k)) (fun k => (GB : S512x512.Idx → EReal) (ix2 r k)) (fun k d => (W : S1024x1024.Idx → EReal) (ix2 k d))

theorem pay2_apply (r : Fin 512) (d : Fin 1024) : (k0_pay2 A GA B GB W X : S512x1024.Idx → EReal) (ix2 r d) = row A GA B GB W X r d := by
  pointwise [k0_pay2]
  first | done | rfl

theorem pay3_apply (r : Fin 512) : (k0_pay3 A GA B GB W X : S512x1.Idx → EReal) (ix2 r 0) = mean (row A GA B GB W X r) := by
  pointwise [k0_pay3]
  simp only [pay2_apply]

theorem pay4_apply (r : Fin 512) : (k0_pay4 A GA B GB W X : S512x1.Idx → EReal) (ix2 r 0)
    = mean (fun k => (row A GA B GB W X r k - mean (row A GA B GB W X r)) * (row A GA B GB W X r k - mean (row A GA B GB W X r))) := by
  pointwise [k0_pay4]
  simp only [pay2_apply, pay3_apply]

theorem pay5_apply (r : Fin 512) (d : Fin 1024) : (k0_pay5 A GA B GB W X : S512x1024.Idx → EReal) (ix2 r d)
    = row A GA B GB W X r d - mean (row A GA B GB W X r) := by
  pointwise [k0_pay5]
  rw [pay2_apply, pay3_apply]

theorem pay1_apply (r : Fin 512) (d : Fin 1024) : (k0_pay1 (k0_pay4 A GA B GB W X) (k0_pay5 A GA B GB W X) p q : S512x1024.Idx → EReal) (ix2 r d)
    = norm (row A GA B GB W X r) (fun d => (p : S1x1024.Idx → EReal) (ix2 0 d)) (fun d => (q : S1x1024.Idx → EReal) (ix2 0 d)) d := by
  pointwise [k0_pay1]
  rw [pay4_apply, pay5_apply]

end Payloads

theorem zero2 : (![0, 0] : Fin 2 → ℕ) = fun _ => 0 := funext fun a => match a with | ⟨0, _⟩ => rfl | ⟨1, _⟩ => rfl

theorem out8_apply (x0 : Vec Ideal S512x1024 .f32) (x1 x2 x3 x4 : Vec Ideal S512x512 .bf16) (x5 : Vec Ideal S1024x1024 .bf16) (x6 x7 : Vec Ideal S1x1024 .f32)
    (r : Fin 512) (d : Fin 1024) : (out0_8 x0 x1 x2 x3 x4 x5 x6 x7 : S512x1024.Idx → EReal) (ix2 r d)
    = norm (row x1 x2 x3 x4 x5 x0 r) (fun d => (x6 : S1x1024.Idx → EReal) (ix2 0 d)) (fun d => (x7 : S1x1024.Idx → EReal) (ix2 0 d)) d := by
  unfold out0_8
  have e (x : Vec Ideal S512x512 .bf16) : View.ld x r0_0 = x := View.ld_unit_zero (Val := Elt Ideal) zero2 _ x
  have e' (x : Vec Ideal S1x1024 .f32) : View.ld x r0_3 = x := View.ld_unit_zero (Val := Elt Ideal) zero2 _ x
  rw [View.canon_unit_zero zero2, e, e, e, e, e', e', show View.ld x5 r0_1 = x5 from View.ld_unit_zero (Val := Elt Ideal) zero2 _ x5,
    show View.ld x0 r0_2 = x0 from View.ld_unit_zero (Val := Elt Ideal) zero2 _ x0, pay1_apply]

end Cert.Kernel3Ideal.Mix
-- ==== Proof.Mix.Ref.lean ====
/-
  The reference's mixer output, index by index.
-/
module

public import proofs.«01_k».proof.Proof.Gen.Reference3Ideal.Read
public import proofs.«01_k».proof.Proof.Mix.Row
public import Idealize.ShloMosaic.Lib.Pointwise

@[expose] public section

set_option maxRecDepth 65536

noncomputable section

namespace Cert.Reference3Ideal.Mix

open Cert.Reference3Ideal Cert.Reference3Ideal.Read Cert.Proof.Mix
open Idealize.ShloMosaic Idealize.ShloMosaic.TcCoe

variable (x : S4x4096x1024.Idx → EReal) (oa : S4x4096x8x64.Idx → EReal) (ga : S4x4096x512.Idx → EReal) (ob : S4x4096x8x64.Idx → EReal)
  (gb : S4x4096x512.Idx → EReal) (w : S1x1024x1024.Idx → EReal) (p q : S1x1024.Idx → EReal)

/-- The row of position `s` of batch `b` before its normalisation. -/
abbrev row (b : Fin 4) (s : Fin 4096) : Fin 1024 → EReal :=
  blend (fun d => x (ix3 b s d)) (fun k => oa (ix4 b s (⟨k.val / 64, by omega⟩ : Fin 8) (⟨k.val % 64, by omega⟩ : Fin 64))) (fun k => ga (ix3 b s k))
    (fun k => ob (ix4 b s (⟨k.val / 64, by omega⟩ : Fin 8) (⟨k.val % 64, by omega⟩ : Fin 64))) (fun k => gb (ix3 b s k)) (fun k d => w (ix3 0 k d))

theorem v13_apply (b : Fin 4) (s : Fin 4096) (d : Fin 1024) :
    (val_main_v13 (F := Ideal) x oa ga ob gb w : S4x4096x1024.Idx → EReal) (ix3 b s d) = row x oa ga ob gb w b s d := by
  pointwise [val_main_v13, val_main_v12, val_main_v11, val_main_cst, val_main_v10, val_main_v9, val_main_v0, val_main_v8, val_main_v7, val_main_call1_v5, val_main_call1_v4,
    val_main_call1_cst_0, val_main_call1_v3, val_main_call1_v2, val_main_call1_cst, val_main_call1_v1, val_main_call1_v0, val_main_v6, val_main_v5, val_main_v3, val_main_v4,
    val_main_call0_v5, val_main_call0_v4, val_main_call0_cst_0, val_main_call0_v3, val_main_call0_v2, val_main_call0_cst, val_main_call0_v1, val_main_call0_v0]
  first | done | rfl

theorem v17_apply (b : Fin 4) (s : Fin 4096) :
    (val_main_v17 (F := Ideal) x oa ga ob gb w : S4x4096x1.Idx → EReal) (ix3 b s 0) = mean (row x oa ga ob gb w b s) := by
  pointwise [val_main_v17, val_main_v16, val_main_cst_1, val_main_v15, val_main_v14, val_main_cst_0]
  simp only [v13_apply]

theorem v24_apply (b : Fin 4) (s : Fin 4096) : (val_main_v24 (F := Ideal) x oa ga ob gb w : S4x4096x1.Idx → EReal) (ix3 b s 0)
    = mean (fun k => (row x oa ga ob gb w b s k - mean (row x oa ga ob gb w b s)) * (row x oa ga ob gb w b s k - mean (row x oa ga ob gb w b s))) := by
  pointwise [val_main_v24, val_main_v23, val_main_cst_3, val_main_v22, val_main_v21, val_main_cst_2, val_main_v20, val_main_v19, val_main_v18]
  simp only [v13_apply, v17_apply]

theorem v38_apply (n : Fin 16384) (d : Fin 1024) : (val_main_v38 (F := Ideal) x oa ga ob gb w p q : S16384x1024.Idx → EReal) (ix2 n d)
    = norm (row x oa ga ob gb w ⟨n.val / 4096, by omega⟩ ⟨n.val % 4096, by omega⟩) (fun d => p (ix2 0 d)) (fun d => q (ix2 0 d)) d := by
  pointwise [val_main_v38, val_main_v37, val_main_v36, val_main_v35, val_main_v34, val_main_v33, val_main_v32, val_main_v2, val_main_v1, val_main_v31, val_main_v30, val_main_v29,
    val_main_v28, val_main_v27, val_main_cst_4, val_main_v26, val_main_v25]
  rw [v13_apply, v17_apply, v24_apply]

end Cert.Reference3Ideal.Mix
-- ==== Proof.Mix.Result.lean ====
/-
  The mixer's output array, over the extended reals: the reference's, index by index.
-/
module

public import proofs.«01_k».proof.Proof.Gen.Kernel3Ideal.Value
public import proofs.«01_k».proof.Proof.Mix.Body
public import proofs.«01_k».proof.Proof.Mix.Ref
public import Idealize.ShloMosaic.Lib.Pointwise
public import Idealize.ShloMosaic.Lib.StableHlo.ReadAt

@[expose] public section

set_option maxRecDepth 65536

noncomputable section

namespace Cert.Kernel3Ideal.Mix

open Cert.Kernel3Ideal Cert.Kernel3Ideal.Gen Cert.Proof.Mix
open Cert.Reference3Ideal.Read (val_main_v38)
open Cert.Reference3Ideal.Mix (v38_apply)
open Idealize.ShloMosaic Idealize.ShloMosaic.TcCoe Idealize.ShloMosaic.StableHlo

variable (m : (ℓ : Loc nD τ sig) → Buf (Elt Ideal) ℓ) (c : Dev nD)

abbrev argX : S4x4096x1024.Idx → EReal := m ((c : Thread nD τ).loc main_arg0)
abbrev argA : S4x4096x8x64.Idx → EReal := m ((c : Thread nD τ).loc main_arg1)
abbrev argGA : S4x4096x512.Idx → EReal := m ((c : Thread nD τ).loc main_arg2)
abbrev argB : S4x4096x8x64.Idx → EReal := m ((c : Thread nD τ).loc main_arg3)
abbrev argGB : S4x4096x512.Idx → EReal := m ((c : Thread nD τ).loc main_arg4)
abbrev argW : S1x1024x1024.Idx → EReal := m ((c : Thread nD τ).loc main_arg5)
abbrev argP : S1x1024.Idx → EReal := m ((c : Thread nD τ).loc main_arg6)
abbrev argQ : S1x1024.Idx → EReal := m ((c : Thread nD τ).loc main_arg7)

/-- The batch of row `n`, and its position in the batch. -/
abbrev bat (n : Fin 16384) : Fin 4 := ⟨n.val / 4096, by omega⟩
abbrev pos (n : Fin 16384) : Fin 4096 := ⟨n.val % 4096, by omega⟩

/-! ## The arrays the host prepares -/

theorem laidX (n : Fin 16384) (d : Fin 1024) : (V m c main_v0 : S16384x1024.Idx → EReal) (ix2 n d) = argX m c (ix3 (bat n) (pos n) d) := by
  after_reads_at

theorem laidA (n : Fin 16384) (k : Fin 512) : (V m c main_v2 : S16384x512.Idx → EReal) (ix2 n k)
    = argA m c (ix4 (bat n) (pos n) (⟨k.val / 64, by omega⟩ : Fin 8) (⟨k.val % 64, by omega⟩ : Fin 64)) := by
  after_reads_at

theorem laidGA (n : Fin 16384) (k : Fin 512) : (V m c main_v4 : S16384x512.Idx → EReal) (ix2 n k) = argGA m c (ix3 (bat n) (pos n) k) := by
  after_reads_at

theorem laidB (n : Fin 16384) (k : Fin 512) : (V m c main_v6 : S16384x512.Idx → EReal) (ix2 n k)
    = argB m c (ix4 (bat n) (pos n) (⟨k.val / 64, by omega⟩ : Fin 8) (⟨k.val % 64, by omega⟩ : Fin 64)) := by
  after_reads_at

theorem laidGB (n : Fin 16384) (k : Fin 512) : (V m c main_v8 : S16384x512.Idx → EReal) (ix2 n k) = argGB m c (ix3 (bat n) (pos n) k) := by
  after_reads_at

theorem laidW (k d : Fin 1024) : (V m c main_v10 : S1024x1024.Idx → EReal) (ix2 k d) = argW m c (ix3 0 k d) := by
  after_reads_at

theorem laidP (d : Fin 1024) : (V m c main_v12 : S1x1024.Idx → EReal) (ix2 0 d) = argP m c (ix2 0 d) := by
  after_reads_at

theorem laidQ (d : Fin 1024) : (V m c main_v14 : S1x1024.Idx → EReal) (ix2 0 d) = argQ m c (ix2 0 d) := by
  after_reads_at

/-! ## The blocks of a grid point -/

theorem points (t : Fin grid0.N) : t.val < 32 := lt_of_lt_of_eq t.isLt (by decide)

/-- Row `r` of block `t` in its array. -/
abbrev place (t : Fin grid0.N) (r : Fin 512) : Fin 16384 := ⟨512 * t.val + r.val, by have := points t; omega⟩

theorem index_in : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) := by decide +kernel

theorem index_whole : ∀ t : Fin grid0.N, (win0_5.index t 0 = 0 ∧ win0_5.index t 1 = 0) ∧ (win0_6.index t 0 = 0 ∧ win0_6.index t 1 = 0)
    ∧ (win0_7.index t 0 = 0 ∧ win0_7.index t 1 = 0) := by decide +kernel

theorem index_out : ∀ t : Fin grid0.N, win0_8.index t 0 = t.val ∧ win0_8.index t 1 = 0 := by decide +kernel

abbrev blkX (t : Fin grid0.N) : S512x1024.Idx → EReal := iblk m c 0 t
abbrev blkA (t : Fin grid0.N) : S512x512.Idx → EReal := iblk m c 1 t
abbrev blkGA (t : Fin grid0.N) : S512x512.Idx → EReal := iblk m c 2 t
abbrev blkB (t : Fin grid0.N) : S512x512.Idx → EReal := iblk m c 3 t
abbrev blkGB (t : Fin grid0.N) : S512x512.Idx → EReal := iblk m c 4 t
abbrev blkW (t : Fin grid0.N) : S1024x1024.Idx → EReal := iblk m c 5 t
abbrev blkP (t : Fin grid0.N) : S1x1024.Idx → EReal := iblk m c 6 t
abbrev blkQ (t : Fin grid0.N) : S1x1024.Idx → EReal := iblk m c 7 t

theorem blkX_apply (t : Fin grid0.N) (r : Fin 512) (k : Fin 1024) : blkX m c t (ix2 r k) = (V m c main_v0 : S16384x1024.Idx → EReal) (ix2 (place t r) k) := by
  obtain ⟨⟨h0, h1⟩, -⟩ := index_in t
  refine congrArg (V m c main_v0) (funext fun a => Fin.ext ?_)
  match a with
  | ⟨0, _⟩ => show win0_0.index t 0 * 512 + 1 * r.val = 512 * t.val + r.val; omega
  | ⟨1, _⟩ => show win0_0.index t 1 * 1024 + 1 * k.val = k.val; omega

theorem blkA_apply (t : Fin grid0.N) (r : Fin 512) (k : Fin 512) : blkA m c t (ix2 r k) = (V m c main_v2 : S16384x512.Idx → EReal) (ix2 (place t r) k) := by
  obtain ⟨-, ⟨h0, h1⟩, -⟩ := index_in t
  refine congrArg (V m c main_v2) (funext fun a => Fin.ext ?_)
  match a with
  | ⟨0, _⟩ => show win0_1.index t 0 * 512 + 1 * r.val = 512 * t.val + r.val; omega
  | ⟨1, _⟩ => show win0_1.index t 1 * 512 + 1 * k.val = k.val; omega

theorem blkGA_apply (t : Fin grid0.N) (r : Fin 512) (k : Fin 512) : blkGA m c t (ix2 r k) = (V m c main_v4 : S16384x512.Idx → EReal) (ix2 (place t r) k) := by
  obtain ⟨-, -, ⟨h0, h1⟩, -⟩ := index_in t
  refine congrArg (V m c main_v4) (funext fun a => Fin.ext ?_)
  match a with
  | ⟨0, _⟩ => show win0_2.index t 0 * 512 + 1 * r.val = 512 * t.val + r.val; omega
  | ⟨1, _⟩ => show win0_2.index t 1 * 512 + 1 * k.val = k.val; omega

theorem blkB_apply (t : Fin grid0.N) (r : Fin 512) (k : Fin 512) : blkB m c t (ix2 r k) = (V m c main_v6 : S16384x512.Idx → EReal) (ix2 (place t r) k) := by
  obtain ⟨-, -, -, ⟨h0, h1⟩, -⟩ := index_in t
  refine congrArg (V m c main_v6) (funext fun a => Fin.ext ?_)
  match a with
  | ⟨0, _⟩ => show win0_3.index t 0 * 512 + 1 * r.val = 512 * t.val + r.val; omega
  | ⟨1, _⟩ => show win0_3.index t 1 * 512 + 1 * k.val = k.val; omega

theorem blkGB_apply (t : Fin grid0.N) (r : Fin 512) (k : Fin 512) : blkGB m c t (ix2 r k) = (V m c main_v8 : S16384x512.Idx → EReal) (ix2 (place t r) k) := by
  obtain ⟨-, -, -, -, ⟨h0, h1⟩⟩ := index_in t
  refine congrArg (V m c main_v8) (funext fun a => Fin.ext ?_)
  match a with
  | ⟨0, _⟩ => show win0_4.index t 0 * 512 + 1 * r.val = 512 * t.val + r.val; omega
  | ⟨1, _⟩ => show win0_4.index t 1 * 512 + 1 * k.val = k.val; omega

theorem blkW_apply (t : Fin grid0.N) (k : Fin 1024) (d : Fin 1024) : blkW m c t (ix2 k d) = (V m c main_v10 : S1024x1024.Idx → EReal) (ix2 k d) := by
  obtain ⟨⟨h0, h1⟩, -⟩ := index_whole t
  refine congrArg (V m c main_v10) (funext fun a => Fin.ext ?_)
  match a with
  | ⟨0, _⟩ => show win0_5.index t 0 * 1024 + 1 * k.val = k.val; omega
  | ⟨1, _⟩ => show win0_5.index t 1 * 1024 + 1 * d.val = d.val; omega

theorem blkP_apply (t : Fin grid0.N) (k : Fin 1) (d : Fin 1024) : blkP m c t (ix2 k d) = (V m c main_v12 : S1x1024.Idx → EReal) (ix2 k d) := by
  obtain ⟨-, ⟨h0, h1⟩, -⟩ := index_whole t
  refine congrArg (V m c main_v12) (funext fun a => Fin.ext ?_)
  match a with
  | ⟨0, _⟩ => show win0_6.index t 0 * 1 + 1 * k.val = k.val; omega
  | ⟨1, _⟩ => show win0_6.index t 1 * 1024 + 1 * d.val = d.val; omega

theorem blkQ_apply (t : Fin grid0.N) (k : Fin 1) (d : Fin 1024) : blkQ m c t (ix2 k d) = (V m c main_v14 : S1x1024.Idx → EReal) (ix2 k d) := by
  obtain ⟨-, -, ⟨h0, h1⟩⟩ := index_whole t
  refine congrArg (V m c main_v14) (funext fun a => Fin.ext ?_)
  match a with
  | ⟨0, _⟩ => show win0_7.index t 0 * 1 + 1 * k.val = k.val; omega
  | ⟨1, _⟩ => show win0_7.index t 1 * 1024 + 1 * d.val = d.val; omega

/-- The block's row before its normalisation is the reference's. -/
theorem row_eq (t : Fin grid0.N) (r : Fin 512) :
    row (blkA m c t) (blkGA m c t) (blkB m c t) (blkGB m c t) (blkW m c t) (blkX m c t) r
    = Cert.Reference3Ideal.Mix.row (argX m c) (argA m c) (argGA m c) (argB m c) (argGB m c) (argW m c) (bat (place t r)) (pos (place t r)) := by
  have hX (d : Fin 1024) := (blkX_apply m c t r d).trans (laidX m c _ d)
  have hA (k : Fin 512) := (blkA_apply m c t r k).trans (laidA m c _ k)
  have hGA (k : Fin 512) := (blkGA_apply m c t r k).trans (laidGA m c _ k)
  have hB (k : Fin 512) := (blkB_apply m c t r k).trans (laidB m c _ k)
  have hGB (k : Fin 512) := (blkGB_apply m c t r k).trans (laidGB m c _ k)
  have hW (k d : Fin 1024) := (blkW_apply m c t k d).trans (laidW m c k d)
  funext d
  simp only [row, blend, gate]
  rw [hX]
  simp only [hA, hGA, hB, hGB, hW]

/-! ## A block and its place in the array -/

theorem rows_block (o : S512x1024.Idx → EReal) (G : S16384x1024.Idx → EReal) (t : Fin grid0.N)
    (h : ∀ (r : Fin 512) (d : Fin 1024), o (ix2 r d) = G (ix2 (place t r) d)) (y : S512x1024.Idx) :
    o y = G (ix2 (place t ⟨(y 0).val, (y 0).isLt⟩) (⟨(y 1).val, (y 1).isLt⟩ : Fin 1024)) := by
  rw [← h]
  exact congrArg o (funext fun a => Fin.ext (match a with | ⟨0, _⟩ => rfl | ⟨1, _⟩ => rfl))

theorem rows_cover (i : S16384x1024.Idx) : ∃ t : Fin grid0.N, ∀ p : Fin 2 → ℕ, p 0 = t.val → p 1 = 0 →
    ∀ a : Fin 2, p a * S512x1024.size a ≤ (i a).val ∧ (i a).val < p a * S512x1024.size a + S512x1024.size a := by
  have h0 : (i 0).val < 16384 := (i 0).isLt
  have h1 : (i 1).val < 1024 := (i 1).isLt
  refine ⟨⟨(i 0).val / 512, lt_of_lt_of_eq (show (i 0).val / 512 < 32 by omega) (by decide)⟩, fun p e0 e1 a => ?_⟩
  have e0' : p 0 = (i 0).val / 512 := e0
  match a with
  | ⟨0, _⟩ => show p 0 * 512 ≤ (i 0).val ∧ (i 0).val < p 0 * 512 + 512; omega
  | ⟨1, _⟩ => show p 1 * 1024 ≤ (i 1).val ∧ (i 1).val < p 1 * 1024 + 1024; omega

/-! ## What the result array holds -/

abbrev res : Buf (Elt Ideal) ((c : Thread nD τ).loc main_v15) :=
  val_main_v38 (F := Ideal) (argX m c) (argA m c) (argGA m c) (argB m c) (argGB m c) (argW m c) (argP m c) (argQ m c)

theorem final8 : (dats m 0 c).arrAt 8 cfg0.N = res m c := by
  refine (dats m 0 c).arrAt_eq_of_cover 8 (res m c) (fun t _ => ?_) (fun i => ?_)
  · obtain ⟨h0, h1⟩ := index_out t
    rw [Value.flushed8]
    show (win0_8).cut (grid0.coords t) (out0_8 (F := Ideal) (blkX m c t) (blkA m c t) (blkGA m c t) (blkB m c t) (blkGB m c t) (blkW m c t) (blkP m c t) (blkQ m c t))
      = (win0_8.blk t).view.read (Elt Ideal) (res m c)
    funext y
    refine Eq.trans (b := (out0_8 (F := Ideal) (blkX m c t) (blkA m c t) (blkGA m c t) (blkB m c t) (blkGB m c t) (blkW m c t) (blkP m c t) (blkQ m c t)
      : S512x1024.Idx → EReal) y) ?_ ?_
    · rfl
    refine (rows_block (out0_8 (F := Ideal) (blkX m c t) (blkA m c t) (blkGA m c t) (blkB m c t) (blkGB m c t) (blkW m c t) (blkP m c t) (blkQ m c t))
      (res m c) t (fun r d => ?_) y).trans ?_
    · rw [out8_apply]
      unfold res
      rw [v38_apply, row_eq]
      have hP : (fun d => blkP m c t (ix2 0 d)) = fun d => argP m c (ix2 0 d) := funext fun d => (blkP_apply m c t 0 d).trans (laidP m c d)
      have hQ : (fun d => blkQ m c t (ix2 0 d)) = fun d => argQ m c (ix2 0 d) := funext fun d => (blkQ_apply m c t 0 d).trans (laidQ m c d)
      exact congrArg₂ (fun p q => norm _ p q d) hP hQ
    · refine congrArg (res m c) (funext fun a => Fin.ext ?_)
      match a with
      | ⟨0, _⟩ => show 512 * t.val + (y 0).val = win0_8.index t 0 * 512 + 1 * (y 0).val; omega
      | ⟨1, _⟩ => show (y 1).val = win0_8.index t 1 * 1024 + 1 * (y 1).val; omega
  · obtain ⟨t, h⟩ := rows_cover i
    obtain ⟨h0, h1⟩ := index_out t
    refine ⟨t, flush0_8 t, ?_⟩
    show i ∈ ((View.whole main_v15).slice (win0_8.rect t)).set
    rw [View.set_slice_whole, Rect.mem_set_unit]
    exact h (win0_8.index t) h0 h1

end Cert.Kernel3Ideal.Mix
-- ==== Proof.Mix.Claim.lean ====
/-
  The value claim of the mixer's output: the idealized kernel and the reference end with the same array.
-/
module

public import proofs.«01_k».proof.Defs
public import proofs.«01_k».proof.Proof.Mix.Result
public import proofs.«01_k».proof.Proof.Gen.Kernel3Ideal
public import proofs.«01_k».proof.Proof.Gen.Reference3Ideal
public import proofs.«01_k».proof.Proof.Gen.Reference3Ideal.Run

@[expose] public section

set_option maxRecDepth 65536

noncomputable section

namespace Cert.Proof

open Idealize.ShloMosaic Idealize.ShloMosaic.TcCoe Idealize.SL.Sem

theorem value3 : Cert.algebraic_Kernel3Ideal_Reference3Ideal (hKernel3Ideal := Cert.Kernel3Ideal.Gen.facts)
    (hReference3Ideal := Cert.Reference3Ideal.Gen.facts) := by
  intro m g m' g' _ hm
  refine ⟨fun c => Cert.Kernel3Ideal.Mix.res m c, ?_, ?_⟩
  · refine (θ_run Cert.Kernel3Ideal.defs _ _).mono (fun r hr c => ?_) (Cert.Kernel3Ideal.Value.run_blocks (F := Ideal) m g)
    exact ⟨(hr c).1.trans (Cert.Kernel3Ideal.Mix.final8 m c), (hr c).2⟩
  · refine (θ_run Cert.Reference3Ideal.defs _ _).mono (fun r hr c => ?_) (Cert.Reference3Ideal.Value.run (F := Ideal) m' g')
    have hr := hr c
    obtain ⟨e0, e1, e2, e3, e4, e5, e6, e7⟩ := hm c
    rw [Cert.Reference3Ideal.Read.val_main_v38_eq, e0, e1, e2, e3, e4, e5, e6, e7] at hr
    rw [e0, e1, e2, e3, e4, e5, e6, e7]
    exact hr

end Cert.Proof
-- ==== Proof.Rows.Body.lean ====
/-
  What the sample's projections leave in each of the eight blocks, index by index: sums of products of the rows with columns of
  the weights.
-/
module

public import proofs.«01_k».proof.Proof.Gen.Kernel4Ideal.Frame
public import Idealize.ShloMosaic.Lib.Pipeline.Value
public import Idealize.ShloMosaic.Lib.Pointwise

@[expose] public section

set_option maxRecDepth 65536

noncomputable section

namespace Cert.Kernel4Ideal.Rows

open Cert.Kernel4Ideal Cert.Kernel4Ideal.Gen
open Idealize.ShloMosaic Idealize.ShloMosaic.TcCoe

/-! ## The stores' payloads -/

/-- Row `r` times column `d`. -/
abbrev cross (X : S128x1024.Idx → EReal) (W : S1024x512.Idx → EReal) (r : Fin 128) (d : Fin 512) : EReal :=
  ∑ k : Fin 1024, X (ix2 r k) * W (ix2 k d)

section Payloads
variable (X : Vec Ideal S128x1024 .f32) (W Z : Vec Ideal S1024x512 .bf16) (r : Fin 128) (d : Fin 512)

theorem pay8_apply : (k0_pay8 X W : S128x512.Idx → EReal) (ix2 r d) = cross X W r d := by pointwise [k0_pay8, k0_pay6, k0_pay5]
theorem pay9_apply : (k0_pay9 X W : S128x512.Idx → EReal) (ix2 r d) = cross X W r d := by pointwise [k0_pay9, k0_pay6, k0_pay5]
theorem pay10_apply : (k0_pay10 X W : S128x512.Idx → EReal) (ix2 r d) = cross X W r d := by pointwise [k0_pay10, k0_pay6, k0_pay5]
theorem pay11_apply : (k0_pay11 X W : S128x512.Idx → EReal) (ix2 r d) = cross X W r d := by pointwise [k0_pay11, k0_pay6, k0_pay5]
theorem pay3_apply : (k0_pay3 (k0_pay6 X) W : S128x512.Idx → EReal) (ix2 r d) = cross X W r d := by pointwise [k0_pay3, k0_pay6, k0_pay5]
theorem pay4_apply : (k0_pay4 (k0_pay6 X) W : S128x512.Idx → EReal) (ix2 r d) = cross X W r d := by pointwise [k0_pay4, k0_pay6, k0_pay5]

variable (hX : ∀ (r : Fin 128) (k : Fin 1024), ∃ a : ℝ, (X : S128x1024.Idx → EReal) (ix2 r k) = ((a : ℝ) : EReal))
  (hZ : ∀ (k : Fin 1024) (d : Fin 512), (Z : S1024x512.Idx → EReal) (ix2 k d) = 0)
include hX hZ

omit hZ in
/-- A real entry less itself. -/
theorem low_zero (k : Fin 1024) : (X : S128x1024.Idx → EReal) (ix2 r k) - (X : S128x1024.Idx → EReal) (ix2 r k) = 0 := by
  obtain ⟨a, ha⟩ := hX r k
  rw [ha, ← EReal.coe_sub, sub_self, EReal.coe_zero]

/-- The product in three passes, of real rows: the passes over the remainders add nothing. -/
theorem pay1_apply : (k0_pay1 (k0_pay6 X) (k0_pay7 X) (k0_pay12 W) (k0_pay13 X W) (k0_pay14 Z) (constant (F := Ideal) S128x512 .f32 0x00000000#32) : S128x512.Idx → EReal) (ix2 r d)
    = cross X W r d := by
  have h0 := low_zero X r hX
  pointwise [k0_pay1, k0_pay7, k0_pay6, k0_pay5, k0_pay12, k0_pay13, k0_pay14]
  simp only [hZ, h0]
  simp

theorem pay2_apply : (k0_pay2 (k0_pay6 X) (k0_pay7 X) W Z : S128x512.Idx → EReal) (ix2 r d) = cross X W r d := by
  have h0 := low_zero X r hX
  pointwise [k0_pay2, k0_pay7, k0_pay6, k0_pay5]
  simp only [hZ, h0]
  simp

end Payloads

/-! ## The blocks -/

/-- Row `r` times column `off + d` of all the weights. -/
abbrev wide (X : S128x1024.Idx → EReal) (W : S1024x4096.Idx → EReal) (off : ℕ) (h : off ≤ 3584) (r : Fin 128) (d : Fin 512) : EReal :=
  ∑ k : Fin 1024, X (ix2 r k) * W (ix2 k (⟨off + d.val, by omega⟩ : Fin 4096))

section Blocks
variable (x0 : Vec Ideal S128x1024 .f32) (x1 : Vec Ideal S1024x4096 .bf16) (x2 : Vec Ideal S1024x1024 .bf16) (r : Fin 128) (d : Fin 512)

theorem zero2 : (![0, 0] : Fin 2 → ℕ) = fun _ => 0 := funext fun a => match a with | ⟨0, _⟩ => rfl | ⟨1, _⟩ => rfl

theorem ld_rows : View.ld x0 r0_0 = x0 := View.ld_unit_zero (Val := Elt Ideal) zero2 _ x0

theorem out3_apply : (out0_3 x0 x1 x2 : S128x512.Idx → EReal) (ix2 r d) = wide x0 x1 0 (by omega) r d := by
  unfold out0_3
  rw [View.canon_unit_zero zero2, pay8_apply, ld_rows]
  refine Finset.sum_congr rfl fun k _ => congrArg _ ?_
  pointwise []

theorem out4_apply : (out0_4 x0 x1 x2 : S128x512.Idx → EReal) (ix2 r d) = wide x0 x1 512 (by omega) r d := by
  unfold out0_4
  rw [View.canon_unit_zero zero2, pay9_apply, ld_rows]
  refine Finset.sum_congr rfl fun k _ => congrArg _ ?_
  pointwise []

theorem out5_apply : (out0_5 x0 x1 x2 : S128x512.Idx → EReal) (ix2 r d) = wide x0 x1 1024 (by omega) r d := by
  unfold out0_5
  rw [View.canon_unit_zero zero2, pay10_apply, ld_rows]
  refine Finset.sum_congr rfl fun k _ => congrArg _ ?_
  pointwise []

theorem out6_apply : (out0_6 x0 x1 x2 : S128x512.Idx → EReal) (ix2 r d) = wide x0 x1 1536 (by omega) r d := by
  unfold out0_6
  rw [View.canon_unit_zero zero2, pay11_apply, ld_rows]
  refine Finset.sum_congr rfl fun k _ => congrArg _ ?_
  pointwise []

theorem out9_apply : (out0_9 x0 x1 x2 : S128x512.Idx → EReal) (ix2 r d) = wide x0 x1 3072 (by omega) r d := by
  unfold out0_9 k0_pay15
  rw [View.canon_unit_zero zero2, pay3_apply, ld_rows]
  refine Finset.sum_congr rfl fun k _ => congrArg _ ?_
  pointwise []

theorem out10_apply : (out0_10 x0 x1 x2 : S128x512.Idx → EReal) (ix2 r d) = wide x0 x1 3584 (by omega) r d := by
  unfold out0_10 k0_pay15
  rw [View.canon_unit_zero zero2, pay4_apply, ld_rows]
  refine Finset.sum_congr rfl fun k _ => congrArg _ ?_
  pointwise []

variable (hX : ∀ (r : Fin 128) (k : Fin 1024), ∃ a : ℝ, (x0 : S128x1024.Idx → EReal) (ix2 r k) = ((a : ℝ) : EReal))
  (hZ : ∀ k d : Fin 1024, (x2 : S1024x1024.Idx → EReal) (ix2 k d) = 0)
include hX hZ

theorem out7_apply : (out0_7 x0 x1 x2 : S128x512.Idx → EReal) (ix2 r d) = wide x0 x1 2048 (by omega) r d := by
  unfold out0_7 k0_pay15 k0_pay16
  rw [View.canon_unit_zero zero2, ld_rows, pay1_apply x0 _ _ r d hX (fun k e => (show _ = (x2 : S1024x1024.Idx → EReal) (ix2 k ⟨e.val, by omega⟩) by pointwise []).trans (hZ _ _))]
  refine Finset.sum_congr rfl fun k _ => congrArg _ ?_
  pointwise []

theorem out8_apply : (out0_8 x0 x1 x2 : S128x512.Idx → EReal) (ix2 r d) = wide x0 x1 2560 (by omega) r d := by
  unfold out0_8 k0_pay15 k0_pay16
  rw [View.canon_unit_zero zero2, ld_rows, pay2_apply x0 _ _ r d hX (fun k e => (show _ = (x2 : S1024x1024.Idx → EReal) (ix2 k ⟨512 + e.val, by omega⟩) by pointwise []).trans (hZ _ _))]
  refine Finset.sum_congr rfl fun k _ => congrArg _ ?_
  pointwise []

end Blocks

end Cert.Kernel4Ideal.Rows
-- ==== Proof.Rows.Ref.lean ====
/-
  The reference's projections of the sample, index by index.
-/
module

public import proofs.«01_k».proof.Proof.Gen.Reference4Ideal.Read
public import Idealize.ShloMosaic.Lib.Pointwise

@[expose] public section

set_option maxRecDepth 65536

noncomputable section

namespace Cert.Reference4Ideal.Rows

open Cert.Reference4Ideal Cert.Reference4Ideal.Read
open Idealize.ShloMosaic Idealize.ShloMosaic.TcCoe

variable (x : S32x4x1024.Idx → EReal) (w : S1x1024x4096.Idx → EReal)

/-- Entry `e` of the projection of row `n`, the rows counted through the samples. -/
abbrev proj (n : Fin 128) (e : Fin 4096) : EReal :=
  ∑ k : Fin 1024, x (ix3 (⟨n.val / 4, by omega⟩ : Fin 32) (⟨n.val % 4, by omega⟩ : Fin 4) k) * w (ix3 0 k e)

theorem v1_at (i : S32x4x4096.Idx) (n : Fin 128) (e : Fin 4096) (h0 : (i 0).val = n.val / 4) (h1 : (i 1).val = n.val % 4) (h2 : (i 2).val = e.val) :
    val_main_v1 (F := Ideal) x w i = proj x w n e := by
  rw [val_main_v1_apply]
  refine Finset.sum_congr rfl fun k _ => ?_
  rw [val_main_v0_apply]
  refine congr (congrArg _ (congrArg x ?_)) (congrArg w ?_)
  all_goals
    funext a
    apply Fin.ext
    match a with
    | ⟨0, _⟩ => first | rfl | exact h0 | (dsimp; omega)
    | ⟨1, _⟩ => first | rfl | exact h1 | (dsimp; omega)
    | ⟨2, _⟩ => first | rfl | exact h2 | (dsimp; omega)

variable (n : Fin 128) (d : Fin 512)

theorem v10_apply : (val_main_v10 (F := Ideal) x w : S128x512.Idx → EReal) (ix2 n d) = proj x w n ⟨0 + d.val, by omega⟩ := by
  rw [val_main_v10_apply, val_main_v2_apply]
  exact v1_at x w _ _ _ (by dsimp; omega) (by dsimp; omega) (by dsimp; omega)
theorem v11_apply : (val_main_v11 (F := Ideal) x w : S128x512.Idx → EReal) (ix2 n d) = proj x w n ⟨512 + d.val, by omega⟩ := by
  rw [val_main_v11_apply, val_main_v3_apply]
  exact v1_at x w _ _ _ (by dsimp; omega) (by dsimp; omega) (by dsimp; omega)
theorem v12_apply : (val_main_v12 (F := Ideal) x w : S128x512.Idx → EReal) (ix2 n d) = proj x w n ⟨1024 + d.val, by omega⟩ := by
  rw [val_main_v12_apply, val_main_v4_apply]
  exact v1_at x w _ _ _ (by dsimp; omega) (by dsimp; omega) (by dsimp; omega)
theorem v13_apply : (val_main_v13 (F := Ideal) x w : S128x512.Idx → EReal) (ix2 n d) = proj x w n ⟨1536 + d.val, by omega⟩ := by
  rw [val_main_v13_apply, val_main_v5_apply]
  exact v1_at x w _ _ _ (by dsimp; omega) (by dsimp; omega) (by dsimp; omega)
theorem v14_apply : (val_main_v14 (F := Ideal) x w : S128x512.Idx → EReal) (ix2 n d) = proj x w n ⟨2048 + d.val, by omega⟩ := by
  rw [val_main_v14_apply, val_main_v6_apply]
  exact v1_at x w _ _ _ (by dsimp; omega) (by dsimp; omega) (by dsimp; omega)
theorem v15_apply : (val_main_v15 (F := Ideal) x w : S128x512.Idx → EReal) (ix2 n d) = proj x w n ⟨2560 + d.val, by omega⟩ := by
  rw [val_main_v15_apply, val_main_v7_apply]
  exact v1_at x w _ _ _ (by dsimp; omega) (by dsimp; omega) (by dsimp; omega)
theorem v16_apply : (val_main_v16 (F := Ideal) x w : S128x512.Idx → EReal) (ix2 n d) = proj x w n ⟨3072 + d.val, by omega⟩ := by
  rw [val_main_v16_apply, val_main_v8_apply]
  exact v1_at x w _ _ _ (by dsimp; omega) (by dsimp; omega) (by dsimp; omega)
theorem v17_apply : (val_main_v17 (F := Ideal) x w : S128x512.Idx → EReal) (ix2 n d) = proj x w n ⟨3584 + d.val, by omega⟩ := by
  rw [val_main_v17_apply, val_main_v9_apply]
  exact v1_at x w _ _ _ (by dsimp; omega) (by dsimp; omega) (by dsimp; omega)

end Cert.Reference4Ideal.Rows
-- ==== Proof.Rows.Result.lean ====
/-
  What the sample's projections leave in each result array: the columns of the reference's projection.
-/
module

public import proofs.«01_k».proof.Proof.Gen.Kernel4Ideal.Value
public import proofs.«01_k».proof.Proof.Rows.Body
public import proofs.«01_k».proof.Proof.Rows.Ref
public import Idealize.ShloMosaic.Lib.Pointwise
public import Idealize.ShloMosaic.Lib.StableHlo.ReadAt

@[expose] public section

set_option maxRecDepth 65536

noncomputable section

namespace Cert.Kernel4Ideal.Rows

open Cert.Kernel4Ideal Cert.Kernel4Ideal.Gen
open Cert.Reference4Ideal.Read Cert.Reference4Ideal.Rows
open Idealize.ShloMosaic Idealize.ShloMosaic.TcCoe Idealize.ShloMosaic.StableHlo

variable (m : (ℓ : Loc nD τ sig) → Buf (Elt Ideal) ℓ) (c : Dev nD)

abbrev argX : S32x4x1024.Idx → EReal := m ((c : Thread nD τ).loc main_arg0)
abbrev argW : S1x1024x4096.Idx → EReal := m ((c : Thread nD τ).loc main_arg1)

/-! ## The arrays the host prepares -/

theorem laidX (n : Fin 128) (k : Fin 1024) :
    (V m c main_v7 : S128x1024.Idx → EReal) (ix2 n k) = argX m c (ix3 (⟨n.val / 4, by omega⟩ : Fin 32) (⟨n.val % 4, by omega⟩ : Fin 4) k) := by
  after_reads_at

theorem laidW (k : Fin 1024) (e : Fin 4096) : (V m c main_v1 : S1024x4096.Idx → EReal) (ix2 k e) = argW m c (ix3 0 k e) := by
  after_reads_at

theorem laidLow (k e : Fin 1024) : (V m c main_v6 : S1024x1024.Idx → EReal) (ix2 k e)
    = argW m c (ix3 0 k (⟨2048 + e.val, by omega⟩ : Fin 4096)) - argW m c (ix3 0 k (⟨2048 + e.val, by omega⟩ : Fin 4096)) := by
  after_reads_at

/-! ## The blocks of the one grid point -/

/-- Every window takes its whole array. -/
theorem index_in : ∀ t : Fin grid0.N, win0_0.index t 0 = 0 ∧ win0_0.index t 1 = 0 ∧ win0_1.index t 0 = 0 ∧ win0_1.index t 1 = 0
    ∧ win0_2.index t 0 = 0 ∧ win0_2.index t 1 = 0 := by decide +kernel

theorem index_out : ∀ t : Fin grid0.N, (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0) ∧ (win0_10.index t 0 = 0 ∧ win0_10.index t 1 = 0) := by decide +kernel

/-- The one grid point. -/
def only : Fin grid0.N := ⟨0, by decide⟩

abbrev blkX (t : Fin grid0.N) : S128x1024.Idx → EReal := iblk m c 0 t
abbrev blkW (t : Fin grid0.N) : S1024x4096.Idx → EReal := iblk m c 1 t
abbrev blkLow (t : Fin grid0.N) : S1024x1024.Idx → EReal := iblk m c 2 t

theorem blkX_apply (t : Fin grid0.N) (r : Fin 128) (k : Fin 1024) : blkX m c t (ix2 r k)
    = argX m c (ix3 (⟨r.val / 4, by omega⟩ : Fin 32) (⟨r.val % 4, by omega⟩ : Fin 4) k) := by
  obtain ⟨h0, h1, -⟩ := index_in t
  refine Eq.trans (congrArg (V m c main_v7) (funext fun a => Fin.ext ?_)) (laidX m c r k)
  match a with
  | ⟨0, _⟩ => show win0_0.index t 0 * 128 + 1 * r.val = r.val; omega
  | ⟨1, _⟩ => show win0_0.index t 1 * 1024 + 1 * k.val = k.val; omega

theorem blkW_apply (t : Fin grid0.N) (k : Fin 1024) (e : Fin 4096) : blkW m c t (ix2 k e) = argW m c (ix3 0 k e) := by
  obtain ⟨-, -, h0, h1, -⟩ := index_in t
  refine Eq.trans (congrArg (V m c main_v1) (funext fun a => Fin.ext ?_)) (laidW m c k e)
  match a with
  | ⟨0, _⟩ => show win0_1.index t 0 * 1024 + 1 * k.val = k.val; omega
  | ⟨1, _⟩ => show win0_1.index t 1 * 4096 + 1 * e.val = e.val; omega

theorem blkLow_apply (t : Fin grid0.N) (k e : Fin 1024) : blkLow m c t (ix2 k e)
    = argW m c (ix3 0 k (⟨2048 + e.val, by omega⟩ : Fin 4096)) - argW m c (ix3 0 k (⟨2048 + e.val, by omega⟩ : Fin 4096)) := by
  obtain ⟨-, -, -, -, h0, h1⟩ := index_in t
  refine Eq.trans (congrArg (V m c main_v6) (funext fun a => Fin.ext ?_)) (laidLow m c k e)
  match a with
  | ⟨0, _⟩ => show win0_2.index t 0 * 1024 + 1 * k.val = k.val; omega
  | ⟨1, _⟩ => show win0_2.index t 1 * 1024 + 1 * e.val = e.val; omega

/-- The point's products with the columns from `off` on are the reference's. -/
theorem wide_eq (t : Fin grid0.N) (off : ℕ) (h : off ≤ 3584) (r : Fin 128) (d : Fin 512) :
    wide (blkX m c t) (blkW m c t) off h r d = proj (argX m c) (argW m c) r ⟨off + d.val, by omega⟩ :=
  Finset.sum_congr rfl fun k _ => by rw [blkX_apply, blkW_apply]

/-- Two blocks that agree row by row. -/
theorem block_ext (o G : S128x512.Idx → EReal) (h : ∀ r d, o (ix2 r d) = G (ix2 r d)) (y : S128x512.Idx) : o y = G y := by
  have e : y = ix2 (⟨(y 0).val, (y 0).isLt⟩ : Fin 128) (⟨(y 1).val, (y 1).isLt⟩ : Fin 512) :=
    funext fun a => Fin.ext (match a with | ⟨0, _⟩ => rfl | ⟨1, _⟩ => rfl)
  rw [e]; exact h _ _

/-- The one block holds every index. -/
theorem cover (i : S128x512.Idx) (f : Fin 2 → ℕ) (h0 : f 0 = 0) (h1 : f 1 = 0) :
    ∀ a : Fin 2, f a * S128x512.size a ≤ (i a).val ∧ (i a).val < f a * S128x512.size a + S128x512.size a := by
  intro a
  have hi0 : (i 0).val < 128 := (i 0).isLt
  have hi1 : (i 1).val < 512 := (i 1).isLt
  match a with
  | ⟨0, _⟩ => show f 0 * 128 ≤ (i 0).val ∧ (i 0).val < f 0 * 128 + 128; omega
  | ⟨1, _⟩ => show f 1 * 512 ≤ (i 1).val ∧ (i 1).val < f 1 * 512 + 512; omega

/-! ## What each result array holds -/

abbrev res0 : Buf (Elt Ideal) ((c : Thread nD τ).loc main_v8_0) := val_main_v10 (F := Ideal) (argX m c) (argW m c)
abbrev res1 : Buf (Elt Ideal) ((c : Thread nD τ).loc main_v8_1) := val_main_v11 (F := Ideal) (argX m c) (argW m c)
abbrev res2 : Buf (Elt Ideal) ((c : Thread nD τ).loc main_v8_2) := val_main_v12 (F := Ideal) (argX m c) (argW m c)
abbrev res3 : Buf (Elt Ideal) ((c : Thread nD τ).loc main_v8_3) := val_main_v13 (F := Ideal) (argX m c) (argW m c)
abbrev res4 : Buf (Elt Ideal) ((c : Thread nD τ).loc main_v8_4) := val_main_v14 (F := Ideal) (argX m c) (argW m c)
abbrev res5 : Buf (Elt Ideal) ((c : Thread nD τ).loc main_v8_5) := val_main_v15 (F := Ideal) (argX m c) (argW m c)
abbrev res6 : Buf (Elt Ideal) ((c : Thread nD τ).loc main_v8_6) := val_main_v16 (F := Ideal) (argX m c) (argW m c)
abbrev res7 : Buf (Elt Ideal) ((c : Thread nD τ).loc main_v8_7) := val_main_v17 (F := Ideal) (argX m c) (argW m c)

theorem final3 : (dats m 0 c).arrAt 3 cfg0.N = res0 m c := by
  refine (dats m 0 c).arrAt_eq_of_cover 3 (res0 m c) (fun t _ => ?_) (fun i => ?_)
  · obtain ⟨⟨h0, h1⟩, -⟩ := index_out t
    rw [Value.flushed3]
    show (win0_3).cut (grid0.coords t) (out0_3 (F := Ideal) (blkX m c t) (blkW m c t) (blkLow m c t)) = (win0_3.blk t).view.read (Elt Ideal) (res0 m c)
    funext y
    refine Eq.trans (b := (out0_3 (F := Ideal) (blkX m c t) (blkW m c t) (blkLow m c t) : S128x512.Idx → EReal) y) ?_ ?_
    · rfl
    refine (block_ext (out0_3 (F := Ideal) (blkX m c t) (blkW m c t) (blkLow m c t)) (res0 m c) (fun r d => ?_) y).trans ?_
    · exact (out3_apply _ _ _ r d).trans ((wide_eq m c t _ _ r d).trans (v10_apply _ _ r d).symm)
    · refine congrArg (res0 m c) (funext fun a => Fin.ext ?_)
      match a with
      | ⟨0, _⟩ => show (y 0).val = win0_3.index t 0 * 128 + 1 * (y 0).val; omega
      | ⟨1, _⟩ => show (y 1).val = win0_3.index t 1 * 512 + 1 * (y 1).val; omega
  · obtain ⟨⟨h0, h1⟩, -⟩ := index_out only
    refine ⟨only, flush0_3 _, ?_⟩
    show i ∈ ((View.whole main_v8_0).slice (win0_3.rect only)).set
    rw [View.set_slice_whole, Rect.mem_set_unit]
    exact cover i (win0_3.index only) h0 h1

theorem final4 : (dats m 0 c).arrAt 4 cfg0.N = res1 m c := by
  refine (dats m 0 c).arrAt_eq_of_cover 4 (res1 m c) (fun t _ => ?_) (fun i => ?_)
  · obtain ⟨-, ⟨h0, h1⟩, -⟩ := index_out t
    rw [Value.flushed4]
    show (win0_4).cut (grid0.coords t) (out0_4 (F := Ideal) (blkX m c t) (blkW m c t) (blkLow m c t)) = (win0_4.blk t).view.read (Elt Ideal) (res1 m c)
    funext y
    refine Eq.trans (b := (out0_4 (F := Ideal) (blkX m c t) (blkW m c t) (blkLow m c t) : S128x512.Idx → EReal) y) ?_ ?_
    · rfl
    refine (block_ext (out0_4 (F := Ideal) (blkX m c t) (blkW m c t) (blkLow m c t)) (res1 m c) (fun r d => ?_) y).trans ?_
    · exact (out4_apply _ _ _ r d).trans ((wide_eq m c t _ _ r d).trans (v11_apply _ _ r d).symm)
    · refine congrArg (res1 m c) (funext fun a => Fin.ext ?_)
      match a with
      | ⟨0, _⟩ => show (y 0).val = win0_4.index t 0 * 128 + 1 * (y 0).val; omega
      | ⟨1, _⟩ => show (y 1).val = win0_4.index t 1 * 512 + 1 * (y 1).val; omega
  · obtain ⟨-, ⟨h0, h1⟩, -⟩ := index_out only
    refine ⟨only, flush0_4 _, ?_⟩
    show i ∈ ((View.whole main_v8_1).slice (win0_4.rect only)).set
    rw [View.set_slice_whole, Rect.mem_set_unit]
    exact cover i (win0_4.index only) h0 h1

theorem final5 : (dats m 0 c).arrAt 5 cfg0.N = res2 m c := by
  refine (dats m 0 c).arrAt_eq_of_cover 5 (res2 m c) (fun t _ => ?_) (fun i => ?_)
  · obtain ⟨-, -, ⟨h0, h1⟩, -⟩ := index_out t
    rw [Value.flushed5]
    show (win0_5).cut (grid0.coords t) (out0_5 (F := Ideal) (blkX m c t) (blkW m c t) (blkLow m c t)) = (win0_5.blk t).view.read (Elt Ideal) (res2 m c)
    funext y
    refine Eq.trans (b := (out0_5 (F := Ideal) (blkX m c t) (blkW m c t) (blkLow m c t) : S128x512.Idx → EReal) y) ?_ ?_
    · rfl
    refine (block_ext (out0_5 (F := Ideal) (blkX m c t) (blkW m c t) (blkLow m c t)) (res2 m c) (fun r d => ?_) y).trans ?_
    · exact (out5_apply _ _ _ r d).trans ((wide_eq m c t _ _ r d).trans (v12_apply _ _ r d).symm)
    · refine congrArg (res2 m c) (funext fun a => Fin.ext ?_)
      match a with
      | ⟨0, _⟩ => show (y 0).val = win0_5.index t 0 * 128 + 1 * (y 0).val; omega
      | ⟨1, _⟩ => show (y 1).val = win0_5.index t 1 * 512 + 1 * (y 1).val; omega
  · obtain ⟨-, -, ⟨h0, h1⟩, -⟩ := index_out only
    refine ⟨only, flush0_5 _, ?_⟩
    show i ∈ ((View.whole main_v8_2).slice (win0_5.rect only)).set
    rw [View.set_slice_whole, Rect.mem_set_unit]
    exact cover i (win0_5.index only) h0 h1

theorem final6 : (dats m 0 c).arrAt 6 cfg0.N = res3 m c := by
  refine (dats m 0 c).arrAt_eq_of_cover 6 (res3 m c) (fun t _ => ?_) (fun i => ?_)
  · obtain ⟨-, -, -, ⟨h0, h1⟩, -⟩ := index_out t
    rw [Value.flushed6]
    show (win0_6).cut (grid0.coords t) (out0_6 (F := Ideal) (blkX m c t) (blkW m c t) (blkLow m c t)) = (win0_6.blk t).view.read (Elt Ideal) (res3 m c)
    funext y
    refine Eq.trans (b := (out0_6 (F := Ideal) (blkX m c t) (blkW m c t) (blkLow m c t) : S128x512.Idx → EReal) y) ?_ ?_
    · rfl
    refine (block_ext (out0_6 (F := Ideal) (blkX m c t) (blkW m c t) (blkLow m c t)) (res3 m c) (fun r d => ?_) y).trans ?_
    · exact (out6_apply _ _ _ r d).trans ((wide_eq m c t _ _ r d).trans (v13_apply _ _ r d).symm)
    · refine congrArg (res3 m c) (funext fun a => Fin.ext ?_)
      match a with
      | ⟨0, _⟩ => show (y 0).val = win0_6.index t 0 * 128 + 1 * (y 0).val; omega
      | ⟨1, _⟩ => show (y 1).val = win0_6.index t 1 * 512 + 1 * (y 1).val; omega
  · obtain ⟨-, -, -, ⟨h0, h1⟩, -⟩ := index_out only
    refine ⟨only, flush0_6 _, ?_⟩
    show i ∈ ((View.whole main_v8_3).slice (win0_6.rect only)).set
    rw [View.set_slice_whole, Rect.mem_set_unit]
    exact cover i (win0_6.index only) h0 h1

theorem final9 : (dats m 0 c).arrAt 9 cfg0.N = res6 m c := by
  refine (dats m 0 c).arrAt_eq_of_cover 9 (res6 m c) (fun t _ => ?_) (fun i => ?_)
  · obtain ⟨-, -, -, -, -, -, ⟨h0, h1⟩, -⟩ := index_out t
    rw [Value.flushed9]
    show (win0_9).cut (grid0.coords t) (out0_9 (F := Ideal) (blkX m c t) (blkW m c t) (blkLow m c t)) = (win0_9.blk t).view.read (Elt Ideal) (res6 m c)
    funext y
    refine Eq.trans (b := (out0_9 (F := Ideal) (blkX m c t) (blkW m c t) (blkLow m c t) : S128x512.Idx → EReal) y) ?_ ?_
    · rfl
    refine (block_ext (out0_9 (F := Ideal) (blkX m c t) (blkW m c t) (blkLow m c t)) (res6 m c) (fun r d => ?_) y).trans ?_
    · exact (out9_apply _ _ _ r d).trans ((wide_eq m c t _ _ r d).trans (v16_apply _ _ r d).symm)
    · refine congrArg (res6 m c) (funext fun a => Fin.ext ?_)
      match a with
      | ⟨0, _⟩ => show (y 0).val = win0_9.index t 0 * 128 + 1 * (y 0).val; omega
      | ⟨1, _⟩ => show (y 1).val = win0_9.index t 1 * 512 + 1 * (y 1).val; omega
  · obtain ⟨-, -, -, -, -, -, ⟨h0, h1⟩, -⟩ := index_out only
    refine ⟨only, flush0_9 _, ?_⟩
    show i ∈ ((View.whole main_v8_6).slice (win0_9.rect only)).set
    rw [View.set_slice_whole, Rect.mem_set_unit]
    exact cover i (win0_9.index only) h0 h1

theorem final10 : (dats m 0 c).arrAt 10 cfg0.N = res7 m c := by
  refine (dats m 0 c).arrAt_eq_of_cover 10 (res7 m c) (fun t _ => ?_) (fun i => ?_)
  · obtain ⟨-, -, -, -, -, -, -, ⟨h0, h1⟩⟩ := index_out t
    rw [Value.flushed10]
    show (win0_10).cut (grid0.coords t) (out0_10 (F := Ideal) (blkX m c t) (blkW m c t) (blkLow m c t)) = (win0_10.blk t).view.read (Elt Ideal) (res7 m c)
    funext y
    refine Eq.trans (b := (out0_10 (F := Ideal) (blkX m c t) (blkW m c t) (blkLow m c t) : S128x512.Idx → EReal) y) ?_ ?_
    · rfl
    refine (block_ext (out0_10 (F := Ideal) (blkX m c t) (blkW m c t) (blkLow m c t)) (res7 m c) (fun r d => ?_) y).trans ?_
    · exact (out10_apply _ _ _ r d).trans ((wide_eq m c t _ _ r d).trans (v17_apply _ _ r d).symm)
    · refine congrArg (res7 m c) (funext fun a => Fin.ext ?_)
      match a with
      | ⟨0, _⟩ => show (y 0).val = win0_10.index t 0 * 128 + 1 * (y 0).val; omega
      | ⟨1, _⟩ => show (y 1).val = win0_10.index t 1 * 512 + 1 * (y 1).val; omega
  · obtain ⟨-, -, -, -, -, -, -, ⟨h0, h1⟩⟩ := index_out only
    refine ⟨only, flush0_10 _, ?_⟩
    show i ∈ ((View.whole main_v8_7).slice (win0_10.rect only)).set
    rw [View.set_slice_whole, Rect.mem_set_unit]
    exact cover i (win0_10.index only) h0 h1

/-! ## The results that need a finite sample and finite weights -/

/-- A real number less itself. -/
theorem sub_real (x : EReal) (a : ℝ) (h : x = ((a : ℝ) : EReal)) : x - x = 0 := by
  rw [h, ← EReal.coe_sub, sub_self, EReal.coe_zero]

section Finite
variable (xr : S32x4x1024.Idx → ℝ) (wr : S1x1024x4096.Idx → ℝ) (hx : ∀ i, argX m c i = ((xr i : ℝ) : EReal)) (hw : ∀ i, argW m c i = ((wr i : ℝ) : EReal))
include hx hw

theorem final7 : (dats m 0 c).arrAt 7 cfg0.N = res4 m c := by
  refine (dats m 0 c).arrAt_eq_of_cover 7 (res4 m c) (fun t _ => ?_) (fun i => ?_)
  · obtain ⟨-, -, -, -, ⟨h0, h1⟩, -⟩ := index_out t
    rw [Value.flushed7]
    show (win0_7).cut (grid0.coords t) (out0_7 (F := Ideal) (blkX m c t) (blkW m c t) (blkLow m c t)) = (win0_7.blk t).view.read (Elt Ideal) (res4 m c)
    funext y
    refine Eq.trans (b := (out0_7 (F := Ideal) (blkX m c t) (blkW m c t) (blkLow m c t) : S128x512.Idx → EReal) y) ?_ ?_
    · rfl
    refine (block_ext (out0_7 (F := Ideal) (blkX m c t) (blkW m c t) (blkLow m c t)) (res4 m c) (fun r d => ?_) y).trans ?_
    · exact (out7_apply _ _ _ r d (fun r k => ⟨_, (blkX_apply m c t r k).trans (hx _)⟩) (fun k e => (blkLow_apply m c t k e).trans (sub_real _ _ (hw _)))).trans ((wide_eq m c t _ _ r d).trans (v14_apply _ _ r d).symm)
    · refine congrArg (res4 m c) (funext fun a => Fin.ext ?_)
      match a with
      | ⟨0, _⟩ => show (y 0).val = win0_7.index t 0 * 128 + 1 * (y 0).val; omega
      | ⟨1, _⟩ => show (y 1).val = win0_7.index t 1 * 512 + 1 * (y 1).val; omega
  · obtain ⟨-, -, -, -, ⟨h0, h1⟩, -⟩ := index_out only
    refine ⟨only, flush0_7 _, ?_⟩
    show i ∈ ((View.whole main_v8_4).slice (win0_7.rect only)).set
    rw [View.set_slice_whole, Rect.mem_set_unit]
    exact cover i (win0_7.index only) h0 h1

theorem final8 : (dats m 0 c).arrAt 8 cfg0.N = res5 m c := by
  refine (dats m 0 c).arrAt_eq_of_cover 8 (res5 m c) (fun t _ => ?_) (fun i => ?_)
  · obtain ⟨-, -, -, -, -, ⟨h0, h1⟩, -⟩ := index_out t
    rw [Value.flushed8]
    show (win0_8).cut (grid0.coords t) (out0_8 (F := Ideal) (blkX m c t) (blkW m c t) (blkLow m c t)) = (win0_8.blk t).view.read (Elt Ideal) (res5 m c)
    funext y
    refine Eq.trans (b := (out0_8 (F := Ideal) (blkX m c t) (blkW m c t) (blkLow m c t) : S128x512.Idx → EReal) y) ?_ ?_
    · rfl
    refine (block_ext (out0_8 (F := Ideal) (blkX m c t) (blkW m c t) (blkLow m c t)) (res5 m c) (fun r d => ?_) y).trans ?_
    · exact (out8_apply _ _ _ r d (fun r k => ⟨_, (blkX_apply m c t r k).trans (hx _)⟩) (fun k e => (blkLow_apply m c t k e).trans (sub_real _ _ (hw _)))).trans ((wide_eq m c t _ _ r d).trans (v15_apply _ _ r d).symm)
    · refine congrArg (res5 m c) (funext fun a => Fin.ext ?_)
      match a with
      | ⟨0, _⟩ => show (y 0).val = win0_8.index t 0 * 128 + 1 * (y 0).val; omega
      | ⟨1, _⟩ => show (y 1).val = win0_8.index t 1 * 512 + 1 * (y 1).val; omega
  · obtain ⟨-, -, -, -, -, ⟨h0, h1⟩, -⟩ := index_out only
    refine ⟨only, flush0_8 _, ?_⟩
    show i ∈ ((View.whole main_v8_5).slice (win0_8.rect only)).set
    rw [View.set_slice_whole, Rect.mem_set_unit]
    exact cover i (win0_8.index only) h0 h1

end Finite

end Cert.Kernel4Ideal.Rows
-- ==== Proof.Rows.Claim.lean ====
/-
  The value claim of the sample's projections: for a finite sample and finite weights the idealized kernel and the reference end
  with the same eight arrays.
-/
module

public import proofs.«01_k».proof.Defs
public import proofs.«01_k».proof.Proof.Rows.Result
public import proofs.«01_k».proof.Proof.Gen.Reference4Ideal
public import proofs.«01_k».proof.Proof.Gen.Reference4Ideal.Run
public import proofs.«01_k».proof.Proof.Gen.Pre_finite4
public import proofs.«01_k».proof.Proof.SbValue.Claim
public import Idealize.ShloMosaic.Lib.ReduceAll

@[expose] public section

set_option maxRecDepth 65536

noncomputable section

namespace Cert.Proof

open Idealize.ShloMosaic Idealize.ShloMosaic.TcCoe Idealize.SL.Sem

section Sample

open Cert.Kernel4Ideal Cert.Kernel4Ideal.Gen Cert.Kernel4Ideal.Rows

/-- What the precondition says: every entry of the sample and every weight is real. -/
theorem finite4_iff (m : (ℓ : Loc nD τ sig) → Buf (Elt Ideal) ℓ) (h : Cert.Pre_Kernel4Ideal_finite4 (hPre_finite4 := Cert.Pre_finite4.Gen.facts) m) (c : Dev nD) :
    (∀ i, argX m c i = (((argX m c i).toReal : ℝ) : EReal)) ∧ (∀ i, argW m c i = (((argW m c i).toReal : ℝ) : EReal)) := by
  have h0 := and_one _ _ (congrFun (h c) ix0)
  exact ⟨fun i => real_of_lt _ (Host.reduce_andi_all _ _ _ _ _ h0.1 i), fun i => real_of_lt _ (Host.reduce_andi_all _ _ _ _ _ h0.2 i)⟩

theorem value4 : Cert.algebraic_Kernel4Ideal_Reference4Ideal_pre_finite4 (hKernel4Ideal := Cert.Kernel4Ideal.Gen.facts)
    (hReference4Ideal := Cert.Reference4Ideal.Gen.facts) (hPre_finite4 := Cert.Pre_finite4.Gen.facts) := by
  intro m g m' g' h hm
  refine ⟨fun c => res0 m c, fun c => res1 m c, fun c => res2 m c, fun c => res3 m c, fun c => res4 m c, fun c => res5 m c,
    fun c => res6 m c, fun c => res7 m c, ?_, ?_⟩
  · refine (θ_run Cert.Kernel4Ideal.defs _ _).mono (fun r hr c => ?_) (Cert.Kernel4Ideal.Value.run_blocks (F := Ideal) m g)
    obtain ⟨h3, h4, h5, h6, h7, h8, h9, h10, hk⟩ := hr c
    have hf := finite4_iff m h c
    exact ⟨h3.trans (final3 m c), h4.trans (final4 m c), h5.trans (final5 m c), h6.trans (final6 m c), h7.trans (final7 m c _ _ hf.1 hf.2),
      h8.trans (final8 m c _ _ hf.1 hf.2), h9.trans (final9 m c), h10.trans (final10 m c), hk⟩
  · refine (θ_run Cert.Reference4Ideal.defs _ _).mono (fun r hr c => ?_) (Cert.Reference4Ideal.Value.run (F := Ideal) m' g')
    have hr := hr c
    rw [(hm c).1, (hm c).2] at hr
    rw [(hm c).1, (hm c).2]
    exact hr

end Sample

end Cert.Proof
-- ==== Proof.MixSample.Body.lean ====
/-
  What the mixer leaves in the sample's one block, index by index.
-/
module

public import proofs.«01_k».proof.Proof.Gen.Kernel5Ideal.Frame
public import proofs.«01_k».proof.Proof.Mix.Row
public import Idealize.ShloMosaic.Lib.Pipeline.Value
public import Idealize.ShloMosaic.Lib.Pointwise

@[expose] public section

set_option maxRecDepth 65536

noncomputable section

namespace Cert.Kernel5Ideal.Mix

open Cert.Kernel5Ideal Cert.Kernel5Ideal.Gen Cert.Proof.Mix
open Idealize.ShloMosaic Idealize.ShloMosaic.TcCoe

section Payloads
variable (A GA B GB : Vec Ideal S128x512 .f32) (W : Vec Ideal S1024x1024 .bf16) (X : Vec Ideal S128x1024 .f32) (p q : Vec Ideal S1x1024 .f32)

/-- The block's row `r` before its normalisation. -/
abbrev row (r : Fin 128) : Fin 1024 → EReal :=
  blend (fun d => (X : S128x1024.Idx → EReal) (ix2 r d)) (fun k => (A : S128x512.Idx → EReal) (ix2 r k)) (fun k => (GA : S128x512.Idx → EReal) (ix2 r k))
    (fun k => (B : S128x512.Idx → EReal) (ix2 r k)) (fun k => (GB : S128x512.Idx → EReal) (ix2 r k)) (fun k d => (W : S1024x1024.Idx → EReal) (ix2 k d))

theorem pay2_apply (r : Fin 128) (d : Fin 1024) : (k0_pay2 A GA B GB W X : S128x1024.Idx → EReal) (ix2 r d) = row A GA B GB W X r d := by
  pointwise [k0_pay2]
  first | done | rfl

theorem pay3_apply (r : Fin 128) : (k0_pay3 A GA B GB W X : S128x1.Idx → EReal) (ix2 r 0) = mean (row A GA B GB W X r) := by
  pointwise [k0_pay3]
  simp only [pay2_apply]

theorem pay4_apply (r : Fin 128) (d : Fin 1024) : (k0_pay4 A GA B GB W X : S128x1024.Idx → EReal) (ix2 r d)
    = row A GA B GB W X r d - mean (row A GA B GB W X r) := by
  pointwise [k0_pay4]
  rw [pay2_apply, pay3_apply]

theorem pay5_apply (r : Fin 128) : (k0_pay5 A GA B GB W X : S128x1.Idx → EReal) (ix2 r 0)
    = Ideal.rsqrt (mean (fun k => (row A GA B GB W X r k - mean (row A GA B GB W X r)) * (row A GA B GB W X r k - mean (row A GA B GB W X r)))
      + Ideal.ofBits .f32 925353388#32) := by
  pointwise [k0_pay5]
  simp only [pay2_apply, pay3_apply]

theorem pay1_apply (r : Fin 128) (d : Fin 1024) : (k0_pay1 (k0_pay4 A GA B GB W X) (k0_pay5 A GA B GB W X) p q : S128x1024.Idx → EReal) (ix2 r d)
    = norm (row A GA B GB W X r) (fun d => (p : S1x1024.Idx → EReal) (ix2 0 d)) (fun d => (q : S1x1024.Idx → EReal) (ix2 0 d)) d := by
  pointwise [k0_pay1]
  rw [pay4_apply, pay5_apply]

end Payloads

theorem zero2 : (![0, 0] : Fin 2 → ℕ) = fun _ => 0 := funext fun a => match a with | ⟨0, _⟩ => rfl | ⟨1, _⟩ => rfl

theorem out8_apply (x0 : Vec Ideal S128x1024 .f32) (x1 x2 x3 x4 : Vec Ideal S128x512 .f32) (x5 : Vec Ideal S1024x1024 .bf16) (x6 x7 : Vec Ideal S1x1024 .f32)
    (r : Fin 128) (d : Fin 1024) : (out0_8 x0 x1 x2 x3 x4 x5 x6 x7 : S128x1024.Idx → EReal) (ix2 r d)
    = norm (row x1 x2 x3 x4 x5 x0 r) (fun d => (x6 : S1x1024.Idx → EReal) (ix2 0 d)) (fun d => (x7 : S1x1024.Idx → EReal) (ix2 0 d)) d := by
  unfold out0_8
  have e (x : Vec Ideal S128x512 .f32) : View.ld x r0_0 = x := View.ld_unit_zero (Val := Elt Ideal) zero2 _ x
  have e' (x : Vec Ideal S1x1024 .f32) : View.ld x r0_3 = x := View.ld_unit_zero (Val := Elt Ideal) zero2 _ x
  rw [View.canon_unit_zero zero2, e, e, e, e, e', e', show View.ld x5 r0_1 = x5 from View.ld_unit_zero (Val := Elt Ideal) zero2 _ x5,
    show View.ld x0 r0_2 = x0 from View.ld_unit_zero (Val := Elt Ideal) zero2 _ x0, pay1_apply]

end Cert.Kernel5Ideal.Mix
-- ==== Proof.MixSample.Ref.lean ====
/-
  The reference's mixer output for the sample, index by index.
-/
module

public import proofs.«01_k».proof.Proof.Gen.Reference5Ideal.Read
public import proofs.«01_k».proof.Proof.Mix.Row
public import Idealize.ShloMosaic.Lib.Pointwise

@[expose] public section

set_option maxRecDepth 65536

noncomputable section

namespace Cert.Reference5Ideal.Mix

open Cert.Reference5Ideal Cert.Reference5Ideal.Read Cert.Proof.Mix
open Idealize.ShloMosaic Idealize.ShloMosaic.TcCoe

variable (x : S32x4x1024.Idx → EReal) (oa : S32x4x8x64.Idx → EReal) (ga : S32x4x512.Idx → EReal) (ob : S32x4x8x64.Idx → EReal)
  (gb : S32x4x512.Idx → EReal) (w : S1x1024x1024.Idx → EReal) (p q : S1x1024.Idx → EReal)

/-- The row of position `s` of batch `b` before its normalisation. -/
abbrev row (b : Fin 32) (s : Fin 4) : Fin 1024 → EReal :=
  blend (fun d => x (ix3 b s d)) (fun k => oa (ix4 b s (⟨k.val / 64, by omega⟩ : Fin 8) (⟨k.val % 64, by omega⟩ : Fin 64))) (fun k => ga (ix3 b s k))
    (fun k => ob (ix4 b s (⟨k.val / 64, by omega⟩ : Fin 8) (⟨k.val % 64, by omega⟩ : Fin 64))) (fun k => gb (ix3 b s k)) (fun k d => w (ix3 0 k d))

theorem v13_apply (b : Fin 32) (s : Fin 4) (d : Fin 1024) :
    (val_main_v13 (F := Ideal) x oa ga ob gb w : S32x4x1024.Idx → EReal) (ix3 b s d) = row x oa ga ob gb w b s d := by
  pointwise [val_main_v13, val_main_v12, val_main_v11, val_main_cst, val_main_v10, val_main_v9, val_main_v0, val_main_v8, val_main_v7, val_main_call1_v5, val_main_call1_v4,
    val_main_call1_cst_0, val_main_call1_v3, val_main_call1_v2, val_main_call1_cst, val_main_call1_v1, val_main_call1_v0, val_main_v6, val_main_v5, val_main_v3, val_main_v4,
    val_main_call0_v5, val_main_call0_v4, val_main_call0_cst_0, val_main_call0_v3, val_main_call0_v2, val_main_call0_cst, val_main_call0_v1, val_main_call0_v0]
  first | done | rfl

theorem v17_apply (b : Fin 32) (s : Fin 4) :
    (val_main_v17 (F := Ideal) x oa ga ob gb w : S32x4x1.Idx → EReal) (ix3 b s 0) = mean (row x oa ga ob gb w b s) := by
  pointwise [val_main_v17, val_main_v16, val_main_cst_1, val_main_v15, val_main_v14, val_main_cst_0]
  simp only [v13_apply]

theorem v24_apply (b : Fin 32) (s : Fin 4) : (val_main_v24 (F := Ideal) x oa ga ob gb w : S32x4x1.Idx → EReal) (ix3 b s 0)
    = mean (fun k => (row x oa ga ob gb w b s k - mean (row x oa ga ob gb w b s)) * (row x oa ga ob gb w b s k - mean (row x oa ga ob gb w b s))) := by
  pointwise [val_main_v24, val_main_v23, val_main_cst_3, val_main_v22, val_main_v21, val_main_cst_2, val_main_v20, val_main_v19, val_main_v18]
  simp only [v13_apply, v17_apply]

theorem v38_apply (n : Fin 128) (d : Fin 1024) : (val_main_v38 (F := Ideal) x oa ga ob gb w p q : S128x1024.Idx → EReal) (ix2 n d)
    = norm (row x oa ga ob gb w ⟨n.val / 4, by omega⟩ ⟨n.val % 4, by omega⟩) (fun d => p (ix2 0 d)) (fun d => q (ix2 0 d)) d := by
  pointwise [val_main_v38, val_main_v37, val_main_v36, val_main_v35, val_main_v34, val_main_v33, val_main_v32, val_main_v2, val_main_v1, val_main_v31, val_main_v30, val_main_v29,
    val_main_v28, val_main_v27, val_main_cst_4, val_main_v26, val_main_v25]
  rw [v13_apply, v17_apply, v24_apply]

end Cert.Reference5Ideal.Mix
-- ==== Proof.MixSample.Result.lean ====
/-
  The mixer's output array for the sample, over the extended reals: the reference's, index by index.
-/
module

public import proofs.«01_k».proof.Proof.Gen.Kernel5Ideal.Value
public import proofs.«01_k».proof.Proof.MixSample.Body
public import proofs.«01_k».proof.Proof.MixSample.Ref
public import Idealize.ShloMosaic.Lib.Pointwise
public import Idealize.ShloMosaic.Lib.StableHlo.ReadAt

@[expose] public section

set_option maxRecDepth 65536

noncomputable section

namespace Cert.Kernel5Ideal.Mix

open Cert.Kernel5Ideal Cert.Kernel5Ideal.Gen Cert.Proof.Mix
open Cert.Reference5Ideal.Read (val_main_v38)
open Cert.Reference5Ideal.Mix (v38_apply)
open Idealize.ShloMosaic Idealize.ShloMosaic.TcCoe Idealize.ShloMosaic.StableHlo

variable (m : (ℓ : Loc nD τ sig) → Buf (Elt Ideal) ℓ) (c : Dev nD)

abbrev argX : S32x4x1024.Idx → EReal := m ((c : Thread nD τ).loc main_arg0)
abbrev argA : S32x4x8x64.Idx → EReal := m ((c : Thread nD τ).loc main_arg1)
abbrev argGA : S32x4x512.Idx → EReal := m ((c : Thread nD τ).loc main_arg2)
abbrev argB : S32x4x8x64.Idx → EReal := m ((c : Thread nD τ).loc main_arg3)
abbrev argGB : S32x4x512.Idx → EReal := m ((c : Thread nD τ).loc main_arg4)
abbrev argW : S1x1024x1024.Idx → EReal := m ((c : Thread nD τ).loc main_arg5)
abbrev argP : S1x1024.Idx → EReal := m ((c : Thread nD τ).loc main_arg6)
abbrev argQ : S1x1024.Idx → EReal := m ((c : Thread nD τ).loc main_arg7)

/-- The batch of row `n`, and its position in the batch. -/
abbrev bat (n : Fin 128) : Fin 32 := ⟨n.val / 4, by omega⟩
abbrev pos (n : Fin 128) : Fin 4 := ⟨n.val % 4, by omega⟩

/-! ## The arrays the host prepares -/

theorem laidX (n : Fin 128) (d : Fin 1024) : (V m c main_v0 : S128x1024.Idx → EReal) (ix2 n d) = argX m c (ix3 (bat n) (pos n) d) := by
  after_reads_at

theorem laidA (n : Fin 128) (k : Fin 512) : (V m c main_v1 : S128x512.Idx → EReal) (ix2 n k)
    = argA m c (ix4 (bat n) (pos n) (⟨k.val / 64, by omega⟩ : Fin 8) (⟨k.val % 64, by omega⟩ : Fin 64)) := by
  after_reads_at

theorem laidGA (n : Fin 128) (k : Fin 512) : (V m c main_v2 : S128x512.Idx → EReal) (ix2 n k) = argGA m c (ix3 (bat n) (pos n) k) := by
  after_reads_at

theorem laidB (n : Fin 128) (k : Fin 512) : (V m c main_v3 : S128x512.Idx → EReal) (ix2 n k)
    = argB m c (ix4 (bat n) (pos n) (⟨k.val / 64, by omega⟩ : Fin 8) (⟨k.val % 64, by omega⟩ : Fin 64)) := by
  after_reads_at

theorem laidGB (n : Fin 128) (k : Fin 512) : (V m c main_v4 : S128x512.Idx → EReal) (ix2 n k) = argGB m c (ix3 (bat n) (pos n) k) := by
  after_reads_at

theorem laidW (k d : Fin 1024) : (V m c main_v6 : S1024x1024.Idx → EReal) (ix2 k d) = argW m c (ix3 0 k d) := by
  after_reads_at

theorem laidP (d : Fin 1024) : (V m c main_v8 : S1x1024.Idx → EReal) (ix2 0 d) = argP m c (ix2 0 d) := by
  after_reads_at

theorem laidQ (d : Fin 1024) : (V m c main_v10 : S1x1024.Idx → EReal) (ix2 0 d) = argQ m c (ix2 0 d) := by
  after_reads_at

/-! ## The blocks of a grid point -/

theorem index_in : ∀ t : Fin grid0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) := by decide +kernel

theorem index_whole : ∀ t : Fin grid0.N, (win0_5.index t 0 = 0 ∧ win0_5.index t 1 = 0) ∧ (win0_6.index t 0 = 0 ∧ win0_6.index t 1 = 0)
    ∧ (win0_7.index t 0 = 0 ∧ win0_7.index t 1 = 0) := by decide +kernel

theorem index_out : ∀ t : Fin grid0.N, win0_8.index t 0 = 0 ∧ win0_8.index t 1 = 0 := by decide +kernel

abbrev blkX (t : Fin grid0.N) : S128x1024.Idx → EReal := iblk m c 0 t
abbrev blkA (t : Fin grid0.N) : S128x512.Idx → EReal := iblk m c 1 t
abbrev blkGA (t : Fin grid0.N) : S128x512.Idx → EReal := iblk m c 2 t
abbrev blkB (t : Fin grid0.N) : S128x512.Idx → EReal := iblk m c 3 t
abbrev blkGB (t : Fin grid0.N) : S128x512.Idx → EReal := iblk m c 4 t
abbrev blkW (t : Fin grid0.N) : S1024x1024.Idx → EReal := iblk m c 5 t
abbrev blkP (t : Fin grid0.N) : S1x1024.Idx → EReal := iblk m c 6 t
abbrev blkQ (t : Fin grid0.N) : S1x1024.Idx → EReal := iblk m c 7 t

theorem blkX_apply (t : Fin grid0.N) (r : Fin 128) (k : Fin 1024) : blkX m c t (ix2 r k) = (V m c main_v0 : S128x1024.Idx → EReal) (ix2 r k) := by
  obtain ⟨⟨h0, h1⟩, -⟩ := index_in t
  refine congrArg (V m c main_v0) (funext fun a => Fin.ext ?_)
  match a with
  | ⟨0, _⟩ => show win0_0.index t 0 * 128 + 1 * r.val = r.val; omega
  | ⟨1, _⟩ => show win0_0.index t 1 * 1024 + 1 * k.val = k.val; omega

theorem blkA_apply (t : Fin grid0.N) (r : Fin 128) (k : Fin 512) : blkA m c t (ix2 r k) = (V m c main_v1 : S128x512.Idx → EReal) (ix2 r k) := by
  obtain ⟨-, ⟨h0, h1⟩, -⟩ := index_in t
  refine congrArg (V m c main_v1) (funext fun a => Fin.ext ?_)
  match a with
  | ⟨0, _⟩ => show win0_1.index t 0 * 128 + 1 * r.val = r.val; omega
  | ⟨1, _⟩ => show win0_1.index t 1 * 512 + 1 * k.val = k.val; omega

theorem blkGA_apply (t : Fin grid0.N) (r : Fin 128) (k : Fin 512) : blkGA m c t (ix2 r k) = (V m c main_v2 : S128x512.Idx → EReal) (ix2 r k) := by
  obtain ⟨-, -, ⟨h0, h1⟩, -⟩ := index_in t
  refine congrArg (V m c main_v2) (funext fun a => Fin.ext ?_)
  match a with
  | ⟨0, _⟩ => show win0_2.index t 0 * 128 + 1 * r.val = r.val; omega
  | ⟨1, _⟩ => show win0_2.index t 1 * 512 + 1 * k.val = k.val; omega

theorem blkB_apply (t : Fin grid0.N) (r : Fin 128) (k : Fin 512) : blkB m c t (ix2 r k) = (V m c main_v3 : S128x512.Idx → EReal) (ix2 r k) := by
  obtain ⟨-, -, -, ⟨h0, h1⟩, -⟩ := index_in t
  refine congrArg (V m c main_v3) (funext fun a => Fin.ext ?_)
  match a with
  | ⟨0, _⟩ => show win0_3.index t 0 * 128 + 1 * r.val = r.val; omega
  | ⟨1, _⟩ => show win0_3.index t 1 * 512 + 1 * k.val = k.val; omega

theorem blkGB_apply (t : Fin grid0.N) (r : Fin 128) (k : Fin 512) : blkGB m c t (ix2 r k) = (V m c main_v4 : S128x512.Idx → EReal) (ix2 r k) := by
  obtain ⟨-, -, -, -, ⟨h0, h1⟩⟩ := index_in t
  refine congrArg (V m c main_v4) (funext fun a => Fin.ext ?_)
  match a with
  | ⟨0, _⟩ => show win0_4.index t 0 * 128 + 1 * r.val = r.val; omega
  | ⟨1, _⟩ => show win0_4.index t 1 * 512 + 1 * k.val = k.val; omega

theorem blkW_apply (t : Fin grid0.N) (k : Fin 1024) (d : Fin 1024) : blkW m c t (ix2 k d) = (V m c main_v6 : S1024x1024.Idx → EReal) (ix2 k d) := by
  obtain ⟨⟨h0, h1⟩, -⟩ := index_whole t
  refine congrArg (V m c main_v6) (funext fun a => Fin.ext ?_)
  match a with
  | ⟨0, _⟩ => show win0_5.index t 0 * 1024 + 1 * k.val = k.val; omega
  | ⟨1, _⟩ => show win0_5.index t 1 * 1024 + 1 * d.val = d.val; omega

theorem blkP_apply (t : Fin grid0.N) (k : Fin 1) (d : Fin 1024) : blkP m c t (ix2 k d) = (V m c main_v8 : S1x1024.Idx → EReal) (ix2 k d) := by
  obtain ⟨-, ⟨h0, h1⟩, -⟩ := index_whole t
  refine congrArg (V m c main_v8) (funext fun a => Fin.ext ?_)
  match a with
  | ⟨0, _⟩ => show win0_6.index t 0 * 1 + 1 * k.val = k.val; omega
  | ⟨1, _⟩ => show win0_6.index t 1 * 1024 + 1 * d.val = d.val; omega

theorem blkQ_apply (t : Fin grid0.N) (k : Fin 1) (d : Fin 1024) : blkQ m c t (ix2 k d) = (V m c main_v10 : S1x1024.Idx → EReal) (ix2 k d) := by
  obtain ⟨-, -, ⟨h0, h1⟩⟩ := index_whole t
  refine congrArg (V m c main_v10) (funext fun a => Fin.ext ?_)
  match a with
  | ⟨0, _⟩ => show win0_7.index t 0 * 1 + 1 * k.val = k.val; omega
  | ⟨1, _⟩ => show win0_7.index t 1 * 1024 + 1 * d.val = d.val; omega

/-- The block's row before its normalisation is the reference's. -/
theorem row_eq (t : Fin grid0.N) (r : Fin 128) :
    row (blkA m c t) (blkGA m c t) (blkB m c t) (blkGB m c t) (blkW m c t) (blkX m c t) r
    = Cert.Reference5Ideal.Mix.row (argX m c) (argA m c) (argGA m c) (argB m c) (argGB m c) (argW m c) (bat r) (pos r) := by
  have hX (d : Fin 1024) := (blkX_apply m c t r d).trans (laidX m c _ d)
  have hA (k : Fin 512) := (blkA_apply m c t r k).trans (laidA m c _ k)
  have hGA (k : Fin 512) := (blkGA_apply m c t r k).trans (laidGA m c _ k)
  have hB (k : Fin 512) := (blkB_apply m c t r k).trans (laidB m c _ k)
  have hGB (k : Fin 512) := (blkGB_apply m c t r k).trans (laidGB m c _ k)
  have hW (k d : Fin 1024) := (blkW_apply m c t k d).trans (laidW m c k d)
  funext d
  simp only [row, blend, gate]
  rw [hX]
  simp only [hA, hGA, hB, hGB, hW]

/-- The one grid point. -/
def only : Fin grid0.N := ⟨0, by decide⟩

/-- Two blocks that agree row by row. -/
theorem block_ext (o G : S128x1024.Idx → EReal) (h : ∀ (r : Fin 128) (d : Fin 1024), o (ix2 r d) = G (ix2 r d)) (y : S128x1024.Idx) : o y = G y := by
  have e : y = ix2 (⟨(y 0).val, (y 0).isLt⟩ : Fin 128) (⟨(y 1).val, (y 1).isLt⟩ : Fin 1024) :=
    funext fun a => Fin.ext (match a with | ⟨0, _⟩ => rfl | ⟨1, _⟩ => rfl)
  rw [e]
  exact h _ _

/-- The one block holds every index. -/
theorem cover (i : S128x1024.Idx) (p : Fin 2 → ℕ) (e0 : p 0 = 0) (e1 : p 1 = 0) :
    ∀ a : Fin 2, p a * S128x1024.size a ≤ (i a).val ∧ (i a).val < p a * S128x1024.size a + S128x1024.size a := by
  have h0 : (i 0).val < 128 := (i 0).isLt
  have h1 : (i 1).val < 1024 := (i 1).isLt
  intro a
  match a with
  | ⟨0, _⟩ => show p 0 * 128 ≤ (i 0).val ∧ (i 0).val < p 0 * 128 + 128; omega
  | ⟨1, _⟩ => show p 1 * 1024 ≤ (i 1).val ∧ (i 1).val < p 1 * 1024 + 1024; omega

/-! ## What the result array holds -/

abbrev res : Buf (Elt Ideal) ((c : Thread nD τ).loc main_v11) :=
  val_main_v38 (F := Ideal) (argX m c) (argA m c) (argGA m c) (argB m c) (argGB m c) (argW m c) (argP m c) (argQ m c)

theorem final8 : (dats m 0 c).arrAt 8 cfg0.N = res m c := by
  refine (dats m 0 c).arrAt_eq_of_cover 8 (res m c) (fun t _ => ?_) (fun i => ?_)
  · obtain ⟨h0, h1⟩ := index_out t
    rw [Value.flushed8]
    show (win0_8).cut (grid0.coords t) (out0_8 (F := Ideal) (blkX m c t) (blkA m c t) (blkGA m c t) (blkB m c t) (blkGB m c t) (blkW m c t) (blkP m c t) (blkQ m c t))
      = (win0_8.blk t).view.read (Elt Ideal) (res m c)
    funext y
    refine Eq.trans (b := (out0_8 (F := Ideal) (blkX m c t) (blkA m c t) (blkGA m c t) (blkB m c t) (blkGB m c t) (blkW m c t) (blkP m c t) (blkQ m c t)
      : S128x1024.Idx → EReal) y) ?_ ?_
    · rfl
    refine (block_ext (out0_8 (F := Ideal) (blkX m c t) (blkA m c t) (blkGA m c t) (blkB m c t) (blkGB m c t) (blkW m c t) (blkP m c t) (blkQ m c t))
      (res m c) (fun r d => ?_) y).trans ?_
    · rw [out8_apply]
      unfold res
      rw [v38_apply, row_eq]
      have hP : (fun d => blkP m c t (ix2 0 d)) = fun d => argP m c (ix2 0 d) := funext fun d => (blkP_apply m c t 0 d).trans (laidP m c d)
      have hQ : (fun d => blkQ m c t (ix2 0 d)) = fun d => argQ m c (ix2 0 d) := funext fun d => (blkQ_apply m c t 0 d).trans (laidQ m c d)
      exact congrArg₂ (fun p q => norm _ p q d) hP hQ
    · refine congrArg (res m c) (funext fun a => Fin.ext ?_)
      match a with
      | ⟨0, _⟩ => show (y 0).val = win0_8.index t 0 * 128 + 1 * (y 0).val; omega
      | ⟨1, _⟩ => show (y 1).val = win0_8.index t 1 * 1024 + 1 * (y 1).val; omega
  · obtain ⟨h0, h1⟩ := index_out only
    refine ⟨only, flush0_8 _, ?_⟩
    show i ∈ ((View.whole main_v11).slice (win0_8.rect only)).set
    rw [View.set_slice_whole, Rect.mem_set_unit]
    exact cover i (win0_8.index only) h0 h1

end Cert.Kernel5Ideal.Mix
-- ==== Proof.MixSample.Claim.lean ====
/-
  The value claim of the mixer's output for the sample: the idealized kernel and the reference end with the same array.
-/
module

public import proofs.«01_k».proof.Defs
public import proofs.«01_k».proof.Proof.MixSample.Result
public import proofs.«01_k».proof.Proof.Gen.Kernel5Ideal
public import proofs.«01_k».proof.Proof.Gen.Reference5Ideal
public import proofs.«01_k».proof.Proof.Gen.Reference5Ideal.Run

@[expose] public section

set_option maxRecDepth 65536

noncomputable section

namespace Cert.Proof

open Idealize.ShloMosaic Idealize.ShloMosaic.TcCoe Idealize.SL.Sem

theorem value5 : Cert.algebraic_Kernel5Ideal_Reference5Ideal (hKernel5Ideal := Cert.Kernel5Ideal.Gen.facts)
    (hReference5Ideal := Cert.Reference5Ideal.Gen.facts) := by
  intro m g m' g' _ hm
  refine ⟨fun c => Cert.Kernel5Ideal.Mix.res m c, ?_, ?_⟩
  · refine (θ_run Cert.Kernel5Ideal.defs _ _).mono (fun r hr c => ?_) (Cert.Kernel5Ideal.Value.run_blocks (F := Ideal) m g)
    exact ⟨(hr c).1.trans (Cert.Kernel5Ideal.Mix.final8 m c), (hr c).2⟩
  · refine (θ_run Cert.Reference5Ideal.defs _ _).mono (fun r hr c => ?_) (Cert.Reference5Ideal.Value.run (F := Ideal) m' g')
    have hr := hr c
    obtain ⟨e0, e1, e2, e3, e4, e5, e6, e7⟩ := hm c
    rw [Cert.Reference5Ideal.Read.val_main_v38_eq, e0, e1, e2, e3, e4, e5, e6, e7] at hr
    rw [e0, e1, e2, e3, e4, e5, e6, e7]
    exact hr

end Cert.Proof
-- ==== Proof.lean ====
/-
  The certificate: the frames of the five programs and of their references, the idealizations, and the five value claims.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Kernel2
public import proofs.«01_k».proof.Proof.Gen.Kernel2Ideal
public import proofs.«01_k».proof.Proof.Gen.Kernel2Ideal.Value
public import proofs.«01_k».proof.Proof.Gen.Kernel2Ideal.Frame
public import proofs.«01_k».proof.Proof.Gen.Kernel2.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel3
public import proofs.«01_k».proof.Proof.Gen.Kernel3Ideal
public import proofs.«01_k».proof.Proof.Gen.Kernel3Ideal.Value
public import proofs.«01_k».proof.Proof.Gen.Kernel3Ideal.Frame
public import proofs.«01_k».proof.Proof.Gen.Kernel3.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Value
public import proofs.«01_k».proof.Proof.Gen.Kernel4Ideal.Frame
public import proofs.«01_k».proof.Proof.Gen.Kernel4.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite4
public import proofs.«01_k».proof.Proof.Gen.Kernel5
public import proofs.«01_k».proof.Proof.Gen.Kernel5Ideal
public import proofs.«01_k».proof.Proof.Gen.Kernel5Ideal.Value
public import proofs.«01_k».proof.Proof.Gen.Kernel5Ideal.Frame
public import proofs.«01_k».proof.Proof.Gen.Kernel5.Frame
public import proofs.«01_k».proof.Proof.Gen.Reference5Ideal
public import proofs.«01_k».proof.Proof.Gen.Reference5Ideal.Run
public import proofs.«01_k».proof.Proof.Gen.Reference5Ideal.Read
public import proofs.«01_k».proof.Proof.SbBits.Run
public import proofs.«01_k».proof.Proof.SbIdeal.Run
public import proofs.«01_k».proof.Proof.SbValue.Claim
public import proofs.«01_k».proof.Proof.Proj.Claim
public import proofs.«01_k».proof.Proof.Mix.Claim
public import proofs.«01_k».proof.Proof.Rows.Claim
public import proofs.«01_k».proof.Proof.MixSample.Claim
public import Idealize.ShloMosaic.Lib.Quiescent
public import Idealize.ShloMosaic.Adequacy
public import Idealize.ShloMosaic.Init

@[expose] public section

noncomputable section

namespace Cert.Proof

open Idealize.ShloMosaic Idealize.SL.Sem

/-- Each named constant has the value the table gives it. -/
theorem constants : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl⟩

/-- The reference runs, changes no argument and ends with every counter at zero. -/
theorem reference_frame : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Value.run (F := Ideal) m g)

theorem reference2_frame : Cert.quiescent_Reference2Ideal (hReference2Ideal := Cert.Reference2Ideal.Gen.facts) := by
  intro m g _
  exact (θ_run Cert.Reference2Ideal.defs _ _).mono (fun r h => ⟨fun c => (h c).2.2.2.2.2.2.2.2.2.2.2, sem_eq_zero_of_no_sems (by decide) r.2⟩)
    (Cert.Reference2Ideal.Value.run (F := Ideal) m g)

theorem reference3_frame : Cert.quiescent_Reference3Ideal (hReference3Ideal := Cert.Reference3Ideal.Gen.facts) := by
  intro m g _
  exact (θ_run Cert.Reference3Ideal.defs _ _).mono (fun r h => ⟨fun c => (h c).2, sem_eq_zero_of_no_sems (by decide) r.2⟩)
    (Cert.Reference3Ideal.Value.run (F := Ideal) m g)

theorem reference4_frame : Cert.quiescent_Reference4Ideal (hReference4Ideal := Cert.Reference4Ideal.Gen.facts) := by
  intro m g _
  exact (θ_run Cert.Reference4Ideal.defs _ _).mono (fun r h => ⟨fun c => (h c).2.2.2.2.2.2.2.2, sem_eq_zero_of_no_sems (by decide) r.2⟩)
    (Cert.Reference4Ideal.Value.run (F := Ideal) m g)

theorem reference5_frame : Cert.quiescent_Reference5Ideal (hReference5Ideal := Cert.Reference5Ideal.Gen.facts) := by
  intro m g _
  exact (θ_run Cert.Reference5Ideal.defs _ _).mono (fun r h => ⟨fun c => (h c).2, sem_eq_zero_of_no_sems (by decide) r.2⟩)
    (Cert.Reference5Ideal.Value.run (F := Ideal) m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  finite_facts, Cert.Pre_finite2.Gen.facts, Cert.Pre_finite4.Gen.facts,
  fun m g _ => Cert.Kernel.Sb.frame m g, fun m g _ => Cert.KernelIdeal.Sb.frame m g, fun m g _ => Cert.KernelIdeal.Sb.frame m g,
  reference_frame, fun m g _ => reference_frame m g trivial,
  fun m g _ => Cert.Kernel2.Gen.frame m g, fun m g _ => Cert.Kernel2Ideal.Gen.frame m g, fun m g _ => Cert.Kernel2Ideal.Gen.frame m g,
  reference2_frame, fun m g _ => reference2_frame m g trivial,
  fun m g _ => Cert.Kernel3.Gen.frame m g, fun m g _ => Cert.Kernel3Ideal.Gen.frame m g, reference3_frame,
  fun m g _ => Cert.Kernel4.Gen.frame m g, fun m g _ => Cert.Kernel4Ideal.Gen.frame m g, fun m g _ => Cert.Kernel4Ideal.Gen.frame m g,
  reference4_frame, fun m g _ => reference4_frame m g trivial,
  fun m g _ => Cert.Kernel5.Gen.frame m g, fun m g _ => Cert.Kernel5Ideal.Gen.frame m g, reference5_frame,
  constants, value, trivial, value2, trivial, value3, trivial, value4, trivial, value5⟩

end Cert.Proof

end
